-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v103)) (v1 : (c : Dev Cert.KernelIdeal.nD) → Buf (Elt Ideal) ((c.tc : Thread Cert.KernelIdeal.nD Cert.KernelIdeal.τ).loc Cert.KernelIdeal.main_v104)) (v2 : (c : Dev Cert.KernelIdeal.nD) → Buf (Elt Ideal) ((c.tc : Thread Cert.KernelIdeal.nD Cert.KernelIdeal.τ).loc Cert.KernelIdeal.main_v93_2)) (v3 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_v104) = v1 c
          ∧ r.2.mem ((c.tc : Thread Cert.KernelIdeal.nD Cert.KernelIdeal.τ).loc Cert.KernelIdeal.main_v93_2) = v2 c
          ∧ r.2.mem ((c.tc : Thread Cert.KernelIdeal.nD Cert.KernelIdeal.τ).loc Cert.KernelIdeal.main_v100) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_v68) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v17_0)) (v1 : (c : Dev Cert.Kernel2Ideal.nD) → Buf (Elt Ideal) ((c.tc : Thread Cert.Kernel2Ideal.nD Cert.Kernel2Ideal.τ).loc Cert.Kernel2Ideal.main_v17_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17_0) = v0 c
          ∧ r.2.mem ((c.tc : Thread Cert.Kernel2Ideal.nD Cert.Kernel2Ideal.τ).loc Cert.Kernel2Ideal.main_v17_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_v19) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v10)) (v1 : (c : Dev Cert.Kernel4Ideal.nD) → Buf (Elt Ideal) ((c.tc : Thread Cert.Kernel4Ideal.nD Cert.Kernel4Ideal.τ).loc Cert.Kernel4Ideal.main_v6_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_v13) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8x4096x64 : Shape := ⟨3, ![8, 4096, 64]⟩
abbrev S8x4096 : Shape := ⟨2, ![8, 4096]⟩
abbrev S_ : Shape := ⟨0, ![]⟩

class Facts : Prop where
  bcast_S_S8x4096x64 : S_.BroadcastsInDim S8x4096x64 (![] : Fin 0 → Fin S8x4096x64.rank)
  reducesTo_S8x4096x64_S_d0_1_2 : S8x4096x64.ReducesTo [0, 1, 2] S_
  h_S_ : 0 < S_.numel
  bcast_S_S8x4096 : S_.BroadcastsInDim S8x4096 (![] : Fin 0 → Fin S8x4096.rank)
  reducesTo_S8x4096_S_d0_1 : S8x4096.ReducesTo [0, 1] S_

variable [Facts]

def fn_part1 {F : FTy → Type} [FloatOps F] (main_arg4 : FVec F S8x4096x64 .f32) (main_v13 : IVec S_ 1) (main_v16 : IVec S8x4096 1) : IVec S_ 1 :=
  let main_c_5 : IVec S_ 1 := constantI S_ 1 1#1
  let main_v17 : IVec S_ 1 := (fun x v => Host.reduce IntOp.andi x v reducesTo_S8x4096_S_d0_1 h_S_) main_v16 main_c_5
  let main_v18 : IVec S_ 1 := andi main_v13 main_v17
  let main_v19 : FVec F S8x4096x64 .f32 := Host.absf main_arg4
  let main_cst_6 : FVec F S_ .f32 := constant S_ .f32 0x7F800000#32
  let main_v20 : FVec F S8x4096x64 .f32 := broadcastInDim S8x4096x64 ![] bcast_S_S8x4096x64 main_cst_6
  let main_v21 : IVec S8x4096x64 1 := cmpf .olt main_v19 main_v20
  let main_c_7 : IVec S_ 1 := constantI S_ 1 1#1
  let main_v22 : IVec S_ 1 := (fun x v => Host.reduce IntOp.andi x v reducesTo_S8x4096x64_S_d0_1_2 h_S_) main_v21 main_c_7
  let main_v23 : IVec S_ 1 := andi main_v18 main_v22
  main_v23

def fn {F : FTy → Type} [FloatOps F] (main_arg0 : FVec F S8x4096x64 .f32) (main_arg1 : FVec F S8x4096x64 .f32) (main_arg2 : FVec F S8x4096x64 .f32) (main_arg3 : FVec F S8x4096 .f32) (main_arg4 : FVec F S8x4096x64 .f32) : IVec S_ 1 :=
  let main_v0 : FVec F S8x4096x64 .f32 := Host.absf main_arg0
  let main_cst : FVec F S_ .f32 := constant S_ .f32 0x7F800000#32
  let main_v1 : FVec F S8x4096x64 .f32 := broadcastInDim S8x4096x64 ![] bcast_S_S8x4096x64 main_cst
  let main_v2 : IVec S8x4096x64 1 := cmpf .olt main_v0 main_v1
  let main_c : IVec S_ 1 := constantI S_ 1 1#1
  let main_v3 : IVec S_ 1 := (fun x v => Host.reduce IntOp.andi x v reducesTo_S8x4096x64_S_d0_1_2 h_S_) main_v2 main_c
  let main_v4 : FVec F S8x4096x64 .f32 := Host.absf main_arg1
  let main_cst_0 : FVec F S_ .f32 := constant S_ .f32 0x7F800000#32
  let main_v5 : FVec F S8x4096x64 .f32 := broadcastInDim S8x4096x64 ![] bcast_S_S8x4096x64 main_cst_0
  let main_v6 : IVec S8x4096x64 1 := cmpf .olt main_v4 main_v5
  let main_c_1 : IVec S_ 1 := constantI S_ 1 1#1
  let main_v7 : IVec S_ 1 := (fun x v => Host.reduce IntOp.andi x v reducesTo_S8x4096x64_S_d0_1_2 h_S_) main_v6 main_c_1
  let main_v8 : IVec S_ 1 := andi main_v3 main_v7
  let main_v9 : FVec F S8x4096x64 .f32 := Host.absf main_arg2
  let main_cst_2 : FVec F S_ .f32 := constant S_ .f32 0x7F800000#32
  let main_v10 : FVec F S8x4096x64 .f32 := broadcastInDim S8x4096x64 ![] bcast_S_S8x4096x64 main_cst_2
  let main_v11 : IVec S8x4096x64 1 := cmpf .olt main_v9 main_v10
  let main_c_3 : IVec S_ 1 := constantI S_ 1 1#1
  let main_v12 : IVec S_ 1 := (fun x v => Host.reduce IntOp.andi x v reducesTo_S8x4096x64_S_d0_1_2 h_S_) main_v11 main_c_3
  let main_v13 : IVec S_ 1 := andi main_v8 main_v12
  let main_v14 : FVec F S8x4096 .f32 := Host.absf main_arg3
  let main_cst_4 : FVec F S_ .f32 := constant S_ .f32 0x7F800000#32
  let main_v15 : FVec F S8x4096 .f32 := broadcastInDim S8x4096 ![] bcast_S_S8x4096 main_cst_4
  let main_v16 : IVec S8x4096 1 := cmpf .olt main_v14 main_v15
  fn_part1 (F := F) main_arg4 main_v13 main_v16
-- ==== Kernel.lean ====
abbrev S8x4096x64 : Shape := ⟨3, ![8, 4096, 64]⟩
abbrev S8x4096 : Shape := ⟨2, ![8, 4096]⟩
abbrev S8x4096x128 : Shape := ⟨3, ![8, 4096, 128]⟩
abbrev S_ : Shape := ⟨0, ![]⟩
abbrev S8x16x256x128 : Shape := ⟨4, ![8, 16, 256, 128]⟩
abbrev S8x16x128x256 : Shape := ⟨4, ![8, 16, 128, 256]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S8x16x256 : Shape := ⟨3, ![8, 16, 256]⟩
abbrev S8x16x8x256 : Shape := ⟨4, ![8, 16, 8, 256]⟩
abbrev S4x4096x128 : Shape := ⟨3, ![4, 4096, 128]⟩
abbrev S4x256x128 : Shape := ⟨3, ![4, 256, 128]⟩
abbrev S4x1x128x256 : Shape := ⟨4, ![4, 1, 128, 256]⟩
abbrev S4x256x64 : Shape := ⟨3, ![4, 256, 64]⟩
abbrev S4x4096x64 : Shape := ⟨3, ![4, 4096, 64]⟩
abbrev S4x16x8x256 : Shape := ⟨4, ![4, 16, 8, 256]⟩
abbrev S4x16x128x256 : Shape := ⟨4, ![4, 16, 128, 256]⟩
abbrev S1x256x128 : Shape := ⟨3, ![1, 256, 128]⟩
abbrev S256x128 : Shape := ⟨2, ![256, 128]⟩
abbrev S1x1x128x256 : Shape := ⟨4, ![1, 1, 128, 256]⟩
abbrev S128x256 : Shape := ⟨2, ![128, 256]⟩
abbrev S1x256x64 : Shape := ⟨3, ![1, 256, 64]⟩
abbrev S256x64 : Shape := ⟨2, ![256, 64]⟩
abbrev S256x256 : Shape := ⟨2, ![256, 256]⟩
abbrev S1x1x1x256 : Shape := ⟨4, ![1, 1, 1, 256]⟩
abbrev S1x256 : Shape := ⟨2, ![1, 256]⟩

abbrev nBuf : Space → Nat
  | .hbm => 132
  | .vmem => 20
  | .smem => 0
  | _ => 0

abbrev hbmTy0_0 (i : Nat) : BufTy := match i % 128 with
  | 0 => ⟨S8x4096x64, .f32⟩
  | 1 => ⟨S8x4096x64, .f32⟩
  | 2 => ⟨S8x4096x64, .f32⟩
  | 3 => ⟨S8x4096, .f32⟩
  | 4 => ⟨S8x4096x64, .f32⟩
  | 5 => ⟨S8x4096x128, .i32⟩
  | 6 => ⟨S_, .f32⟩
  | 7 => ⟨S8x4096x64, .f32⟩
  | 8 => ⟨S8x4096, .bf16⟩
  | 9 => ⟨S8x4096, .f32⟩
  | 10 => ⟨S8x4096, .f32⟩
  | 11 => ⟨S8x4096, .bf16⟩
  | 12 => ⟨S8x4096, .f32⟩
  | 13 => ⟨S8x4096, .f32⟩
  | 14 => ⟨S8x4096, .bf16⟩
  | 15 => ⟨S8x4096, .f32⟩
  | 16 => ⟨S8x4096x128, .f32⟩
  | 17 => ⟨S8x4096, .f32⟩
  | 18 => ⟨S8x4096x128, .f32⟩
  | 19 => ⟨S8x4096, .f32⟩
  | 20 => ⟨S8x4096x128, .f32⟩
  | 21 => ⟨S_, .f32⟩
  | 22 => ⟨S8x4096x128, .f32⟩
  | 23 => ⟨S_, .f32⟩
  | 24 => ⟨S8x4096x128, .f32⟩
  | 25 => ⟨S_, .i32⟩
  | 26 => ⟨S8x4096x128, .i32⟩
  | 27 => ⟨S8x4096x128, .i1⟩
  | 28 => ⟨S_, .f32⟩
  | 29 => ⟨S8x4096x64, .f32⟩
  | 30 => ⟨S8x4096x64, .f32⟩
  | 31 => ⟨S8x4096x128, .f32⟩
  | 32 => ⟨S_, .i32⟩
  | 33 => ⟨S8x4096x128, .i32⟩
  | 34 => ⟨S8x4096x128, .i1⟩
  | 35 => ⟨S_, .i32⟩
  | 36 => ⟨S8x4096x128, .i32⟩
  | 37 => ⟨S8x4096x128, .i1⟩
  | 38 => ⟨S_, .i32⟩
  | 39 => ⟨S8x4096x128, .i32⟩
  | 40 => ⟨S8x4096x128, .i1⟩
  | 41 => ⟨S_, .i32⟩
  | 42 => ⟨S8x4096x128, .i32⟩
  | 43 => ⟨S8x4096x128, .i1⟩
  | 44 => ⟨S8x4096x128, .f32⟩
  | 45 => ⟨S8x4096x128, .f32⟩
  | 46 => ⟨S8x4096x128, .f32⟩
  | 47 => ⟨S8x4096x128, .f32⟩
  | 48 => ⟨S8x4096x128, .f32⟩
  | 49 => ⟨S_, .i32⟩
  | 50 => ⟨S8x4096x128, .i32⟩
  | 51 => ⟨S8x4096x128, .i1⟩
  | 52 => ⟨S8x4096x128, .f32⟩
  | 53 => ⟨S_, .i32⟩
  | 54 => ⟨S8x4096x128, .i32⟩
  | 55 => ⟨S8x4096x128, .i1⟩
  | 56 => ⟨S_, .i32⟩
  | 57 => ⟨S8x4096x128, .i32⟩
  | 58 => ⟨S8x4096x128, .i1⟩
  | 59 => ⟨S8x4096x128, .f32⟩
  | 60 => ⟨S_, .i32⟩
  | 61 => ⟨S8x4096x128, .i32⟩
  | 62 => ⟨S8x4096x128, .i1⟩
  | 63 => ⟨S8x4096x128, .f32⟩
  | 64 => ⟨S_, .i32⟩
  | 65 => ⟨S8x4096x128, .i32⟩
  | 66 => ⟨S8x4096x128, .i1⟩
  | 67 => ⟨S8x4096x128, .f32⟩
  | 68 => ⟨S8x4096x128, .f32⟩
  | 69 => ⟨S8x4096x128, .f32⟩
  | 70 => ⟨S8x4096x128, .f32⟩
  | 71 => ⟨S8x4096x128, .f32⟩
  | 72 => ⟨S8x4096x128, .f32⟩
  | 73 => ⟨S8x4096x128, .bf16⟩
  | 74 => ⟨S8x4096x128, .bf16⟩
  | 75 => ⟨S8x16x256x128, .bf16⟩
  | 76 => ⟨S8x16x128x256, .bf16⟩
  | 77 => ⟨S8x4096x4096, .f32⟩
  | 78 => ⟨S_, .f32⟩
  | 79 => ⟨S8x4096x4096, .f32⟩
  | 80 => ⟨S8x4096x4096, .f32⟩
  | 81 => ⟨S8x4096x1, .f32⟩
  | 82 => ⟨S8x4096x4096, .f32⟩
  | 83 => ⟨S8x4096x4096, .f32⟩
  | 84 => ⟨S8x1x4096, .f32⟩
  | 85 => ⟨S8x4096x4096, .f32⟩
  | 86 => ⟨S8x4096x4096, .f32⟩
  | 87 => ⟨S8x4096x4096, .i32⟩
  | 88 => ⟨S8x4096x4096, .i32⟩
  | 89 => ⟨S8x4096x4096, .i1⟩
  | 90 => ⟨S_, .f32⟩
  | 91 => ⟨S8x4096x4096, .f32⟩
  | 92 => ⟨S8x4096x4096, .f32⟩
  | 93 => ⟨S_, .f32⟩
  | 94 => ⟨S8x4096, .f32⟩
  | 95 => ⟨S8x4096x1, .f32⟩
  | 96 => ⟨S8x4096x4096, .f32⟩
  | 97 => ⟨S8x4096x4096, .f32⟩
  | 98 => ⟨S8x4096x4096, .f32⟩
  | 99 => ⟨S_, .f32⟩
  | 100 => ⟨S8x4096, .f32⟩
  | 101 => ⟨S8x4096x1, .f32⟩
  | 102 => ⟨S8x4096x4096, .f32⟩
  | 103 => ⟨S8x4096x4096, .f32⟩
  | 104 => ⟨S8x4096x64, .f32⟩
  | 105 => ⟨S8x4096x1, .f32⟩
  | 106 => ⟨S8x4096x1, .f32⟩
  | 107 => ⟨S8x4096, .f32⟩
  | 108 => ⟨S8x4096x64, .f32⟩
  | 109 => ⟨S_, .f32⟩
  | 110 => ⟨S8x4096, .f32⟩
  | 111 => ⟨S8x4096x64, .bf16⟩
  | 112 => ⟨S8x4096x64, .bf16⟩
  | 113 => ⟨S8x16x256, .f32⟩
  | 114 => ⟨S8x16x8x256, .f32⟩
  | 115 => ⟨S8x16x256, .f32⟩
  | 116 => ⟨S8x16x8x256, .f32⟩
  | 117 => ⟨S8x16x128x256, .f32⟩
  | 118 => ⟨S8x4096x128, .f32⟩
  | 119 => ⟨S8x4096x64, .f32⟩
  | 120 => ⟨S8x16x256x128, .f32⟩
  | 121 => ⟨S8x4096x128, .f32⟩
  | 122 => ⟨S8x4096x1, .f32⟩
  | 123 => ⟨S8x4096, .f32⟩
  | 124 => ⟨S8x4096x1, .f32⟩
  | 125 => ⟨S8x4096, .f32⟩
  | 126 => ⟨S8x4096, .f32⟩
  | 127 => ⟨S8x4096x64, .f32⟩
  | _ => ⟨S8x4096x64, .f32⟩

abbrev hbmTy0_1 (i : Nat) : BufTy := match i % 128 with
  | 0 => ⟨S_, .f32⟩
  | 1 => ⟨S8x4096x64, .f32⟩
  | 2 => ⟨S8x4096x64, .f32⟩
  | 3 => ⟨S8x4096x64, .f32⟩
  | _ => ⟨S8x4096x64, .f32⟩

abbrev hbmTy (i : Nat) : BufTy := match i / 128 with
  | 0 => hbmTy0_0 i
  | 1 => hbmTy0_1 i
  | _ => ⟨S8x4096x64, .f32⟩

abbrev bufTy : (tb : Table) → Fin (tcTables nBuf tb) → BufTy
  | .hbm, ⟨i, _⟩ => hbmTy i
  | .local _ .vmem, ⟨0, _⟩ => ⟨S4x4096x128, .bf16⟩
  | .local _ .vmem, ⟨1, _⟩ => ⟨S4x4096x128, .bf16⟩
  | .local _ .vmem, ⟨2, _⟩ => ⟨S4x256x128, .bf16⟩
  | .local _ .vmem, ⟨3, _⟩ => ⟨S4x256x128, .bf16⟩
  | .local _ .vmem, ⟨4, _⟩ => ⟨S4x1x128x256, .bf16⟩
  | .local _ .vmem, ⟨5, _⟩ => ⟨S4x1x128x256, .bf16⟩
  | .local _ .vmem, ⟨6, _⟩ => ⟨S4x256x64, .bf16⟩
  | .local _ .vmem, ⟨7, _⟩ => ⟨S4x256x64, .bf16⟩
  | .local _ .vmem, ⟨8, _⟩ => ⟨S4x4096x64, .bf16⟩
  | .local _ .vmem, ⟨9, _⟩ => ⟨S4x4096x64, .bf16⟩
  | .local _ .vmem, ⟨10, _⟩ => ⟨S4x16x8x256, .f32⟩
  | .local _ .vmem, ⟨11, _⟩ => ⟨S4x16x8x256, .f32⟩
  | .local _ .vmem, ⟨12, _⟩ => ⟨S4x16x8x256, .f32⟩
  | .local _ .vmem, ⟨13, _⟩ => ⟨S4x16x8x256, .f32⟩
  | .local _ .vmem, ⟨14, _⟩ => ⟨S4x16x128x256, .f32⟩
  | .local _ .vmem, ⟨15, _⟩ => ⟨S4x16x128x256, .f32⟩
  | .local _ .vmem, ⟨16, _⟩ => ⟨S4x256x128, .f32⟩
  | .local _ .vmem, ⟨17, _⟩ => ⟨S4x256x128, .f32⟩
  | .local _ .vmem, ⟨18, _⟩ => ⟨S4x256x64, .f32⟩
  | .local _ .vmem, ⟨19, _⟩ => ⟨S4x256x64, .f32⟩
  | _, _ => ⟨S8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_c_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_8 : Ref sig .tc := ⟨.hbm, 53, rfl⟩
abbrev main_v38 : Ref sig .tc := ⟨.hbm, 54, rfl⟩
abbrev main_v39 : Ref sig .tc := ⟨.hbm, 55, rfl⟩
abbrev main_c_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_11 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_12 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_13 : Ref sig .tc := ⟨.hbm, 90, rfl⟩
abbrev main_v70 : Ref sig .tc := ⟨.hbm, 91, rfl⟩
abbrev main_v71 : Ref sig .tc := ⟨.hbm, 92, rfl⟩
abbrev main_cst_14 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_15 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_16 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93_0 : Ref sig .tc := ⟨.hbm, 117, rfl⟩
abbrev main_v93_1 : Ref sig .tc := ⟨.hbm, 118, rfl⟩
abbrev main_v93_2 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_cst_17 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c256_i32 : BitVec 32 := 256#32
  let v35 : BitVec 32 := Scalar.muli arg1 c256_i32
  v35
def k0_off1 (i : grid0.Coords) : Fin 3 → Nat :=
  let c0_44 : Index := 0#32
  let arg1 : BitVec 32 := BitVec.ofNat 32 (i 1).val
  let c256_i32 : BitVec 32 := 256#32
  let v35 : BitVec 32 := Scalar.muli arg1 c256_i32
  let v36 : BitVec 32 := v35
  let v37 : Index := Scalar.indexCast v36
  let c0_45 : Index := 0#32
  ![0, v37.toNat, 0]
def k0_off2 (i : grid0.Coords) : Fin 3 → Nat :=
  let c1_46 : Index := 1#32
  let arg1 : BitVec 32 := BitVec.ofNat 32 (i 1).val
  let c256_i32 : BitVec 32 := 256#32
  let v35 : BitVec 32 := Scalar.muli arg1 c256_i32
  let v36 : BitVec 32 := v35
  let v40 : Index := Scalar.indexCast v36
  let c0_47 : Index := 0#32
  ![1, v40.toNat, 0]
def k0_off3 (i : grid0.Coords) : Fin 3 → Nat :=
  let c2_48 : Index := 2#32
  let arg1 : BitVec 32 := BitVec.ofNat 32 (i 1).val
  let c256_i32 : BitVec 32 := 256#32
  let v35 : BitVec 32 := Scalar.muli arg1 c256_i32
  let v36 : BitVec 32 := v35
  let v43 : Index := Scalar.indexCast v36
  let c0_49 : Index := 0#32
  ![2, v43.toNat, 0]
def k0_off4 (i : grid0.Coords) : Fin 3 → Nat :=
  let c3_50 : Index := 3#32
  let arg1 : BitVec 32 := BitVec.ofNat 32 (i 1).val
  let c256_i32 : BitVec 32 := 256#32
  let v35 : BitVec 32 := Scalar.muli arg1 c256_i32
  let v36 : BitVec 32 := v35
  let v46 : Index := Scalar.indexCast v36
  let c0_51 : Index := 0#32
  ![3, v46.toNat, 0]
def k0_off5 (i : grid0.Coords) : Fin 3 → Nat :=
  let c0_52 : Index := 0#32
  let arg1 : BitVec 32 := BitVec.ofNat 32 (i 1).val
  let c256_i32 : BitVec 32 := 256#32
  let v35 : BitVec 32 := Scalar.muli arg1 c256_i32
  let v36 : BitVec 32 := v35
  let v49 : Index := Scalar.indexCast v36
  let c0_53 : Index := 0#32
  ![0, v49.toNat, 0]
def k0_off6 (i : grid0.Coords) : Fin 3 → Nat :=
  let c1_54 : Index := 1#32
  let arg1 : BitVec 32 := BitVec.ofNat 32 (i 1).val
  let c256_i32 : BitVec 32 := 256#32
  let v35 : BitVec 32 := Scalar.muli arg1 c256_i32
  let v36 : BitVec 32 := v35
  let v52 : Index := Scalar.indexCast v36
  let c0_55 : Index := 0#32
  ![1, v52.toNat, 0]
def k0_off7 (i : grid0.Coords) : Fin 3 → Nat :=
  let c2_56 : Index := 2#32
  let arg1 : BitVec 32 := BitVec.ofNat 32 (i 1).val
  let c256_i32 : BitVec 32 := 256#32
  let v35 : BitVec 32 := Scalar.muli arg1 c256_i32
  let v36 : BitVec 32 := v35
  let v55 : Index := Scalar.indexCast v36
  let c0_57 : Index := 0#32
  ![2, v55.toNat, 0]
def k0_off8 (i : grid0.Coords) : Fin 3 → Nat :=
  let c3_58 : Index := 3#32
  let arg1 : BitVec 32 := BitVec.ofNat 32 (i 1).val
  let c256_i32 : BitVec 32 := 256#32
  let v35 : BitVec 32 := Scalar.muli arg1 c256_i32
  let v36 : BitVec 32 := v35
  let v58 : Index := Scalar.indexCast v36
  let c0_59 : Index := 0#32
  ![3, v58.toNat, 0]
def k0_off9 (i : grid0.Coords) : Fin 4 → Nat :=
  let c0_69 : Index := 0#32
  let arg1 : BitVec 32 := BitVec.ofNat 32 (i 1).val
  let v74 : Index := Scalar.indexCast arg1
  let c0_70 : Index := 0#32
  let c0_71 : Index := 0#32
  ![0, v74.toNat, 0, 0]
def k0_off10 (i : grid0.Coords) : Fin 4 → Nat :=
  let c1_76 : Index := 1#32
  let arg1 : BitVec 32 := BitVec.ofNat 32 (i 1).val
  let v93 : Index := Scalar.indexCast arg1
  let c0_77 : Index := 0#32
  let c0_78 : Index := 0#32
  ![1, v93.toNat, 0, 0]
def k0_off11 (i : grid0.Coords) : Fin 4 → Nat :=
  let c2_83 : Index := 2#32
  let arg1 : BitVec 32 := BitVec.ofNat 32 (i 1).val
  let v112 : Index := Scalar.indexCast arg1
  let c0_84 : Index := 0#32
  let c0_85 : Index := 0#32
  ![2, v112.toNat, 0, 0]
def k0_off12 (i : grid0.Coords) : Fin 4 → Nat :=
  let c3_90 : Index := 3#32
  let arg1 : BitVec 32 := BitVec.ofNat 32 (i 1).val
  let v131 : Index := Scalar.indexCast arg1
  let c0_91 : Index := 0#32
  let c0_92 : Index := 0#32
  ![3, v131.toNat, 0, 0]
def k0_off13 (i : grid0.Coords) : Fin 4 → Nat :=
  let c0_96 : Index := 0#32
  let arg1 : BitVec 32 := BitVec.ofNat 32 (i 1).val
  let v145 : Index := Scalar.indexCast arg1
  let c0_97 : Index := 0#32
  let c0_98 : Index := 0#32
  ![0, v145.toNat, 0, 0]
def k0_off14 (i : grid0.Coords) : Fin 4 → Nat :=
  let c1_105 : Index := 1#32
  let arg1 : BitVec 32 := BitVec.ofNat 32 (i 1).val
  let v158 : Index := Scalar.indexCast arg1
  let c0_106 : Index := 0#32
  let c0_107 : Index := 0#32
  ![1, v158.toNat, 0, 0]
def k0_off15 (i : grid0.Coords) : Fin 4 → Nat :=
  let c2_114 : Index := 2#32
  let arg1 : BitVec 32 := BitVec.ofNat 32 (i 1).val
  let v171 : Index := Scalar.indexCast arg1
  let c0_115 : Index := 0#32
  let c0_116 : Index := 0#32
  ![2, v171.toNat, 0, 0]
def k0_off16 (i : grid0.Coords) : Fin 4 → Nat :=
  let c3_123 : Index := 3#32
  let arg1 : BitVec 32 := BitVec.ofNat 32 (i 1).val
  let v184 : Index := Scalar.indexCast arg1
  let c0_124 : Index := 0#32
  let c0_125 : Index := 0#32
  ![3, v184.toNat, 0, 0]
@[reducible] def k0_t1_loop (i : grid0.Coords) : Scf.Loop 32 :=
  let arg1 : BitVec 32 := BitVec.ofNat 32 (i 1).val
  let c1_i32 : BitVec 32 := 1#32
  let v197 : BitVec 32 := Scalar.addi arg1 c1_i32
  let c16_i32 : BitVec 32 := 16#32
  let v198 : BitVec 32 := Scalar.subi c16_i32 v197
  let c1_i32_132 : BitVec 32 := 1#32
  let v200 : BitVec 32 := Scalar.divsi v198 c1_i32_132
  let v201 : BitVec 32 := Scalar.muli v200 c1_i32_132
  let v202 : BitVec 32 := Scalar.addi v197 v201
  let c1_i32_133 : BitVec 32 := 1#32
  ⟨v197, v202, c1_i32_133⟩
def k0_mult2 (i : grid0.Coords) (k0_t1 : Fin (k0_t1_loop i).trips) : BitVec 32 :=
  let arg1 : BitVec 32 := BitVec.ofNat 32 (i 1).val
  let c1_i32 : BitVec 32 := 1#32
  let v197 : BitVec 32 := Scalar.addi arg1 c1_i32
  let c1_i32_133 : BitVec 32 := 1#32
  let arg12 : BitVec 32 := Scf.iv v197 c1_i32_133 k0_t1
  let c256_i32_159 : BitVec 32 := 256#32
  let v229 : BitVec 32 := Scalar.muli arg12 c256_i32_159
  v229
def k0_off17 (i : grid0.Coords) (k0_t1 : Fin (k0_t1_loop i).trips) : Fin 3 → Nat :=
  let c0_160 : Index := 0#32
  let arg1 : BitVec 32 := BitVec.ofNat 32 (i 1).val
  let c1_i32 : BitVec 32 := 1#32
  let v197 : BitVec 32 := Scalar.addi arg1 c1_i32
  let c1_i32_133 : BitVec 32 := 1#32
  let arg12 : BitVec 32 := Scf.iv v197 c1_i32_133 k0_t1
  let c256_i32_159 : BitVec 32 := 256#32
  let v229 : BitVec 32 := Scalar.muli arg12 c256_i32_159
  let v230 : BitVec 32 := v229
  let v231 : Index := Scalar.indexCast v230
  let c0_161 : Index := 0#32
  ![0, v231.toNat, 0]
def k0_off18 (i : grid0.Coords) (k0_t1 : Fin (k0_t1_loop i).trips) : Fin 3 → Nat :=
  let c1_162 : Index := 1#32
  let arg1 : BitVec 32 := BitVec.ofNat 32 (i 1).val
  let c1_i32 : BitVec 32 := 1#32
  let v197 : BitVec 32 := Scalar.addi arg1 c1_i32
  let c1_i32_133 : BitVec 32 := 1#32
  let arg12 : BitVec 32 := Scf.iv v197 c1_i32_133 k0_t1
  let c256_i32_159 : BitVec 32 := 256#32
  let v229 : BitVec 32 := Scalar.muli arg12 c256_i32_159
  let v230 : BitVec 32 := v229
  let v234 : Index := Scalar.indexCast v230
  let c0_163 : Index := 0#32
  ![1, v234.toNat, 0]
def k0_off19 (i : grid0.Coords) (k0_t1 : Fin (k0_t1_loop i).trips) : Fin 3 → Nat :=
  let c2_164 : Index := 2#32
  let arg1 : BitVec 32 := BitVec.ofNat 32 (i 1).val
  let c1_i32 : BitVec 32 := 1#32
  let v197 : BitVec 32 := Scalar.addi arg1 c1_i32
  let c1_i32_133 : BitVec 32 := 1#32
  let arg12 : BitVec 32 := Scf.iv v197 c1_i32_133 k0_t1
  let c256_i32_159 : BitVec 32 := 256#32
  let v229 : BitVec 32 := Scalar.muli arg12 c256_i32_159
  let v230 : BitVec 32 := v229
  let v237 : Index := Scalar.indexCast v230
  let c0_165 : Index := 0#32
  ![2, v237.toNat, 0]
def k0_off20 (i : grid0.Coords) (k0_t1 : Fin (k0_t1_loop i).trips) : Fin 3 → Nat :=
  let c3_166 : Index := 3#32
  let arg1 : BitVec 32 := BitVec.ofNat 32 (i 1).val
  let c1_i32 : BitVec 32 := 1#32
  let v197 : BitVec 32 := Scalar.addi arg1 c1_i32
  let c1_i32_133 : BitVec 32 := 1#32
  let arg12 : BitVec 32 := Scf.iv v197 c1_i32_133 k0_t1
  let c256_i32_159 : BitVec 32 := 256#32
  let v229 : BitVec 32 := Scalar.muli arg12 c256_i32_159
  let v230 : BitVec 32 := v229
  let v240 : Index := Scalar.indexCast v230
  let c0_167 : Index := 0#32
  ![3, v240.toNat, 0]
def k0_off21 (i : grid0.Coords) (k0_t1 : Fin (k0_t1_loop i).trips) : Fin 3 → Nat :=
  let c0_168 : Index := 0#32
  let arg1 : BitVec 32 := BitVec.ofNat 32 (i 1).val
  let c1_i32 : BitVec 32 := 1#32
  let v197 : BitVec 32 := Scalar.addi arg1 c1_i32
  let c1_i32_133 : BitVec 32 := 1#32
  let arg12 : BitVec 32 := Scf.iv v197 c1_i32_133 k0_t1
  let c256_i32_159 : BitVec 32 := 256#32
  let v229 : BitVec 32 := Scalar.muli arg12 c256_i32_159
  let v230 : BitVec 32 := v229
  let v243 : Index := Scalar.indexCast v230
  let c0_169 : Index := 0#32
  ![0, v243.toNat, 0]
def k0_off22 (i : grid0.Coords) (k0_t1 : Fin (k0_t1_loop i).trips) : Fin 3 → Nat :=
  let c1_170 : Index := 1#32
  let arg1 : BitVec 32 := BitVec.ofNat 32 (i 1).val
  let c1_i32 : BitVec 32 := 1#32
  let v197 : BitVec 32 := Scalar.addi arg1 c1_i32
  let c1_i32_133 : BitVec 32 := 1#32
  let arg12 : BitVec 32 := Scf.iv v197 c1_i32_133 k0_t1
  let c256_i32_159 : BitVec 32 := 256#32
  let v229 : BitVec 32 := Scalar.muli arg12 c256_i32_159
  let v230 : BitVec 32 := v229
  let v246 : Index := Scalar.indexCast v230
  let c0_171 : Index := 0#32
  ![1, v246.toNat, 0]
def k0_off23 (i : grid0.Coords) (k0_t1 : Fin (k0_t1_loop i).trips) : Fin 3 → Nat :=
  let c2_172 : Index := 2#32
  let arg1 : BitVec 32 := BitVec.ofNat 32 (i 1).val
  let c1_i32 : BitVec 32 := 1#32
  let v197 : BitVec 32 := Scalar.addi arg1 c1_i32
  let c1_i32_133 : BitVec 32 := 1#32
  let arg12 : BitVec 32 := Scf.iv v197 c1_i32_133 k0_t1
  let c256_i32_159 : BitVec 32 := 256#32
  let v229 : BitVec 32 := Scalar.muli arg12 c256_i32_159
  let v230 : BitVec 32 := v229
  let v249 : Index := Scalar.indexCast v230
  let c0_173 : Index := 0#32
  ![2, v249.toNat, 0]
def k0_off24 (i : grid0.Coords) (k0_t1 : Fin (k0_t1_loop i).trips) : Fin 3 → Nat :=
  let c3_174 : Index := 3#32
  let arg1 : BitVec 32 := BitVec.ofNat 32 (i 1).val
  let c1_i32 : BitVec 32 := 1#32
  let v197 : BitVec 32 := Scalar.addi arg1 c1_i32
  let c1_i32_133 : BitVec 32 := 1#32
  let arg12 : BitVec 32 := Scf.iv v197 c1_i32_133 k0_t1
  let c256_i32_159 : BitVec 32 := 256#32
  let v229 : BitVec 32 := Scalar.muli arg12 c256_i32_159
  let v230 : BitVec 32 := v229
  let v252 : Index := Scalar.indexCast v230
  let c0_175 : Index := 0#32
  ![3, v252.toNat, 0]
def k0_off25 (i : grid0.Coords) (k0_t1 : Fin (k0_t1_loop i).trips) : Fin 4 → Nat :=
  let c0_184 : Index := 0#32
  let arg1 : BitVec 32 := BitVec.ofNat 32 (i 1).val
  let c1_i32 : BitVec 32 := 1#32
  let v197 : BitVec 32 := Scalar.addi arg1 c1_i32
  let c1_i32_133 : BitVec 32 := 1#32
  let arg12 : BitVec 32 := Scf.iv v197 c1_i32_133 k0_t1
  let v263 : Index := Scalar.indexCast arg12
  let c0_185 : Index := 0#32
  let c0_186 : Index := 0#32
  ![0, v263.toNat, 0, 0]
def k0_off26 (i : grid0.Coords) (k0_t1 : Fin (k0_t1_loop i).trips) : Fin 4 → Nat :=
  let c1_190 : Index := 1#32
  let arg1 : BitVec 32 := BitVec.ofNat 32 (i 1).val
  let c1_i32 : BitVec 32 := 1#32
  let v197 : BitVec 32 := Scalar.addi arg1 c1_i32
  let c1_i32_133 : BitVec 32 := 1#32
  let arg12 : BitVec 32 := Scf.iv v197 c1_i32_133 k0_t1
  let v277 : Index := Scalar.indexCast arg12
  let c0_191 : Index := 0#32
  let c0_192 : Index := 0#32
  ![1, v277.toNat, 0, 0]
def k0_off27 (i : grid0.Coords) (k0_t1 : Fin (k0_t1_loop i).trips) : Fin 4 → Nat :=
  let c2_196 : Index := 2#32
  let arg1 : BitVec 32 := BitVec.ofNat 32 (i 1).val
  let c1_i32 : BitVec 32 := 1#32
  let v197 : BitVec 32 := Scalar.addi arg1 c1_i32
  let c1_i32_133 : BitVec 32 := 1#32
  let arg12 : BitVec 32 := Scf.iv v197 c1_i32_133 k0_t1
  let v291 : Index := Scalar.indexCast arg12
  let c0_197 : Index := 0#32
  let c0_198 : Index := 0#32
  ![2, v291.toNat, 0, 0]
def k0_off28 (i : grid0.Coords) (k0_t1 : Fin (k0_t1_loop i).trips) : Fin 4 → Nat :=
  let c3_202 : Index := 3#32
  let arg1 : BitVec 32 := BitVec.ofNat 32 (i 1).val
  let c1_i32 : BitVec 32 := 1#32
  let v197 : BitVec 32 := Scalar.addi arg1 c1_i32
  let c1_i32_133 : BitVec 32 := 1#32
  let arg12 : BitVec 32 := Scf.iv v197 c1_i32_133 k0_t1
  let v305 : Index := Scalar.indexCast arg12
  let c0_203 : Index := 0#32
  let c0_204 : Index := 0#32
  ![3, v305.toNat, 0, 0]
def k0_off29 (i : grid0.Coords) (k0_t1 : Fin (k0_t1_loop i).trips) : Fin 4 → Nat :=
  let c0_208 : Index := 0#32
  let arg1 : BitVec 32 := BitVec.ofNat 32 (i 1).val
  let c1_i32 : BitVec 32 := 1#32
  let v197 : BitVec 32 := Scalar.addi arg1 c1_i32
  let c1_i32_133 : BitVec 32 := 1#32
  let arg12 : BitVec 32 := Scf.iv v197 c1_i32_133 k0_t1
  let v319 : Index := Scalar.indexCast arg12
  let c0_209 : Index := 0#32
  let c0_210 : Index := 0#32
  ![0, v319.toNat, 0, 0]
def k0_off30 (i : grid0.Coords) (k0_t1 : Fin (k0_t1_loop i).trips) : Fin 4 → Nat :=
  let c1_217 : Index := 1#32
  let arg1 : BitVec 32 := BitVec.ofNat 32 (i 1).val
  let c1_i32 : BitVec 32 := 1#32
  let v197 : BitVec 32 := Scalar.addi arg1 c1_i32
  let c1_i32_133 : BitVec 32 := 1#32
  let arg12 : BitVec 32 := Scf.iv v197 c1_i32_133 k0_t1
  let v332 : Index := Scalar.indexCast arg12
  let c0_218 : Index := 0#32
  let c0_219 : Index := 0#32
  ![1, v332.toNat, 0, 0]
def k0_off31 (i : grid0.Coords) (k0_t1 : Fin (k0_t1_loop i).trips) : Fin 4 → Nat :=
  let c2_226 : Index := 2#32
  let arg1 : BitVec 32 := BitVec.ofNat 32 (i 1).val
  let c1_i32 : BitVec 32 := 1#32
  let v197 : BitVec 32 := Scalar.addi arg1 c1_i32
  let c1_i32_133 : BitVec 32 := 1#32
  let arg12 : BitVec 32 := Scf.iv v197 c1_i32_133 k0_t1
  let v345 : Index := Scalar.indexCast arg12
  let c0_227 : Index := 0#32
  let c0_228 : Index := 0#32
  ![2, v345.toNat, 0, 0]
def k0_off32 (i : grid0.Coords) (k0_t1 : Fin (k0_t1_loop i).trips) : Fin 4 → Nat :=
  let c3_235 : Index := 3#32
  let arg1 : BitVec 32 := BitVec.ofNat 32 (i 1).val
  let c1_i32 : BitVec 32 := 1#32
  let v197 : BitVec 32 := Scalar.addi arg1 c1_i32
  let c1_i32_133 : BitVec 32 := 1#32
  let arg12 : BitVec 32 := Scf.iv v197 c1_i32_133 k0_t1
  let v358 : Index := Scalar.indexCast arg12
  let c0_236 : Index := 0#32
  let c0_237 : Index := 0#32
  ![3, v358.toNat, 0, 0]
@[reducible] def k0_t2_loop (i : grid0.Coords) : Scf.Loop 32 :=
  let arg1 : BitVec 32 := BitVec.ofNat 32 (i 1).val
  let c1_i32 : BitVec 32 := 1#32
  let v197 : BitVec 32 := Scalar.addi arg1 c1_i32
  let c16_i32 : BitVec 32 := 16#32
  let v198 : BitVec 32 := Scalar.subi c16_i32 v197
  let c1_i32_132 : BitVec 32 := 1#32
  let v200 : BitVec 32 := Scalar.divsi v198 c1_i32_132
  let v201 : BitVec 32 := Scalar.muli v200 c1_i32_132
  let v202 : BitVec 32 := Scalar.addi v197 v201
  let v199 : BitVec 32 := Scalar.addi v197 v198
  let c1_i32_134 : BitVec 32 := 1#32
  ⟨v202, v199, c1_i32_134⟩
def k0_mult3 (i : grid0.Coords) (k0_t2 : Fin (k0_t2_loop i).trips) : BitVec 32 :=
  let arg1 : BitVec 32 := BitVec.ofNat 32 (i 1).val
  let c1_i32 : BitVec 32 := 1#32
  let v197 : BitVec 32 := Scalar.addi arg1 c1_i32
  let c16_i32 : BitVec 32 := 16#32
  let v198 : BitVec 32 := Scalar.subi c16_i32 v197
  let c1_i32_132 : BitVec 32 := 1#32
  let v200 : BitVec 32 := Scalar.divsi v198 c1_i32_132
  let v201 : BitVec 32 := Scalar.muli v200 c1_i32_132
  let v202 : BitVec 32 := Scalar.addi v197 v201
  let c1_i32_134 : BitVec 32 := 1#32
  let arg12 : BitVec 32 := Scf.iv v202 c1_i32_134 k0_t2
  let c256_i32_159 : BitVec 32 := 256#32
  let v229 : BitVec 32 := Scalar.muli arg12 c256_i32_159
  v229
def k0_off33 (i : grid0.Coords) (k0_t2 : Fin (k0_t2_loop i).trips) : Fin 3 → Nat :=
  let c0_160 : Index := 0#32
  let arg1 : BitVec 32 := BitVec.ofNat 32 (i 1).val
  let c1_i32 : BitVec 32 := 1#32
  let v197 : BitVec 32 := Scalar.addi arg1 c1_i32
  let c16_i32 : BitVec 32 := 16#32
  let v198 : BitVec 32 := Scalar.subi c16_i32 v197
  let c1_i32_132 : BitVec 32 := 1#32
  let v200 : BitVec 32 := Scalar.divsi v198 c1_i32_132
  let v201 : BitVec 32 := Scalar.muli v200 c1_i32_132
  let v202 : BitVec 32 := Scalar.addi v197 v201
  let c1_i32_134 : BitVec 32 := 1#32
  let arg12 : BitVec 32 := Scf.iv v202 c1_i32_134 k0_t2
  let c256_i32_159 : BitVec 32 := 256#32
  let v229 : BitVec 32 := Scalar.muli arg12 c256_i32_159
  let v230 : BitVec 32 := v229
  let v231 : Index := Scalar.indexCast v230
  let c0_161 : Index := 0#32
  ![0, v231.toNat, 0]
def k0_off34 (i : grid0.Coords) (k0_t2 : Fin (k0_t2_loop i).trips) : Fin 3 → Nat :=
  let c1_162 : Index := 1#32
  let arg1 : BitVec 32 := BitVec.ofNat 32 (i 1).val
  let c1_i32 : BitVec 32 := 1#32
  let v197 : BitVec 32 := Scalar.addi arg1 c1_i32
  let c16_i32 : BitVec 32 := 16#32
  let v198 : BitVec 32 := Scalar.subi c16_i32 v197
  let c1_i32_132 : BitVec 32 := 1#32
  let v200 : BitVec 32 := Scalar.divsi v198 c1_i32_132
  let v201 : BitVec 32 := Scalar.muli v200 c1_i32_132
  let v202 : BitVec 32 := Scalar.addi v197 v201
  let c1_i32_134 : BitVec 32 := 1#32
  let arg12 : BitVec 32 := Scf.iv v202 c1_i32_134 k0_t2
  let c256_i32_159 : BitVec 32 := 256#32
  let v229 : BitVec 32 := Scalar.muli arg12 c256_i32_159
  let v230 : BitVec 32 := v229
  let v234 : Index := Scalar.indexCast v230
  let c0_163 : Index := 0#32
  ![1, v234.toNat, 0]
def k0_off35 (i : grid0.Coords) (k0_t2 : Fin (k0_t2_loop i).trips) : Fin 3 → Nat :=
  let c2_164 : Index := 2#32
  let arg1 : BitVec 32 := BitVec.ofNat 32 (i 1).val
  let c1_i32 : BitVec 32 := 1#32
  let v197 : BitVec 32 := Scalar.addi arg1 c1_i32
  let c16_i32 : BitVec 32 := 16#32
  let v198 : BitVec 32 := Scalar.subi c16_i32 v197
  let c1_i32_132 : BitVec 32 := 1#32
  let v200 : BitVec 32 := Scalar.divsi v198 c1_i32_132
  let v201 : BitVec 32 := Scalar.muli v200 c1_i32_132
  let v202 : BitVec 32 := Scalar.addi v197 v201
  let c1_i32_134 : BitVec 32 := 1#32
  let arg12 : BitVec 32 := Scf.iv v202 c1_i32_134 k0_t2
  let c256_i32_159 : BitVec 32 := 256#32
  let v229 : BitVec 32 := Scalar.muli arg12 c256_i32_159
  let v230 : BitVec 32 := v229
  let v237 : Index := Scalar.indexCast v230
  let c0_165 : Index := 0#32
  ![2, v237.toNat, 0]
def k0_off36 (i : grid0.Coords) (k0_t2 : Fin (k0_t2_loop i).trips) : Fin 3 → Nat :=
  let c3_166 : Index := 3#32
  let arg1 : BitVec 32 := BitVec.ofNat 32 (i 1).val
  let c1_i32 : BitVec 32 := 1#32
  let v197 : BitVec 32 := Scalar.addi arg1 c1_i32
  let c16_i32 : BitVec 32 := 16#32
  let v198 : BitVec 32 := Scalar.subi c16_i32 v197
  let c1_i32_132 : BitVec 32 := 1#32
  let v200 : BitVec 32 := Scalar.divsi v198 c1_i32_132
  let v201 : BitVec 32 := Scalar.muli v200 c1_i32_132
  let v202 : BitVec 32 := Scalar.addi v197 v201
  let c1_i32_134 : BitVec 32 := 1#32
  let arg12 : BitVec 32 := Scf.iv v202 c1_i32_134 k0_t2
  let c256_i32_159 : BitVec 32 := 256#32
  let v229 : BitVec 32 := Scalar.muli arg12 c256_i32_159
  let v230 : BitVec 32 := v229
  let v240 : Index := Scalar.indexCast v230
  let c0_167 : Index := 0#32
  ![3, v240.toNat, 0]
def k0_off37 (i : grid0.Coords) (k0_t2 : Fin (k0_t2_loop i).trips) : Fin 3 → Nat :=
  let c0_168 : Index := 0#32
  let arg1 : BitVec 32 := BitVec.ofNat 32 (i 1).val
  let c1_i32 : BitVec 32 := 1#32
  let v197 : BitVec 32 := Scalar.addi arg1 c1_i32
  let c16_i32 : BitVec 32 := 16#32
  let v198 : BitVec 32 := Scalar.subi c16_i32 v197
  let c1_i32_132 : BitVec 32 := 1#32
  let v200 : BitVec 32 := Scalar.divsi v198 c1_i32_132
  let v201 : BitVec 32 := Scalar.muli v200 c1_i32_132
  let v202 : BitVec 32 := Scalar.addi v197 v201
  let c1_i32_134 : BitVec 32 := 1#32
  let arg12 : BitVec 32 := Scf.iv v202 c1_i32_134 k0_t2
  let c256_i32_159 : BitVec 32 := 256#32
  let v229 : BitVec 32 := Scalar.muli arg12 c256_i32_159
  let v230 : BitVec 32 := v229
  let v243 : Index := Scalar.indexCast v230
  let c0_169 : Index := 0#32
  ![0, v243.toNat, 0]
def k0_off38 (i : grid0.Coords) (k0_t2 : Fin (k0_t2_loop i).trips) : Fin 3 → Nat :=
  let c1_170 : Index := 1#32
  let arg1 : BitVec 32 := BitVec.ofNat 32 (i 1).val
  let c1_i32 : BitVec 32 := 1#32
  let v197 : BitVec 32 := Scalar.addi arg1 c1_i32
  let c16_i32 : BitVec 32 := 16#32
  let v198 : BitVec 32 := Scalar.subi c16_i32 v197
  let c1_i32_132 : BitVec 32 := 1#32
  let v200 : BitVec 32 := Scalar.divsi v198 c1_i32_132
  let v201 : BitVec 32 := Scalar.muli v200 c1_i32_132
  let v202 : BitVec 32 := Scalar.addi v197 v201
  let c1_i32_134 : BitVec 32 := 1#32
  let arg12 : BitVec 32 := Scf.iv v202 c1_i32_134 k0_t2
  let c256_i32_159 : BitVec 32 := 256#32
  let v229 : BitVec 32 := Scalar.muli arg12 c256_i32_159
  let v230 : BitVec 32 := v229
  let v246 : Index := Scalar.indexCast v230
  let c0_171 : Index := 0#32
  ![1, v246.toNat, 0]
def k0_off39 (i : grid0.Coords) (k0_t2 : Fin (k0_t2_loop i).trips) : Fin 3 → Nat :=
  let c2_172 : Index := 2#32
  let arg1 : BitVec 32 := BitVec.ofNat 32 (i 1).val
  let c1_i32 : BitVec 32 := 1#32
  let v197 : BitVec 32 := Scalar.addi arg1 c1_i32
  let c16_i32 : BitVec 32 := 16#32
  let v198 : BitVec 32 := Scalar.subi c16_i32 v197
  let c1_i32_132 : BitVec 32 := 1#32
  let v200 : BitVec 32 := Scalar.divsi v198 c1_i32_132
  let v201 : BitVec 32 := Scalar.muli v200 c1_i32_132
  let v202 : BitVec 32 := Scalar.addi v197 v201
  let c1_i32_134 : BitVec 32 := 1#32
  let arg12 : BitVec 32 := Scf.iv v202 c1_i32_134 k0_t2
  let c256_i32_159 : BitVec 32 := 256#32
  let v229 : BitVec 32 := Scalar.muli arg12 c256_i32_159
  let v230 : BitVec 32 := v229
  let v249 : Index := Scalar.indexCast v230
  let c0_173 : Index := 0#32
  ![2, v249.toNat, 0]
def k0_off40 (i : grid0.Coords) (k0_t2 : Fin (k0_t2_loop i).trips) : Fin 3 → Nat :=
  let c3_174 : Index := 3#32
  let arg1 : BitVec 32 := BitVec.ofNat 32 (i 1).val
  let c1_i32 : BitVec 32 := 1#32
  let v197 : BitVec 32 := Scalar.addi arg1 c1_i32
  let c16_i32 : BitVec 32 := 16#32
  let v198 : BitVec 32 := Scalar.subi c16_i32 v197
  let c1_i32_132 : BitVec 32 := 1#32
  let v200 : BitVec 32 := Scalar.divsi v198 c1_i32_132
  let v201 : BitVec 32 := Scalar.muli v200 c1_i32_132
  let v202 : BitVec 32 := Scalar.addi v197 v201
  let c1_i32_134 : BitVec 32 := 1#32
  let arg12 : BitVec 32 := Scf.iv v202 c1_i32_134 k0_t2
  let c256_i32_159 : BitVec 32 := 256#32
  let v229 : BitVec 32 := Scalar.muli arg12 c256_i32_159
  let v230 : BitVec 32 := v229
  let v252 : Index := Scalar.indexCast v230
  let c0_175 : Index := 0#32
  ![3, v252.toNat, 0]
def k0_off41 (i : grid0.Coords) (k0_t2 : Fin (k0_t2_loop i).trips) : Fin 4 → Nat :=
  let c0_184 : Index := 0#32
  let arg1 : BitVec 32 := BitVec.ofNat 32 (i 1).val
  let c1_i32 : BitVec 32 := 1#32
  let v197 : BitVec 32 := Scalar.addi arg1 c1_i32
  let c16_i32 : BitVec 32 := 16#32
  let v198 : BitVec 32 := Scalar.subi c16_i32 v197
  let c1_i32_132 : BitVec 32 := 1#32
  let v200 : BitVec 32 := Scalar.divsi v198 c1_i32_132
  let v201 : BitVec 32 := Scalar.muli v200 c1_i32_132
  let v202 : BitVec 32 := Scalar.addi v197 v201
  let c1_i32_134 : BitVec 32 := 1#32
  let arg12 : BitVec 32 := Scf.iv v202 c1_i32_134 k0_t2
  let v263 : Index := Scalar.indexCast arg12
  let c0_185 : Index := 0#32
  let c0_186 : Index := 0#32
  ![0, v263.toNat, 0, 0]
def k0_off42 (i : grid0.Coords) (k0_t2 : Fin (k0_t2_loop i).trips) : Fin 4 → Nat :=
  let c1_190 : Index := 1#32
  let arg1 : BitVec 32 := BitVec.ofNat 32 (i 1).val
  let c1_i32 : BitVec 32 := 1#32
  let v197 : BitVec 32 := Scalar.addi arg1 c1_i32
  let c16_i32 : BitVec 32 := 16#32
  let v198 : BitVec 32 := Scalar.subi c16_i32 v197
  let c1_i32_132 : BitVec 32 := 1#32
  let v200 : BitVec 32 := Scalar.divsi v198 c1_i32_132
  let v201 : BitVec 32 := Scalar.muli v200 c1_i32_132
  let v202 : BitVec 32 := Scalar.addi v197 v201
  let c1_i32_134 : BitVec 32 := 1#32
  let arg12 : BitVec 32 := Scf.iv v202 c1_i32_134 k0_t2
  let v277 : Index := Scalar.indexCast arg12
  let c0_191 : Index := 0#32
  let c0_192 : Index := 0#32
  ![1, v277.toNat, 0, 0]
def k0_off43 (i : grid0.Coords) (k0_t2 : Fin (k0_t2_loop i).trips) : Fin 4 → Nat :=
  let c2_196 : Index := 2#32
  let arg1 : BitVec 32 := BitVec.ofNat 32 (i 1).val
  let c1_i32 : BitVec 32 := 1#32
  let v197 : BitVec 32 := Scalar.addi arg1 c1_i32
  let c16_i32 : BitVec 32 := 16#32
  let v198 : BitVec 32 := Scalar.subi c16_i32 v197
  let c1_i32_132 : BitVec 32 := 1#32
  let v200 : BitVec 32 := Scalar.divsi v198 c1_i32_132
  let v201 : BitVec 32 := Scalar.muli v200 c1_i32_132
  let v202 : BitVec 32 := Scalar.addi v197 v201
  let c1_i32_134 : BitVec 32 := 1#32
  let arg12 : BitVec 32 := Scf.iv v202 c1_i32_134 k0_t2
  let v291 : Index := Scalar.indexCast arg12
  let c0_197 : Index := 0#32
  let c0_198 : Index := 0#32
  ![2, v291.toNat, 0, 0]
def k0_off44 (i : grid0.Coords) (k0_t2 : Fin (k0_t2_loop i).trips) : Fin 4 → Nat :=
  let c3_202 : Index := 3#32
  let arg1 : BitVec 32 := BitVec.ofNat 32 (i 1).val
  let c1_i32 : BitVec 32 := 1#32
  let v197 : BitVec 32 := Scalar.addi arg1 c1_i32
  let c16_i32 : BitVec 32 := 16#32
  let v198 : BitVec 32 := Scalar.subi c16_i32 v197
  let c1_i32_132 : BitVec 32 := 1#32
  let v200 : BitVec 32 := Scalar.divsi v198 c1_i32_132
  let v201 : BitVec 32 := Scalar.muli v200 c1_i32_132
  let v202 : BitVec 32 := Scalar.addi v197 v201
  let c1_i32_134 : BitVec 32 := 1#32
  let arg12 : BitVec 32 := Scf.iv v202 c1_i32_134 k0_t2
  let v305 : Index := Scalar.indexCast arg12
  let c0_203 : Index := 0#32
  let c0_204 : Index := 0#32
  ![3, v305.toNat, 0, 0]
def k0_off45 (i : grid0.Coords) (k0_t2 : Fin (k0_t2_loop i).trips) : Fin 4 → Nat :=
  let c0_208 : Index := 0#32
  let arg1 : BitVec 32 := BitVec.ofNat 32 (i 1).val
  let c1_i32 : BitVec 32 := 1#32
  let v197 : BitVec 32 := Scalar.addi arg1 c1_i32
  let c16_i32 : BitVec 32 := 16#32
  let v198 : BitVec 32 := Scalar.subi c16_i32 v197
  let c1_i32_132 : BitVec 32 := 1#32
  let v200 : BitVec 32 := Scalar.divsi v198 c1_i32_132
  let v201 : BitVec 32 := Scalar.muli v200 c1_i32_132
  let v202 : BitVec 32 := Scalar.addi v197 v201
  let c1_i32_134 : BitVec 32 := 1#32
  let arg12 : BitVec 32 := Scf.iv v202 c1_i32_134 k0_t2
  let v319 : Index := Scalar.indexCast arg12
  let c0_209 : Index := 0#32
  let c0_210 : Index := 0#32
  ![0, v319.toNat, 0, 0]
def k0_off46 (i : grid0.Coords) (k0_t2 : Fin (k0_t2_loop i).trips) : Fin 4 → Nat :=
  let c1_217 : Index := 1#32
  let arg1 : BitVec 32 := BitVec.ofNat 32 (i 1).val
  let c1_i32 : BitVec 32 := 1#32
  let v197 : BitVec 32 := Scalar.addi arg1 c1_i32
  let c16_i32 : BitVec 32 := 16#32
  let v198 : BitVec 32 := Scalar.subi c16_i32 v197
  let c1_i32_132 : BitVec 32 := 1#32
  let v200 : BitVec 32 := Scalar.divsi v198 c1_i32_132
  let v201 : BitVec 32 := Scalar.muli v200 c1_i32_132
  let v202 : BitVec 32 := Scalar.addi v197 v201
  let c1_i32_134 : BitVec 32 := 1#32
  let arg12 : BitVec 32 := Scf.iv v202 c1_i32_134 k0_t2
  let v332 : Index := Scalar.indexCast arg12
  let c0_218 : Index := 0#32
  let c0_219 : Index := 0#32
  ![1, v332.toNat, 0, 0]
def k0_off47 (i : grid0.Coords) (k0_t2 : Fin (k0_t2_loop i).trips) : Fin 4 → Nat :=
  let c2_226 : Index := 2#32
  let arg1 : BitVec 32 := BitVec.ofNat 32 (i 1).val
  let c1_i32 : BitVec 32 := 1#32
  let v197 : BitVec 32 := Scalar.addi arg1 c1_i32
  let c16_i32 : BitVec 32 := 16#32
  let v198 : BitVec 32 := Scalar.subi c16_i32 v197
  let c1_i32_132 : BitVec 32 := 1#32
  let v200 : BitVec 32 := Scalar.divsi v198 c1_i32_132
  let v201 : BitVec 32 := Scalar.muli v200 c1_i32_132
  let v202 : BitVec 32 := Scalar.addi v197 v201
  let c1_i32_134 : BitVec 32 := 1#32
  let arg12 : BitVec 32 := Scf.iv v202 c1_i32_134 k0_t2
  let v345 : Index := Scalar.indexCast arg12
  let c0_227 : Index := 0#32
  let c0_228 : Index := 0#32
  ![2, v345.toNat, 0, 0]
def k0_off48 (i : grid0.Coords) (k0_t2 : Fin (k0_t2_loop i).trips) : Fin 4 → Nat :=
  let c3_235 : Index := 3#32
  let arg1 : BitVec 32 := BitVec.ofNat 32 (i 1).val
  let c1_i32 : BitVec 32 := 1#32
  let v197 : BitVec 32 := Scalar.addi arg1 c1_i32
  let c16_i32 : BitVec 32 := 16#32
  let v198 : BitVec 32 := Scalar.subi c16_i32 v197
  let c1_i32_132 : BitVec 32 := 1#32
  let v200 : BitVec 32 := Scalar.divsi v198 c1_i32_132
  let v201 : BitVec 32 := Scalar.muli v200 c1_i32_132
  let v202 : BitVec 32 := Scalar.addi v197 v201
  let c1_i32_134 : BitVec 32 := 1#32
  let arg12 : BitVec 32 := Scf.iv v202 c1_i32_134 k0_t2
  let v358 : Index := Scalar.indexCast arg12
  let c0_236 : Index := 0#32
  let c0_237 : Index := 0#32
  ![3, v358.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x4096x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x16x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4x16x8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4x16x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4x256x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x4096x64 : Shape := ⟨3, ![8, 4096, 64]⟩
abbrev S8x4096 : Shape := ⟨2, ![8, 4096]⟩
abbrev S8x4096x4096 : Shape := ⟨3, ![8, 4096, 4096]⟩
abbrev S_ : Shape := ⟨0, ![]⟩
abbrev S8x4096x1 : Shape := ⟨3, ![8, 4096, 1]⟩
abbrev S8x1x4096 : Shape := ⟨3, ![8, 1, 4096]⟩
abbrev S8x64x4096 : Shape := ⟨3, ![8, 64, 4096]⟩

abbrev nBuf : Space → Nat
  | .hbm => 99
  | .vmem => 0
  | .smem => 0
  | _ => 0

abbrev bufTy : (tb : Table) → Fin (tcTables nBuf tb) → BufTy
  | .hbm, ⟨0, _⟩ => ⟨S8x4096x64, .f32⟩
  | .hbm, ⟨1, _⟩ => ⟨S8x4096x64, .f32⟩
  | .hbm, ⟨2, _⟩ => ⟨S8x4096x64, .f32⟩
  | .hbm, ⟨3, _⟩ => ⟨S8x4096, .f32⟩
  | .hbm, ⟨4, _⟩ => ⟨S8x4096x64, .f32⟩
  | .hbm, ⟨5, _⟩ => ⟨S8x4096x4096, .f32⟩
  | .hbm, ⟨6, _⟩ => ⟨S_, .f32⟩
  | .hbm, ⟨7, _⟩ => ⟨S8x4096x4096, .f32⟩
  | .hbm, ⟨8, _⟩ => ⟨S8x4096x4096, .f32⟩
  | .hbm, ⟨9, _⟩ => ⟨S8x4096x1, .f32⟩
  | .hbm, ⟨10, _⟩ => ⟨S8x4096x4096, .f32⟩
  | .hbm, ⟨11, _⟩ => ⟨S8x4096x4096, .f32⟩
  | .hbm, ⟨12, _⟩ => ⟨S8x1x4096, .f32⟩
  | .hbm, ⟨13, _⟩ => ⟨S8x4096x4096, .f32⟩
  | .hbm, ⟨14, _⟩ => ⟨S8x4096x4096, .f32⟩
  | .hbm, ⟨15, _⟩ => ⟨S8x4096x4096, .i32⟩
  | .hbm, ⟨16, _⟩ => ⟨S8x4096x4096, .i32⟩
  | .hbm, ⟨17, _⟩ => ⟨S8x4096x4096, .i1⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096x4096, .f32⟩
  | .hbm, ⟨23, _⟩ => ⟨S_, .f32⟩
  | .hbm, ⟨24, _⟩ => ⟨S8x4096, .f32⟩
  | .hbm, ⟨25, _⟩ => ⟨S8x4096x1, .f32⟩
  | .hbm, ⟨26, _⟩ => ⟨S8x4096x4096, .f32⟩
  | .hbm, ⟨27, _⟩ => ⟨S8x4096x4096, .i1⟩
  | .hbm, ⟨28, _⟩ => ⟨S8x4096x4096, .f32⟩
  | .hbm, ⟨29, _⟩ => ⟨S_, .f32⟩
  | .hbm, ⟨30, _⟩ => ⟨S8x4096, .f32⟩
  | .hbm, ⟨31, _⟩ => ⟨S_, .f32⟩
  | .hbm, ⟨32, _⟩ => ⟨S8x4096, .f32⟩
  | .hbm, ⟨33, _⟩ => ⟨S8x4096, .f32⟩
  | .hbm, ⟨34, _⟩ => ⟨S_, .f32⟩
  | .hbm, ⟨35, _⟩ => ⟨S8x4096, .f32⟩
  | .hbm, ⟨36, _⟩ => ⟨S8x4096, .i1⟩
  | .hbm, ⟨37, _⟩ => ⟨S_, .f32⟩
  | .hbm, ⟨38, _⟩ => ⟨S8x4096, .f32⟩
  | .hbm, ⟨39, _⟩ => ⟨S8x4096, .i1⟩
  | .hbm, ⟨40, _⟩ => ⟨S_, .f32⟩
  | .hbm, ⟨41, _⟩ => ⟨S8x4096, .f32⟩
  | .hbm, ⟨42, _⟩ => ⟨S_, .f32⟩
  | .hbm, ⟨43, _⟩ => ⟨S8x4096, .f32⟩
  | .hbm, ⟨44, _⟩ => ⟨S_, .f32⟩
  | .hbm, ⟨45, _⟩ => ⟨S8x4096, .f32⟩
  | .hbm, ⟨46, _⟩ => ⟨S8x4096, .f32⟩
  | .hbm, ⟨47, _⟩ => ⟨S8x4096, .f32⟩
  | .hbm, ⟨48, _⟩ => ⟨S8x4096x1, .f32⟩
  | .hbm, ⟨49, _⟩ => ⟨S8x4096x4096, .f32⟩
  | .hbm, ⟨50, _⟩ => ⟨S8x4096x4096, .f32⟩
  | .hbm, ⟨51, _⟩ => ⟨S8x4096x4096, .f32⟩
  | .hbm, ⟨52, _⟩ => ⟨S_, .f32⟩
  | .hbm, ⟨53, _⟩ => ⟨S8x4096, .f32⟩
  | .hbm, ⟨54, _⟩ => ⟨S8x4096x1, .f32⟩
  | .hbm, ⟨55, _⟩ => ⟨S8x4096x4096, .f32⟩
  | .hbm, ⟨56, _⟩ => ⟨S8x4096x4096, .f32⟩
  | .hbm, ⟨57, _⟩ => ⟨S8x4096x1, .f32⟩
  | .hbm, ⟨58, _⟩ => ⟨S_, .f32⟩
  | .hbm, ⟨59, _⟩ => ⟨S8x4096x1, .f32⟩
  | .hbm, ⟨60, _⟩ => ⟨S8x4096x1, .f32⟩
  | .hbm, ⟨61, _⟩ => ⟨S8x4096x64, .f32⟩
  | .hbm, ⟨62, _⟩ => ⟨S8x64x4096, .f32⟩
  | .hbm, ⟨63, _⟩ => ⟨S8x4096x64, .f32⟩
  | .hbm, ⟨64, _⟩ => ⟨S8x4096x4096, .f32⟩
  | .hbm, ⟨65, _⟩ => ⟨S8x4096x4096, .f32⟩
  | .hbm, ⟨66, _⟩ => ⟨S8x4096x4096, .f32⟩
  | .hbm, ⟨67, _⟩ => ⟨S8x4096x4096, .f32⟩
  | .hbm, ⟨68, _⟩ => ⟨S_, .f32⟩
  | .hbm, ⟨69, _⟩ => ⟨S8x4096, .f32⟩
  | .hbm, ⟨70, _⟩ => ⟨S8x4096x1, .f32⟩
  | .hbm, ⟨71, _⟩ => ⟨S8x4096x1, .f32⟩
  | .hbm, ⟨72, _⟩ => ⟨S8x4096x4096, .f32⟩
  | .hbm, ⟨73, _⟩ => ⟨S8x4096x4096, .f32⟩
  | .hbm, ⟨74, _⟩ => ⟨S_, .f32⟩
  | .hbm, ⟨75, _⟩ => ⟨S8x4096, .f32⟩
  | .hbm, ⟨76, _⟩ => ⟨S8x4096x4096, .f32⟩
  | .hbm, ⟨77, _⟩ => ⟨S8x4096x4096, .f32⟩
  | .hbm, ⟨78, _⟩ => ⟨S8x4096x4096, .f32⟩
  | .hbm, ⟨79, _⟩ => ⟨S_, .f32⟩
  | .hbm, ⟨80, _⟩ => ⟨S8x4096x4096, .f32⟩
  | .hbm, ⟨81, _⟩ => ⟨S8x4096x4096, .f32⟩
  | .hbm, ⟨82, _⟩ => ⟨S8x4096x4096, .f32⟩
  | .hbm, ⟨83, _⟩ => ⟨S_, .f32⟩
  | .hbm, ⟨84, _⟩ => ⟨S8x4096, .f32⟩
  | .hbm, ⟨85, _⟩ => ⟨S8x1x4096, .f32⟩
  | .hbm, ⟨86, _⟩ => ⟨S_, .f32⟩
  | .hbm, ⟨87, _⟩ => ⟨S8x4096, .f32⟩
  | .hbm, ⟨88, _⟩ => ⟨S_, .f32⟩
  | .hbm, ⟨89, _⟩ => ⟨S8x4096, .f32⟩
  | .hbm, ⟨90, _⟩ => ⟨S8x4096x1, .f32⟩
  | .hbm, ⟨91, _⟩ => ⟨S_, .f32⟩
  | .hbm, ⟨92, _⟩ => ⟨S8x4096, .f32⟩
  | .hbm, ⟨93, _⟩ => ⟨S8x4096, .f32⟩
  | .hbm, ⟨94, _⟩ => ⟨S_, .f32⟩
  | .hbm, ⟨95, _⟩ => ⟨S8x4096x4096, .f32⟩
  | .hbm, ⟨96, _⟩ => ⟨S8x4096x4096, .f32⟩
  | .hbm, ⟨97, _⟩ => ⟨S8x4096x64, .f32⟩
  | .hbm, ⟨98, _⟩ => ⟨S8x4096x64, .f32⟩
  | _, _ => ⟨S8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_10 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_12 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_13 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_14 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_15 : Ref sig .tc := ⟨.hbm, 83, rfl⟩
abbrev main_v62 : Ref sig .tc := ⟨.hbm, 84, rfl⟩
abbrev main_v63 : Ref sig .tc := ⟨.hbm, 85, rfl⟩
abbrev main_cst_16 : Ref sig .tc := ⟨.hbm, 86, rfl⟩
abbrev main_v64 : Ref sig .tc := ⟨.hbm, 87, rfl⟩
abbrev main_cst_17 : Ref sig .tc := ⟨.hbm, 88, rfl⟩
abbrev main_v65 : Ref sig .tc := ⟨.hbm, 89, rfl⟩
abbrev main_v66 : Ref sig .tc := ⟨.hbm, 90, rfl⟩
abbrev main_cst_18 : Ref sig .tc := ⟨.hbm, 91, rfl⟩
abbrev main_v67 : Ref sig .tc := ⟨.hbm, 92, rfl⟩
abbrev main_v68 : Ref sig .tc := ⟨.hbm, 93, rfl⟩
abbrev main_cst_19 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩

abbrev nD : Nat := 1
abbrev τ : Topo := Topo.v7x

variable {F : FTy → Type} [FloatOps F]

def κ : String → Option EReal := fun
  | "mask" => some ⊥
  | _ => none
-- ==== Kernel2.lean ====
abbrev S4096x1024 : Shape := ⟨2, ![4096, 1024]⟩
abbrev S1x1024 : Shape := ⟨2, ![1, 1024]⟩
abbrev S1024x3080 : Shape := ⟨2, ![1024, 3080]⟩
abbrev S4096x3080 : Shape := ⟨2, ![4096, 3080]⟩
abbrev S4096x8 : Shape := ⟨2, ![4096, 8]⟩
abbrev S_ : Shape := ⟨0, ![]⟩
abbrev S4096x120 : Shape := ⟨2, ![4096, 120]⟩
abbrev S4096x128 : Shape := ⟨2, ![4096, 128]⟩
abbrev S4096x512 : Shape := ⟨2, ![4096, 512]⟩
abbrev S1024x2048 : Shape := ⟨2, ![1024, 2048]⟩
abbrev S1024x1024 : Shape := ⟨2, ![1024, 1024]⟩
abbrev S1024x8 : Shape := ⟨2, ![1024, 8]⟩
abbrev S1024x120 : Shape := ⟨2, ![1024, 120]⟩
abbrev S1024x3200 : Shape := ⟨2, ![1024, 3200]⟩
abbrev S256x512 : Shape := ⟨2, ![256, 512]⟩
abbrev S256x128 : Shape := ⟨2, ![256, 128]⟩
abbrev S256x1024 : Shape := ⟨2, ![256, 1024]⟩
abbrev S1024x128 : Shape := ⟨2, ![1024, 128]⟩
abbrev S1024x512 : Shape := ⟨2, ![1024, 512]⟩
abbrev S256 : Shape := ⟨1, ![256]⟩
abbrev S256x1 : Shape := ⟨2, ![256, 1]⟩
abbrev S1024 : Shape := ⟨1, ![1024]⟩

abbrev nBuf : Space → Nat
  | .hbm => 26
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3080, .f32⟩
  | .hbm, ⟨3, _⟩ => ⟨S4096x3080, .f32⟩
  | .hbm, ⟨4, _⟩ => ⟨S4096x1024, .f32⟩
  | .hbm, ⟨5, _⟩ => ⟨S4096x3080, .bf16⟩
  | .hbm, ⟨6, _⟩ => ⟨S4096x8, .f32⟩
  | .hbm, ⟨7, _⟩ => ⟨S_, .f32⟩
  | .hbm, ⟨8, _⟩ => ⟨S4096x120, .f32⟩
  | .hbm, ⟨9, _⟩ => ⟨S4096x128, .f32⟩
  | .hbm, ⟨10, _⟩ => ⟨S4096x128, .bf16⟩
  | .hbm, ⟨11, _⟩ => ⟨S4096x512, .bf16⟩
  | .hbm, ⟨12, _⟩ => ⟨S4096x512, .bf16⟩
  | .hbm, ⟨13, _⟩ => ⟨S4096x512, .bf16⟩
  | .hbm, ⟨14, _⟩ => ⟨S4096x512, .bf16⟩
  | .hbm, ⟨15, _⟩ => ⟨S4096x512, .bf16⟩
  | .hbm, ⟨16, _⟩ => ⟨S4096x512, .bf16⟩
  | .hbm, ⟨17, _⟩ => ⟨S1024x2048, .f32⟩
  | .hbm, ⟨18, _⟩ => ⟨S1024x1024, .f32⟩
  | .hbm, ⟨19, _⟩ => ⟨S1024x8, .f32⟩
  | .hbm, ⟨20, _⟩ => ⟨S_, .f32⟩
  | .hbm, ⟨21, _⟩ => ⟨S1024x120, .f32⟩
  | .hbm, ⟨22, _⟩ => ⟨S1024x3200, .f32⟩
  | .hbm, ⟨23, _⟩ => ⟨S1024x3200, .bf16⟩
  | .hbm, ⟨24, _⟩ => ⟨S4096x1024, .f32⟩
  | .hbm, ⟨25, _⟩ => ⟨S1x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x128, .bf16⟩
  | .local _ .vmem, ⟨13, _⟩ => ⟨S256x128, .bf16⟩
  | .local _ .vmem, ⟨14, _⟩ => ⟨S1024x3200, .bf16⟩
  | .local _ .vmem, ⟨15, _⟩ => ⟨S256x1024, .f32⟩
  | .local _ .vmem, ⟨16, _⟩ => ⟨S256x1024, .f32⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x3200 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference2Ideal.lean ====
abbrev S4096x1024 : Shape := ⟨2, ![4096, 1024]⟩
abbrev S1x1024 : Shape := ⟨2, ![1, 1024]⟩
abbrev S1024x3080 : Shape := ⟨2, ![1024, 3080]⟩
abbrev S4096x3080 : Shape := ⟨2, ![4096, 3080]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3080, .f32⟩
  | .hbm, ⟨3, _⟩ => ⟨S4096x3080, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x3080, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel3.lean ====
abbrev S4096x1024 : Shape := ⟨2, ![4096, 1024]⟩
abbrev S4096x3080 : Shape := ⟨2, ![4096, 3080]⟩
abbrev S4096x8 : Shape := ⟨2, ![4096, 8]⟩
abbrev S_ : Shape := ⟨0, ![]⟩
abbrev S4096x120 : Shape := ⟨2, ![4096, 120]⟩
abbrev S4096x128 : Shape := ⟨2, ![4096, 128]⟩
abbrev S4096x512 : Shape := ⟨2, ![4096, 512]⟩
abbrev S8x1024x385 : Shape := ⟨3, ![8, 1024, 385]⟩
abbrev S512x1024 : Shape := ⟨2, ![512, 1024]⟩
abbrev S512x512 : Shape := ⟨2, ![512, 512]⟩
abbrev S512x128 : Shape := ⟨2, ![512, 128]⟩
abbrev S1024x3200 : Shape := ⟨2, ![1024, 3200]⟩
abbrev S1024x512 : Shape := ⟨2, ![1024, 512]⟩
abbrev S1024x128 : Shape := ⟨2, ![1024, 128]⟩
abbrev S1024x385 : Shape := ⟨2, ![1024, 385]⟩
abbrev S1x1024x385 : Shape := ⟨3, ![1, 1024, 385]⟩
abbrev S1024x123 : Shape := ⟨2, ![1024, 123]⟩
abbrev S1024x8 : Shape := ⟨2, ![1024, 8]⟩
abbrev S1024x254 : Shape := ⟨2, ![1024, 254]⟩

abbrev nBuf : Space → Nat
  | .hbm => 16
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x3080, .f32⟩
  | .hbm, ⟨2, _⟩ => ⟨S4096x3080, .bf16⟩
  | .hbm, ⟨3, _⟩ => ⟨S4096x8, .f32⟩
  | .hbm, ⟨4, _⟩ => ⟨S_, .f32⟩
  | .hbm, ⟨5, _⟩ => ⟨S4096x120, .f32⟩
  | .hbm, ⟨6, _⟩ => ⟨S4096x128, .f32⟩
  | .hbm, ⟨7, _⟩ => ⟨S4096x128, .bf16⟩
  | .hbm, ⟨8, _⟩ => ⟨S4096x512, .bf16⟩
  | .hbm, ⟨9, _⟩ => ⟨S4096x512, .bf16⟩
  | .hbm, ⟨10, _⟩ => ⟨S4096x512, .bf16⟩
  | .hbm, ⟨11, _⟩ => ⟨S4096x512, .bf16⟩
  | .hbm, ⟨12, _⟩ => ⟨S4096x512, .bf16⟩
  | .hbm, ⟨13, _⟩ => ⟨S4096x512, .bf16⟩
  | .hbm, ⟨14, _⟩ => ⟨S4096x1024, .bf16⟩
  | .hbm, ⟨15, _⟩ => ⟨S8x1024x385, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x128, .bf16⟩
  | .local _ .vmem, ⟨15, _⟩ => ⟨S512x128, .bf16⟩
  | .local _ .vmem, ⟨16, _⟩ => ⟨S8x1024x385, .bf16⟩
  | .local _ .vmem, ⟨17, _⟩ => ⟨S1024x3200, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v61 : BitVec 1 := Scalar.cmpi .eq arg0 c7_i32
  let v62 : BitVec 32 := Scalar.extui v61
  let c0_i32_44 : BitVec 32 := 0#32
  let v63 : BitVec 1 := Scalar.cmpi .ne v62 c0_i32_44
  v63

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024x385 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S4096x1024 : Shape := ⟨2, ![4096, 1024]⟩
abbrev S4096x3080 : Shape := ⟨2, ![4096, 3080]⟩
abbrev S_ : Shape := ⟨0, ![]⟩
abbrev S1024x3080 : Shape := ⟨2, ![1024, 3080]⟩
abbrev S3080x1024 : Shape := ⟨2, ![3080, 1024]⟩
abbrev S1024x8x385 : Shape := ⟨3, ![1024, 8, 385]⟩
abbrev S8x1024x385 : Shape := ⟨3, ![8, 1024, 385]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3080, .f32⟩
  | .hbm, ⟨2, _⟩ => ⟨S_, .f32⟩
  | .hbm, ⟨3, _⟩ => ⟨S1024x3080, .f32⟩
  | .hbm, ⟨4, _⟩ => ⟨S4096x3080, .f32⟩
  | .hbm, ⟨5, _⟩ => ⟨S3080x1024, .f32⟩
  | .hbm, ⟨6, _⟩ => ⟨S1024x3080, .f32⟩
  | .hbm, ⟨7, _⟩ => ⟨S1024x8x385, .f32⟩
  | .hbm, ⟨8, _⟩ => ⟨S8x1024x385, .f32⟩
  | .hbm, ⟨9, _⟩ => ⟨S8x1024x385, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S1024x3080 : Shape := ⟨2, ![1024, 3080]⟩
abbrev S1024x2048 : Shape := ⟨2, ![1024, 2048]⟩
abbrev S1024x1024 : Shape := ⟨2, ![1024, 1024]⟩
abbrev S1024x8 : Shape := ⟨2, ![1024, 8]⟩
abbrev S_ : Shape := ⟨0, ![]⟩
abbrev S1024x120 : Shape := ⟨2, ![1024, 120]⟩
abbrev S1024x3200 : Shape := ⟨2, ![1024, 3200]⟩
abbrev S4096x3200 : Shape := ⟨2, ![4096, 3200]⟩
abbrev S256x1024 : Shape := ⟨2, ![256, 1024]⟩
abbrev S256x3200 : Shape := ⟨2, ![256, 3200]⟩
abbrev S256 : Shape := ⟨1, ![256]⟩
abbrev S256x1 : Shape := ⟨2, ![256, 1]⟩
abbrev S4096x2048 : Shape := ⟨2, ![4096, 2048]⟩
abbrev S4096x8 : Shape := ⟨2, ![4096, 8]⟩
abbrev S4096x3080 : Shape := ⟨2, ![4096, 3080]⟩

abbrev nBuf : Space → Nat
  | .hbm => 16
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3080, .f32⟩
  | .hbm, ⟨3, _⟩ => ⟨S1024x2048, .f32⟩
  | .hbm, ⟨4, _⟩ => ⟨S1024x1024, .f32⟩
  | .hbm, ⟨5, _⟩ => ⟨S1024x8, .f32⟩
  | .hbm, ⟨6, _⟩ => ⟨S_, .f32⟩
  | .hbm, ⟨7, _⟩ => ⟨S1024x120, .f32⟩
  | .hbm, ⟨8, _⟩ => ⟨S1024x3200, .f32⟩
  | .hbm, ⟨9, _⟩ => ⟨S1024x3200, .bf16⟩
  | .hbm, ⟨10, _⟩ => ⟨S4096x3200, .f32⟩
  | .hbm, ⟨11, _⟩ => ⟨S4096x1024, .bf16⟩
  | .hbm, ⟨12, _⟩ => ⟨S4096x2048, .f32⟩
  | .hbm, ⟨13, _⟩ => ⟨S4096x8, .f32⟩
  | .hbm, ⟨14, _⟩ => ⟨S4096x1024, .f32⟩
  | .hbm, ⟨15, _⟩ => ⟨S4096x3080, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3200, .bf16⟩
  | .local _ .vmem, ⟨4, _⟩ => ⟨S256x3200, .f32⟩
  | .local _ .vmem, ⟨5, _⟩ => ⟨S256x3200, .f32⟩
  | .local _ .vmem, ⟨6, _⟩ => ⟨S256x1024, .bf16⟩
  | .local _ .vmem, ⟨7, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S4096x1024 : Shape := ⟨2, ![4096, 1024]⟩
abbrev S1x1024 : Shape := ⟨2, ![1, 1024]⟩
abbrev S1024x3080 : Shape := ⟨2, ![1024, 3080]⟩
abbrev S_ : Shape := ⟨0, ![]⟩
abbrev S4096 : Shape := ⟨1, ![4096]⟩
abbrev S4096x1 : Shape := ⟨2, ![4096, 1]⟩
abbrev S4096x3080 : Shape := ⟨2, ![4096, 3080]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3080, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x3080, .f32⟩
  | .hbm, ⟨19, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.FoxBwd.Tiles.lean ====
/- What one step of the backward kernel does, tile by tile, as plain functions of the arrays its windows hold:
   the blocks it loads at a query tile, the attention weights and the logit gradients of one tile, one query
   tile added into the query gradient, and the whole sweep over the query tiles after the diagonal one. Every
   definition is uniform in the head: the kernel's text repeats it four times. -/
module

public import proofs.«01_k».proof.Proof.Gen.KernelIdeal.Skeleton
public import Idealize.ShloMosaic.Lib.ValueIdx
public import Idealize.ShloMosaic.Lib.VecWindow

@[expose] public section

noncomputable section

namespace Cert.FoxBwd

open Idealize.ShloMosaic Idealize.ShloMosaic.ValueIdx Cert.KernelIdeal Cert.KernelIdeal.Gen

variable {F : FTy → Type} [FloatOps F] [Named F]

/-- Head `h`'s block of 256 queries at tile `t`, as it is loaded. -/
def qBlk (Q : Vec F S4x4096x128 .bf16) (h : Fin 4) (t : Fin 16) : Vec F S1x256x128 .bf16 := fun y =>
  Q (ix3 h ⟨256 * t.val + (y 1).val, by have := (y 1).isLt; have := t.isLt; dsimp at *; omega⟩ (y 2))

/-- Head `h`'s block of 256 output cotangents at tile `t`. -/
def doBlk (DO : Vec F S4x4096x64 .bf16) (h : Fin 4) (t : Fin 16) : Vec F S1x256x64 .bf16 := fun y =>
  DO (ix3 h ⟨256 * t.val + (y 1).val, by have := (y 1).isLt; have := t.isLt; dsimp at *; omega⟩ (y 2))

/-- Head `h`'s row of 256 saved numbers (log-sum or delta) at tile `t`. -/
def rowBlk (L : Vec F S4x16x8x256 .f32) (h : Fin 4) (t : Fin 16) : Vec F S1x1x1x256 .f32 := fun y =>
  L (ix4 h t (0 : Fin 8) (y 3))

/-- Head `h`'s tile `t` of the (transposed) query gradient. -/
def dqBlk (D : Vec F S4x16x128x256 .f32) (h : Fin 4) (t : Fin 16) : Vec F S1x1x128x256 .f32 := fun y =>
  D (ix4 h t (y 2) (y 3))

/-- Head `h` of a key block. -/
def kBlk (K : Vec F S4x256x128 .bf16) (h : Fin 4) : Vec F S1x256x128 .bf16 := fun y => K (ix3 h (y 1) (y 2))

/-- Head `h` of a transposed key block. -/
def ktBlk (KT : Vec F S4x1x128x256 .bf16) (h : Fin 4) : Vec F S1x1x128x256 .bf16 := fun y =>
  KT (ix4 h (0 : Fin 1) (y 2) (y 3))

/-- Head `h` of a value block. -/
def vBlk (V : Vec F S4x256x64 .bf16) (h : Fin 4) : Vec F S1x256x64 .bf16 := fun y => V (ix3 h (y 1) (y 2))

/-- The attention weights of query tile `t` against a key block, keys down and queries across. -/
def tileP (kh : FVec F S256x128 .bf16) (Q : Vec F S4x4096x128 .bf16) (LS : Vec F S4x16x8x256 .f32)
    (h : Fin 4) (t : Fin 16) : FVec F S256x256 .bf16 :=
  k0_pay26 (k0_pay17 kh (qBlk Q h t)) (rowBlk LS h t)

/-- The logit gradients of query tile `t` against a key block. -/
def tileDs (kh : FVec F S256x128 .bf16) (vh : FVec F S256x64 .bf16) (Q : Vec F S4x4096x128 .bf16)
    (DO : Vec F S4x4096x64 .bf16) (LS DL : Vec F S4x16x8x256 .f32) (h : Fin 4) (t : Fin 16) :
    FVec F S256x256 .bf16 :=
  k0_pay27 (k0_pay17 kh (qBlk Q h t)) (k0_pay18 vh (doBlk DO h t)) (rowBlk LS h t) (rowBlk DL h t)

/-- `D` with tile `t` of every head replaced. -/
def putTile (D : Vec F S4x16x128x256 .f32) (t : Fin 16) (w : Fin 4 → Vec F S1x1x128x256 .f32) :
    Vec F S4x16x128x256 .f32 := fun y =>
  if (y 1).val = t.val then w (y 0) (ix4 (0 : Fin 1) (0 : Fin 1) (y 2) (y 3)) else D y

/-- The four heads' logit gradients added, through the transposed keys, into tile `t` of the query gradient. -/
def dqStep (kt : Fin 4 → FVec F S128x256 .bf16) (ds : Fin 4 → FVec F S256x256 .bf16)
    (D : Vec F S4x16x128x256 .f32) (t : Fin 16) : Vec F S4x16x128x256 .f32 :=
  putTile D t (fun h => k0_pay37 (kt h) (ds h) (dqBlk D h t))

/-- What the sweep carries: per head the key block's gradient and the value block's. -/
abbrev Acc (F : FTy → Type) := FVec F S256x128 .f32 × FVec F S256x64 .f32 × FVec F S256x128 .f32 × FVec F S256x64 .f32
  × FVec F S256x128 .f32 × FVec F S256x64 .f32 × FVec F S256x128 .f32 × FVec F S256x64 .f32

/-- The carried value of the four heads, by head. -/
abbrev accOf (A : Fin 4 → FVec F S256x128 .f32) (B : Fin 4 → FVec F S256x64 .f32) : Acc F :=
  (A 0, B 0, A 1, B 1, A 2, B 2, A 3, B 3)

/-- The key gradients carried, by head. -/
def Acc.dk (a : Acc F) : Fin 4 → FVec F S256x128 .f32 := ![a.1, a.2.2.1, a.2.2.2.2.1, a.2.2.2.2.2.2.1]

/-- The value gradients carried, by head. -/
def Acc.dv (a : Acc F) : Fin 4 → FVec F S256x64 .f32 := ![a.2.1, a.2.2.2.1, a.2.2.2.2.2.1, a.2.2.2.2.2.2.2]

/-- One query tile added into the gradients of a key block and a value block. -/
def accStep (kh : Fin 4 → FVec F S256x128 .bf16) (vh : Fin 4 → FVec F S256x64 .bf16)
    (Q : Vec F S4x4096x128 .bf16) (DO : Vec F S4x4096x64 .bf16) (LS DL : Vec F S4x16x8x256 .f32)
    (a : Acc F) (t : Fin 16) : Acc F :=
  accOf (fun h => k0_pay38 (Acc.dk a h) (k0_pay9 (qBlk Q h t)) (tileDs (kh h) (vh h) Q DO LS DL h t))
    (fun h => k0_pay39 (Acc.dv a h) (k0_pay13 (doBlk DO h t)) (tileP (kh h) Q LS h t))

/-- The tile trip `k` of the sweep after key block `j` works on. -/
abbrev tileAt (j k : ℕ) : Fin 16 := Fin.ofNat 16 (j + 1 + k)

/-- What is carried before trip `k` of the sweep after key block `j`. -/
def sweepAcc (kh : Fin 4 → FVec F S256x128 .bf16) (vh : Fin 4 → FVec F S256x64 .bf16)
    (Q : Vec F S4x4096x128 .bf16) (DO : Vec F S4x4096x64 .bf16) (LS DL : Vec F S4x16x8x256 .f32) (j : ℕ)
    (a : Acc F) : ℕ → Acc F
  | 0 => a
  | k + 1 => accStep kh vh Q DO LS DL (sweepAcc kh vh Q DO LS DL j a k) (tileAt j k)

/-- The query gradient before trip `k` of the sweep after key block `j`. -/
def sweepDq (kt : Fin 4 → FVec F S128x256 .bf16) (ds : Fin 4 → Fin 16 → FVec F S256x256 .bf16) (j : ℕ)
    (D : Vec F S4x16x128x256 .f32) : ℕ → Vec F S4x16x128x256 .f32
  | 0 => D
  | k + 1 => dqStep kt (fun h => ds h (tileAt j k)) (sweepDq kt ds j D k) (tileAt j k)

end Cert.FoxBwd

end
-- ==== Proof.FoxBwd.Offsets.lean ====
/- Where the backward kernel's loads and stores lie: at the key block `j` of a grid point the diagonal tile is
   tile `j`, and trip `k` of the sweep works on tile `j + 1 + k`; the sweep has `15 − j` trips and the loop
   printed after it has none. -/
module

public import proofs.«01_k».proof.Proof.FoxBwd.Tiles

@[expose] public section

set_option maxRecDepth 16384

namespace Cert.FoxBwd

open Idealize.ShloMosaic Cert.KernelIdeal Cert.KernelIdeal.Gen

/-- The sweep after key block `j` has `15 − j` trips. -/
theorem trips_sweep (i : grid0.Coords) : (k0_t1_loop i).trips = 15 - (i 1).val := by
  have h : ∀ j : Fin 16, ∀ i : grid0.Coords, i 1 = j → (k0_t1_loop i).trips = 15 - (i 1).val := by
    intro j i hj
    unfold k0_t1_loop
    rw [hj]
    clear hj; revert j; decide +kernel
  exact h (i 1) i rfl

/-- The loop printed after the sweep has no trip. -/
theorem trips_rest (i : grid0.Coords) : (k0_t2_loop i).trips = 0 := by
  have h : ∀ j : Fin 16, ∀ i : grid0.Coords, i 1 = j → (k0_t2_loop i).trips = 0 := by
    intro j i hj
    unfold k0_t2_loop
    rw [hj]
    clear hj; revert j; decide +kernel
  exact h (i 1) i rfl

/-- The tile of trip `k` as the kernel computes it. -/
theorem tileAt_word (i : grid0.Coords) (k : Fin (k0_t1_loop i).trips) :
    (Scf.iv (Scalar.addi (BitVec.ofNat 32 (i 1).val) 1#32) 1#32 k.val).toNat = (tileAt (i 1).val k.val).val := by
  have hk : k.val < 15 - (i 1).val := trips_sweep i ▸ k.isLt
  have h : ∀ j : Fin 16, ∀ k : Fin 15, k.val < 15 - j.val →
      (Scf.iv (Scalar.addi (BitVec.ofNat 32 j.val) 1#32) 1#32 k.val).toNat = (tileAt j.val k.val).val := by
    decide +kernel
  exact h (i 1) ⟨k.val, by omega⟩ hk

/-- Its first row as the kernel computes it. -/
theorem rowAt_word (i : grid0.Coords) (k : Fin (k0_t1_loop i).trips) :
    (Scalar.muli (Scf.iv (Scalar.addi (BitVec.ofNat 32 (i 1).val) 1#32) 1#32 k.val) 256#32).toNat
      = 256 * (tileAt (i 1).val k.val).val := by
  have hk : k.val < 15 - (i 1).val := trips_sweep i ▸ k.isLt
  have h : ∀ j : Fin 16, ∀ k : Fin 15, k.val < 15 - j.val →
      (Scalar.muli (Scf.iv (Scalar.addi (BitVec.ofNat 32 j.val) 1#32) 1#32 k.val) 256#32).toNat
        = 256 * (tileAt j.val k.val).val := by
    decide +kernel
  exact h (i 1) ⟨k.val, by omega⟩ hk

/-- The diagonal tile's first row as the kernel computes it. -/
theorem rowDiag_word (i : grid0.Coords) :
    (Scalar.muli (BitVec.ofNat 32 (i 1).val) 256#32).toNat = 256 * (i 1).val := by
  have h : ∀ j : Fin 16, (Scalar.muli (BitVec.ofNat 32 j.val) 256#32).toNat = 256 * j.val := by decide +kernel
  exact h (i 1)

/-- The diagonal tile as the kernel computes it. -/
theorem tileDiag_word (i : grid0.Coords) : (BitVec.ofNat 32 (i 1).val).toNat = (i 1).val := by
  have h : ∀ j : Fin 16, (BitVec.ofNat 32 j.val).toNat = j.val := by decide +kernel
  exact h (i 1)

section
variable (i : grid0.Coords) (k : Fin (k0_t1_loop i).trips)

theorem off17 : k0_off17 i k = ![0, 256 * (tileAt (i 1).val k.val).val, 0] := congrArg (![0, ·, 0]) (rowAt_word i k)
theorem off18 : k0_off18 i k = ![1, 256 * (tileAt (i 1).val k.val).val, 0] := congrArg (![1, ·, 0]) (rowAt_word i k)
theorem off19 : k0_off19 i k = ![2, 256 * (tileAt (i 1).val k.val).val, 0] := congrArg (![2, ·, 0]) (rowAt_word i k)
theorem off20 : k0_off20 i k = ![3, 256 * (tileAt (i 1).val k.val).val, 0] := congrArg (![3, ·, 0]) (rowAt_word i k)
theorem off21 : k0_off21 i k = ![0, 256 * (tileAt (i 1).val k.val).val, 0] := congrArg (![0, ·, 0]) (rowAt_word i k)
theorem off22 : k0_off22 i k = ![1, 256 * (tileAt (i 1).val k.val).val, 0] := congrArg (![1, ·, 0]) (rowAt_word i k)
theorem off23 : k0_off23 i k = ![2, 256 * (tileAt (i 1).val k.val).val, 0] := congrArg (![2, ·, 0]) (rowAt_word i k)
theorem off24 : k0_off24 i k = ![3, 256 * (tileAt (i 1).val k.val).val, 0] := congrArg (![3, ·, 0]) (rowAt_word i k)
theorem off25 : k0_off25 i k = ![0, (tileAt (i 1).val k.val).val, 0, 0] := congrArg (![0, ·, 0, 0]) (tileAt_word i k)
theorem off26 : k0_off26 i k = ![1, (tileAt (i 1).val k.val).val, 0, 0] := congrArg (![1, ·, 0, 0]) (tileAt_word i k)
theorem off27 : k0_off27 i k = ![2, (tileAt (i 1).val k.val).val, 0, 0] := congrArg (![2, ·, 0, 0]) (tileAt_word i k)
theorem off28 : k0_off28 i k = ![3, (tileAt (i 1).val k.val).val, 0, 0] := congrArg (![3, ·, 0, 0]) (tileAt_word i k)
theorem off29 : k0_off29 i k = ![0, (tileAt (i 1).val k.val).val, 0, 0] := congrArg (![0, ·, 0, 0]) (tileAt_word i k)
theorem off30 : k0_off30 i k = ![1, (tileAt (i 1).val k.val).val, 0, 0] := congrArg (![1, ·, 0, 0]) (tileAt_word i k)
theorem off31 : k0_off31 i k = ![2, (tileAt (i 1).val k.val).val, 0, 0] := congrArg (![2, ·, 0, 0]) (tileAt_word i k)
theorem off32 : k0_off32 i k = ![3, (tileAt (i 1).val k.val).val, 0, 0] := congrArg (![3, ·, 0, 0]) (tileAt_word i k)

theorem off1 : k0_off1 i = ![0, 256 * (i 1).val, 0] := congrArg (![0, ·, 0]) (rowDiag_word i)
theorem off2 : k0_off2 i = ![1, 256 * (i 1).val, 0] := congrArg (![1, ·, 0]) (rowDiag_word i)
theorem off3 : k0_off3 i = ![2, 256 * (i 1).val, 0] := congrArg (![2, ·, 0]) (rowDiag_word i)
theorem off4 : k0_off4 i = ![3, 256 * (i 1).val, 0] := congrArg (![3, ·, 0]) (rowDiag_word i)
theorem off5 : k0_off5 i = ![0, 256 * (i 1).val, 0] := congrArg (![0, ·, 0]) (rowDiag_word i)
theorem off6 : k0_off6 i = ![1, 256 * (i 1).val, 0] := congrArg (![1, ·, 0]) (rowDiag_word i)
theorem off7 : k0_off7 i = ![2, 256 * (i 1).val, 0] := congrArg (![2, ·, 0]) (rowDiag_word i)
theorem off8 : k0_off8 i = ![3, 256 * (i 1).val, 0] := congrArg (![3, ·, 0]) (rowDiag_word i)
theorem off9 : k0_off9 i = ![0, (i 1).val, 0, 0] := congrArg (![0, ·, 0, 0]) (tileDiag_word i)
theorem off10 : k0_off10 i = ![1, (i 1).val, 0, 0] := congrArg (![1, ·, 0, 0]) (tileDiag_word i)
theorem off11 : k0_off11 i = ![2, (i 1).val, 0, 0] := congrArg (![2, ·, 0, 0]) (tileDiag_word i)
theorem off12 : k0_off12 i = ![3, (i 1).val, 0, 0] := congrArg (![3, ·, 0, 0]) (tileDiag_word i)
theorem off13 : k0_off13 i = ![0, (i 1).val, 0, 0] := congrArg (![0, ·, 0, 0]) (tileDiag_word i)
theorem off14 : k0_off14 i = ![1, (i 1).val, 0, 0] := congrArg (![1, ·, 0, 0]) (tileDiag_word i)
theorem off15 : k0_off15 i = ![2, (i 1).val, 0, 0] := congrArg (![2, ·, 0, 0]) (tileDiag_word i)
theorem off16 : k0_off16 i = ![3, (i 1).val, 0, 0] := congrArg (![3, ·, 0, 0]) (tileDiag_word i)

end

end Cert.FoxBwd
-- ==== Proof.FoxBwd.Reads.lean ====
/- A load of the backward kernel, read off the array its window holds: the head's block at the tile. -/
module

public import proofs.«01_k».proof.Proof.FoxBwd.Offsets

@[expose] public section

namespace Cert.FoxBwd

open Idealize.ShloMosaic Idealize.ShloMosaic.ValueIdx Cert.KernelIdeal Cert.KernelIdeal.Gen

variable {F : FTy → Type} [FloatOps F] [Named F]
variable {κ : Kind} {sp : Space}

/-- A load of head `h`'s queries at tile `t`. -/
theorem readAt_q (v : View sig κ sp S4x4096x128 .bf16) (f : v.ty.Contents (Elt F)) {off : Fin 3 → ℕ}
    (inb : ∀ a, off a + S1x256x128.size a ≤ S4x4096x128.size a) (h : Fin 4) (t : Fin 16)
    (ho : off = ![h.val, 256 * t.val, 0]) :
    v.readAt (Elt F) (Rect.unit (s := S4x4096x128) off S1x256x128.size inb).toLoadRect f = qBlk (v.read (Elt F) f) h t := by
  subst ho
  funext y
  refine congrArg (v.read (Elt F) f) (funext fun a => Fin.ext ?_)
  have h0 : (y 0).val < 1 := (y 0).isLt
  match a with
  | ⟨0, _⟩ => show h.val + 1 * (y 0).val = h.val; omega
  | ⟨1, _⟩ => show 256 * t.val + 1 * (y 1).val = 256 * t.val + (y 1).val; omega
  | ⟨2, _⟩ => show 0 + 1 * (y 2).val = (y 2).val; omega

/-- A load of head `h`'s output cotangents at tile `t`. -/
theorem readAt_do (v : View sig κ sp S4x4096x64 .bf16) (f : v.ty.Contents (Elt F)) {off : Fin 3 → ℕ}
    (inb : ∀ a, off a + S1x256x64.size a ≤ S4x4096x64.size a) (h : Fin 4) (t : Fin 16)
    (ho : off = ![h.val, 256 * t.val, 0]) :
    v.readAt (Elt F) (Rect.unit (s := S4x4096x64) off S1x256x64.size inb).toLoadRect f = doBlk (v.read (Elt F) f) h t := by
  subst ho
  funext y
  refine congrArg (v.read (Elt F) f) (funext fun a => Fin.ext ?_)
  have h0 : (y 0).val < 1 := (y 0).isLt
  match a with
  | ⟨0, _⟩ => show h.val + 1 * (y 0).val = h.val; omega
  | ⟨1, _⟩ => show 256 * t.val + 1 * (y 1).val = 256 * t.val + (y 1).val; omega
  | ⟨2, _⟩ => show 0 + 1 * (y 2).val = (y 2).val; omega

/-- A load of head `h`'s saved row at tile `t`. -/
theorem readAt_row (v : View sig κ sp S4x16x8x256 .f32) (f : v.ty.Contents (Elt F)) {off : Fin 4 → ℕ}
    (inb : ∀ a, off a + S1x1x1x256.size a ≤ S4x16x8x256.size a) (h : Fin 4) (t : Fin 16)
    (ho : off = ![h.val, t.val, 0, 0]) :
    v.readAt (Elt F) (Rect.unit (s := S4x16x8x256) off S1x1x1x256.size inb).toLoadRect f = rowBlk (v.read (Elt F) f) h t := by
  subst ho
  funext y
  refine congrArg (v.read (Elt F) f) (funext fun a => Fin.ext ?_)
  have h0 : (y 0).val < 1 := (y 0).isLt
  have h1 : (y 1).val < 1 := (y 1).isLt
  have h2 : (y 2).val < 1 := (y 2).isLt
  match a with
  | ⟨0, _⟩ => show h.val + 1 * (y 0).val = h.val; omega
  | ⟨1, _⟩ => show t.val + 1 * (y 1).val = t.val; omega
  | ⟨2, _⟩ => show 0 + 1 * (y 2).val = 0; omega
  | ⟨3, _⟩ => show 0 + 1 * (y 3).val = (y 3).val; omega

/-- A window of the query gradient at head `h` and tile `t`. -/
theorem window_dq (D : Vec F S4x16x128x256 .f32) (h : Fin 4) (t : Fin 16) (inb) :
    VecWindow.window (s := S4x16x128x256) D ![h.val, t.val, 0, 0] S1x1x128x256.size inb = dqBlk D h t := by
  funext y
  refine congrArg D (funext fun a => Fin.ext ?_)
  have h0 : (y 0).val < 1 := (y 0).isLt
  have h1 : (y 1).val < 1 := (y 1).isLt
  match a with
  | ⟨0, _⟩ => show h.val + 1 * (y 0).val = h.val; omega
  | ⟨1, _⟩ => show t.val + 1 * (y 1).val = t.val; omega
  | ⟨2, _⟩ => show 0 + 1 * (y 2).val = (y 2).val; omega
  | ⟨3, _⟩ => show 0 + 1 * (y 3).val = (y 3).val; omega

/-- A load of head `h`'s tile `t` of the query gradient. -/
theorem readAt_dq (v : View sig κ sp S4x16x128x256 .f32) (f : v.ty.Contents (Elt F)) {off : Fin 4 → ℕ}
    (inb : ∀ a, off a + S1x1x128x256.size a ≤ S4x16x128x256.size a) (h : Fin 4) (t : Fin 16)
    (ho : off = ![h.val, t.val, 0, 0]) :
    v.readAt (Elt F) (Rect.unit (s := S4x16x128x256) off S1x1x128x256.size inb).toLoadRect f = dqBlk (v.read (Elt F) f) h t := by
  subst ho
  exact (View.readAt_unit v f inb rfl inb).trans (window_dq _ h t inb)

/-- A load of head `h` of a key block. -/
theorem readAt_k (v : View sig κ sp S4x256x128 .bf16) (f : v.ty.Contents (Elt F)) {off : Fin 3 → ℕ}
    (inb : ∀ a, off a + S1x256x128.size a ≤ S4x256x128.size a) (h : Fin 4) (ho : off = ![h.val, 0, 0]) :
    v.readAt (Elt F) (Rect.unit (s := S4x256x128) off S1x256x128.size inb).toLoadRect f = kBlk (v.read (Elt F) f) h := by
  subst ho
  funext y
  refine congrArg (v.read (Elt F) f) (funext fun a => Fin.ext ?_)
  have h0 : (y 0).val < 1 := (y 0).isLt
  match a with
  | ⟨0, _⟩ => show h.val + 1 * (y 0).val = h.val; omega
  | ⟨1, _⟩ => show 0 + 1 * (y 1).val = (y 1).val; omega
  | ⟨2, _⟩ => show 0 + 1 * (y 2).val = (y 2).val; omega

/-- A load of head `h` of a transposed key block. -/
theorem readAt_kt (v : View sig κ sp S4x1x128x256 .bf16) (f : v.ty.Contents (Elt F)) {off : Fin 4 → ℕ}
    (inb : ∀ a, off a + S1x1x128x256.size a ≤ S4x1x128x256.size a) (h : Fin 4) (ho : off = ![h.val, 0, 0, 0]) :
    v.readAt (Elt F) (Rect.unit (s := S4x1x128x256) off S1x1x128x256.size inb).toLoadRect f = ktBlk (v.read (Elt F) f) h := by
  subst ho
  funext y
  refine congrArg (v.read (Elt F) f) (funext fun a => Fin.ext ?_)
  have h0 : (y 0).val < 1 := (y 0).isLt
  have h1 : (y 1).val < 1 := (y 1).isLt
  match a with
  | ⟨0, _⟩ => show h.val + 1 * (y 0).val = h.val; omega
  | ⟨1, _⟩ => show 0 + 1 * (y 1).val = 0; omega
  | ⟨2, _⟩ => show 0 + 1 * (y 2).val = (y 2).val; omega
  | ⟨3, _⟩ => show 0 + 1 * (y 3).val = (y 3).val; omega

/-- A load of head `h` of a value block. -/
theorem readAt_v (v : View sig κ sp S4x256x64 .bf16) (f : v.ty.Contents (Elt F)) {off : Fin 3 → ℕ}
    (inb : ∀ a, off a + S1x256x64.size a ≤ S4x256x64.size a) (h : Fin 4) (ho : off = ![h.val, 0, 0]) :
    v.readAt (Elt F) (Rect.unit (s := S4x256x64) off S1x256x64.size inb).toLoadRect f = vBlk (v.read (Elt F) f) h := by
  subst ho
  funext y
  refine congrArg (v.read (Elt F) f) (funext fun a => Fin.ext ?_)
  have h0 : (y 0).val < 1 := (y 0).isLt
  match a with
  | ⟨0, _⟩ => show h.val + 1 * (y 0).val = h.val; omega
  | ⟨1, _⟩ => show 0 + 1 * (y 1).val = (y 1).val; omega
  | ⟨2, _⟩ => show 0 + 1 * (y 2).val = (y 2).val; omega

/-- The block of another head is untouched by a store at head `h`. -/
theorem dqBlk_put_ne (D : Vec F S4x16x128x256 .f32) (h h' : Fin 4) (t : Fin 16) (hne : h ≠ h')
    (w : Vec F S1x1x128x256 .f32) :
    dqBlk (VecWindow.put (s := S4x16x128x256) D ![h.val, t.val, 0, 0] S1x1x128x256.size w) h' t = dqBlk D h' t := by
  funext y
  refine dif_neg fun hall => hne (Fin.ext ?_)
  have h1 : h.val ≤ h'.val ∧ h'.val < h.val + 1 := hall 0
  omega

/-- Stores at the four heads' tile `t` replace that tile. -/
theorem put_heads (D : Vec F S4x16x128x256 .f32) (t : Fin 16) (w : Fin 4 → Vec F S1x1x128x256 .f32) :
    VecWindow.put (s := S4x16x128x256) (VecWindow.put (s := S4x16x128x256) (VecWindow.put (s := S4x16x128x256)
      (VecWindow.put (s := S4x16x128x256) D ![(0 : Fin 4).val, t.val, 0, 0] S1x1x128x256.size (w 0))
        ![(1 : Fin 4).val, t.val, 0, 0] S1x1x128x256.size (w 1))
        ![(2 : Fin 4).val, t.val, 0, 0] S1x1x128x256.size (w 2))
        ![(3 : Fin 4).val, t.val, 0, 0] S1x1x128x256.size (w 3) = putTile D t w := by
  have pos : ∀ (X : Vec F S4x16x128x256 .f32) (h : Fin 4) (y : S4x16x128x256.Idx), y 0 = h → (y 1).val = t.val →
      VecWindow.put (s := S4x16x128x256) X ![h.val, t.val, 0, 0] S1x1x128x256.size (w h) y
        = w (y 0) (ix4 (0 : Fin 1) (0 : Fin 1) (y 2) (y 3)) := by
    intro X h y h0 h1
    have hall : ∀ a, (![h.val, t.val, 0, 0] : Fin 4 → ℕ) a ≤ (y a).val
        ∧ (y a).val < (![h.val, t.val, 0, 0] : Fin 4 → ℕ) a + S1x1x128x256.size a := by
      have e0 : (y 0).val = h.val := congrArg Fin.val h0
      have e2 : (y 2).val < 128 := (y 2).isLt
      have e3 : (y 3).val < 256 := (y 3).isLt
      intro a
      match a with
      | ⟨0, _⟩ => show h.val ≤ (y 0).val ∧ (y 0).val < h.val + 1; omega
      | ⟨1, _⟩ => show t.val ≤ (y 1).val ∧ (y 1).val < t.val + 1; omega
      | ⟨2, _⟩ => show 0 ≤ (y 2).val ∧ (y 2).val < 0 + 128; omega
      | ⟨3, _⟩ => show 0 ≤ (y 3).val ∧ (y 3).val < 0 + 256; omega
    refine (dif_pos hall).trans ?_
    rw [h0]
    refine congrArg (w h) (funext fun a => Fin.ext ?_)
    have e0 : (y 0).val = h.val := congrArg Fin.val h0
    match a with
    | ⟨0, _⟩ => show (y 0).val - h.val = 0; omega
    | ⟨1, _⟩ => show (y 1).val - t.val = 0; omega
    | ⟨2, _⟩ => show (y 2).val - 0 = (y 2).val; omega
    | ⟨3, _⟩ => show (y 3).val - 0 = (y 3).val; omega
  have neg : ∀ (X : Vec F S4x16x128x256 .f32) (h : Fin 4) (y : S4x16x128x256.Idx), ¬ (y 0 = h ∧ (y 1).val = t.val) →
      VecWindow.put (s := S4x16x128x256) X ![h.val, t.val, 0, 0] S1x1x128x256.size (w h) y = X y := by
    intro X h y hn
    refine dif_neg fun hall => hn ⟨Fin.ext ?_, ?_⟩
    · have : h.val ≤ (y 0).val ∧ (y 0).val < h.val + 1 := hall 0
      omega
    · have : t.val ≤ (y 1).val ∧ (y 1).val < t.val + 1 := hall 1
      omega
  funext y
  by_cases ht : (y 1).val = t.val
  · refine Eq.trans ?_ (if_pos ht).symm
    rcases (by decide : ∀ h : Fin 4, h = 0 ∨ h = 1 ∨ h = 2 ∨ h = 3) (y 0) with h | h | h | h
    · rw [neg _ 3 y (fun e => by rw [h] at e; exact absurd e.1 (by decide : (0 : Fin 4) ≠ 3)),
        neg _ 2 y (fun e => by rw [h] at e; exact absurd e.1 (by decide : (0 : Fin 4) ≠ 2)),
        neg _ 1 y (fun e => by rw [h] at e; exact absurd e.1 (by decide : (0 : Fin 4) ≠ 1)), pos _ 0 y h ht]
    · rw [neg _ 3 y (fun e => by rw [h] at e; exact absurd e.1 (by decide : (1 : Fin 4) ≠ 3)),
        neg _ 2 y (fun e => by rw [h] at e; exact absurd e.1 (by decide : (1 : Fin 4) ≠ 2)), pos _ 1 y h ht]
    · rw [neg _ 3 y (fun e => by rw [h] at e; exact absurd e.1 (by decide : (2 : Fin 4) ≠ 3)), pos _ 2 y h ht]
    · rw [pos _ 3 y h ht]
  · refine Eq.trans ?_ (if_neg ht).symm
    rw [neg _ 3 y (fun e => ht e.2), neg _ 2 y (fun e => ht e.2), neg _ 1 y (fun e => ht e.2), neg _ 0 y (fun e => ht e.2)]

/-- The same, the four payloads given one by one. -/
theorem put_heads_of (D : Vec F S4x16x128x256 .f32) (t : Fin 16) (w : Fin 4 → Vec F S1x1x128x256 .f32)
    {w0 w1 w2 w3 : Vec F S1x1x128x256 .f32} (h0 : w0 = w 0) (h1 : w1 = w 1) (h2 : w2 = w 2) (h3 : w3 = w 3) :
    VecWindow.put (s := S4x16x128x256) (VecWindow.put (s := S4x16x128x256) (VecWindow.put (s := S4x16x128x256)
      (VecWindow.put (s := S4x16x128x256) D ![(0 : Fin 4).val, t.val, 0, 0] S1x1x128x256.size w0)
        ![(1 : Fin 4).val, t.val, 0, 0] S1x1x128x256.size w1)
        ![(2 : Fin 4).val, t.val, 0, 0] S1x1x128x256.size w2)
        ![(3 : Fin 4).val, t.val, 0, 0] S1x1x128x256.size w3 = putTile D t w := by
  subst h0 h1 h2 h3
  exact put_heads D t w

/-- Stores at the four heads' tile `t`, through a view. -/
theorem read_writes_heads (v : View sig κ sp S4x16x128x256 .f32) (f : v.ty.Contents (Elt F)) (t : Fin 16)
    (w : Fin 4 → Vec F S1x1x128x256 .f32) {o0 o1 o2 o3 : Fin 4 → ℕ}
    (b0 : ∀ a, o0 a + S1x1x128x256.size a ≤ S4x16x128x256.size a) (b1 : ∀ a, o1 a + S1x1x128x256.size a ≤ S4x16x128x256.size a)
    (b2 : ∀ a, o2 a + S1x1x128x256.size a ≤ S4x16x128x256.size a) (b3 : ∀ a, o3 a + S1x1x128x256.size a ≤ S4x16x128x256.size a)
    (e0 : o0 = ![(0 : Fin 4).val, t.val, 0, 0]) (e1 : o1 = ![(1 : Fin 4).val, t.val, 0, 0])
    (e2 : o2 = ![(2 : Fin 4).val, t.val, 0, 0]) (e3 : o3 = ![(3 : Fin 4).val, t.val, 0, 0])
    {w0 w1 w2 w3 : Vec F S1x1x128x256 .f32} (h0 : w0 = w 0) (h1 : w1 = w 1) (h2 : w2 = w 2) (h3 : w3 = w 3)
    (L : List (View.Piece (Elt F) S4x16x128x256 .f32)) :
    v.read (Elt F) (v.writes (Elt F) f (⟨Rect.unit (s := S4x16x128x256) o3 S1x1x128x256.size b3, w3⟩
      :: ⟨Rect.unit (s := S4x16x128x256) o2 S1x1x128x256.size b2, w2⟩
      :: ⟨Rect.unit (s := S4x16x128x256) o1 S1x1x128x256.size b1, w1⟩
      :: ⟨Rect.unit (s := S4x16x128x256) o0 S1x1x128x256.size b0, w0⟩ :: L))
      = putTile (v.read (Elt F) (v.writes (Elt F) f L)) t w := by
  rw [View.read_writes_cons_put v f b3 w3 _ e3, View.read_writes_cons_put v f b2 w2 _ e2,
    View.read_writes_cons_put v f b1 w1 _ e1, View.read_writes_cons_put v f b0 w0 _ e0]
  exact put_heads_of _ t w h0 h1 h2 h3

end Cert.FoxBwd
-- ==== Proof.FoxBwd.Trip.lean ====
/- One trip of the sweep, run: it reads the queries, the output cotangents and the two saved rows of its tile,
   adds its share into the carried gradients and into its tile of the query gradient, and changes nothing else. -/
module

public import proofs.«01_k».proof.Proof.FoxBwd.Reads
public import Idealize.ShloMosaic.Lib.Exec
public import Idealize.ShloMosaic.Lib.Tactic
public import Idealize.ShloMosaic.Lib.Pipeline.Kit

@[expose] public section

set_option maxRecDepth 16384

noncomputable section

namespace Cert.FoxBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄G" => MT nD τ sig Unit (Elt F) ℕ (UR sig nD τ) ℕ

section
variable (𝒱 : Variants) (c : Dev nD) (bd : Option 𝒱.V) (E : Set ℕ) (i : grid0.Coords)
  (arg2 : Memref sig .tc .vmem S4x4096x128 .bf16) (harg2 : arg2.IsWhole) (arg3 : Memref sig .tc .vmem S4x256x128 .bf16) (harg3 : arg3.IsWhole)
  (arg4 : Memref sig .tc .vmem S4x1x128x256 .bf16) (harg4 : arg4.IsWhole) (arg5 : Memref sig .tc .vmem S4x256x64 .bf16) (harg5 : arg5.IsWhole)
  (arg6 : Memref sig .tc .vmem S4x4096x64 .bf16) (harg6 : arg6.IsWhole) (arg7 : Memref sig .tc .vmem S4x16x8x256 .f32) (harg7 : arg7.IsWhole)
  (arg8 : Memref sig .tc .vmem S4x16x8x256 .f32) (harg8 : arg8.IsWhole) (arg9 : Memref sig .tc .vmem S4x16x128x256 .f32) (harg9 : arg9.IsWhole)
  (arg10 : Memref sig .tc .vmem S4x256x128 .f32) (harg10 : arg10.IsWhole) (arg11 : Memref sig .tc .vmem S4x256x64 .f32) (harg11 : arg11.IsWhole)
  (arg1 : BitVec 32) (v4 v6 v8 v10 : FVec F S256x128 .bf16) (v12 v14 v16 v18 : FVec F S128x256 .bf16) (v20 v22 v24 v26 : FVec F S256x64 .bf16)
  (v31 : FVec F S256x128 .f32) (v32 : FVec F S256x64 .f32) (v33 : FVec F S256x128 .f32) (v34 : FVec F S256x64 .f32)
  (v45 v48 : FVec F S256x128 .bf16) (v57 v60 : FVec F S256x64 .bf16) (v118 v125 v137 v144 : FVec F S256x256 .bf16)
  (v155 : FVec F S256x128 .f32) (v157 : FVec F S256x64 .f32) (v168 : FVec F S256x128 .f32) (v170 : FVec F S256x64 .f32) (v197 : BitVec 32)
  (X2 : BufTy.Contents (Elt F) arg2.view.ty) (X6 : BufTy.Contents (Elt F) arg6.view.ty)
  (X7 : BufTy.Contents (Elt F) arg7.view.ty) (X8 : BufTy.Contents (Elt F) arg8.view.ty)

/-- What the sweep reads, at its contents, and the query gradient at the contents `f`. -/
abbrev SweepRes (f : BufTy.Contents (Elt F) arg9.view.ty) : sProp 𝕄G :=
  iprop((arg2.view.loc (c : Thread nD τ) ↦[arg2.view.set]{fullShare} X2) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f))

set_option maxHeartbeats 2000000 in
/-- One trip of the sweep. -/
theorem sweep_trip (k : Fin (k0_t1_loop i).trips) (acc : Acc F) (f : BufTy.Contents (Elt F) arg9.view.ty) :
    SweepRes (F := F) c arg2 arg6 arg7 arg8 arg9 X2 X6 X7 X8 f
      ⊢ wp frame (wpE (defs₀ (F := F)) 𝒱 (c : Thread nD τ) bd) E
          (k0_t1_body (F := F) i arg2 harg2 arg3 harg3 arg4 harg4 arg5 harg5 arg6 harg6 arg7 harg7 arg8 harg8 arg9 harg9 arg10 harg10 arg11 harg11 arg1 v4 v6 v8 v10 v12 v14 v16 v18 v20 v22 v24 v26 v31 v32 v33 v34 v45 v48 v57 v60 v118 v125 v137 v144 v155 v157 v168 v170 v197 k acc)
          (fun yld => iprop(⌜yld = accStep ![v4, v6, v8, v10] ![v20, v22, v24, v26] (arg2.view.read (Elt F) X2)
              (arg6.view.read (Elt F) X6) (arg7.view.read (Elt F) X7) (arg8.view.read (Elt F) X8) acc (tileAt (i 1).val k.val)⌝
            ∗ SweepRes (F := F) c arg2 arg6 arg7 arg8 arg9 X2 X6 X7 X8
                (harg9.unread (dqStep ![v12, v14, v16, v18] (fun h => tileDs ((![v4, v6, v8, v10] : Fin 4 → _) h)
                  ((![v20, v22, v24, v26] : Fin 4 → _) h) (arg2.view.read (Elt F) X2) (arg6.view.read (Elt F) X6)
                  (arg7.view.read (Elt F) X7) (arg8.view.read (Elt F) X8) h (tileAt (i 1).val k.val))
                  (arg9.view.read (Elt F) f) (tileAt (i 1).val k.val))))) := by
  unfold k0_t1_body
  iintro ⟨H2, H6, H7, H8, H9⟩
  sl_exec
  sl_step
  isplitr
  · ipureintro
    unfold accStep accOf tileDs tileP
    dsimp only
    rw [← readAt_q arg2.view X2 (k0_off17_inb i k) 0 _ (off17 i k), ← readAt_do arg6.view X6 (k0_off21_inb i k) 0 _ (off21 i k), ← readAt_row arg7.view X7 (k0_off25_inb i k) 0 _ (off25 i k), ← readAt_row arg8.view X8 (k0_off25_inb i k) 0 _ (off25 i k),
      ← readAt_q arg2.view X2 (k0_off18_inb i k) 1 _ (off18 i k), ← readAt_do arg6.view X6 (k0_off22_inb i k) 1 _ (off22 i k), ← readAt_row arg7.view X7 (k0_off26_inb i k) 1 _ (off26 i k), ← readAt_row arg8.view X8 (k0_off26_inb i k) 1 _ (off26 i k),
      ← readAt_q arg2.view X2 (k0_off19_inb i k) 2 _ (off19 i k), ← readAt_do arg6.view X6 (k0_off23_inb i k) 2 _ (off23 i k), ← readAt_row arg7.view X7 (k0_off27_inb i k) 2 _ (off27 i k), ← readAt_row arg8.view X8 (k0_off27_inb i k) 2 _ (off27 i k),
      ← readAt_q arg2.view X2 (k0_off20_inb i k) 3 _ (off20 i k), ← readAt_do arg6.view X6 (k0_off24_inb i k) 3 _ (off24 i k), ← readAt_row arg7.view X7 (k0_off28_inb i k) 3 _ (off28 i k), ← readAt_row arg8.view X8 (k0_off28_inb i k) 3 _ (off28 i k)]
    rfl
  · have e9 : ∀ L : List (View.Piece (Elt F) S4x16x128x256 .f32), (arg9.view.read (Elt F) (arg9.view.writes (Elt F) f L)
        = dqStep ![v12, v14, v16, v18] (fun h => tileDs ((![v4, v6, v8, v10] : Fin 4 → _) h)
                  ((![v20, v22, v24, v26] : Fin 4 → _) h) (arg2.view.read (Elt F) X2) (arg6.view.read (Elt F) X6)
                  (arg7.view.read (Elt F) X7) (arg8.view.read (Elt F) X8) h (tileAt (i 1).val k.val))
                  (arg9.view.read (Elt F) f) (tileAt (i 1).val k.val)) → arg9.view.writes (Elt F) f L = harg9.unread _ :=
      fun L h => harg9.eq_unread h
    rw [e9 _ (by
      refine read_writes_heads arg9.view f (tileAt (i 1).val k.val) _ (k0_off29_inb i k) (k0_off30_inb i k) (k0_off31_inb i k)
        (k0_off32_inb i k) (off29 i k) (off30 i k) (off31 i k) (off32 i k) ?_ ?_ ?_ ?_ []
      · show _ = k0_pay37 v12 (k0_pay27 (k0_pay17 v4 (qBlk _ 0 _)) (k0_pay18 v20 (doBlk _ 0 _)) (rowBlk _ 0 _) (rowBlk _ 0 _)) (dqBlk _ 0 _)
        rw [← readAt_q arg2.view X2 (k0_off17_inb i k) 0 _ (off17 i k), ← readAt_do arg6.view X6 (k0_off21_inb i k) 0 _ (off21 i k), ← readAt_row arg7.view X7 (k0_off25_inb i k) 0 _ (off25 i k), ← readAt_row arg8.view X8 (k0_off25_inb i k) 0 _ (off25 i k), ← readAt_dq arg9.view f (k0_off29_inb i k) 0 _ (off29 i k)]
        rfl
      · show _ = k0_pay37 v14 (k0_pay27 (k0_pay17 v6 (qBlk _ 1 _)) (k0_pay18 v22 (doBlk _ 1 _)) (rowBlk _ 1 _) (rowBlk _ 1 _)) (dqBlk _ 1 _)
        rw [← readAt_q arg2.view X2 (k0_off18_inb i k) 1 _ (off18 i k), ← readAt_do arg6.view X6 (k0_off22_inb i k) 1 _ (off22 i k), ← readAt_row arg7.view X7 (k0_off26_inb i k) 1 _ (off26 i k), ← readAt_row arg8.view X8 (k0_off26_inb i k) 1 _ (off26 i k), ← readAt_dq arg9.view f (k0_off30_inb i k) 1 _ (off30 i k)]
        rfl
      · show _ = k0_pay37 v16 (k0_pay27 (k0_pay17 v8 (qBlk _ 2 _)) (k0_pay18 v24 (doBlk _ 2 _)) (rowBlk _ 2 _) (rowBlk _ 2 _)) (dqBlk _ 2 _)
        rw [← readAt_q arg2.view X2 (k0_off19_inb i k) 2 _ (off19 i k), ← readAt_do arg6.view X6 (k0_off23_inb i k) 2 _ (off23 i k), ← readAt_row arg7.view X7 (k0_off27_inb i k) 2 _ (off27 i k), ← readAt_row arg8.view X8 (k0_off27_inb i k) 2 _ (off27 i k), ← readAt_dq arg9.view f (k0_off31_inb i k) 2 _ (off31 i k)]
        rfl
      · show _ = k0_pay37 v18 (k0_pay27 (k0_pay17 v10 (qBlk _ 3 _)) (k0_pay18 v26 (doBlk _ 3 _)) (rowBlk _ 3 _) (rowBlk _ 3 _)) (dqBlk _ 3 _)
        rw [← readAt_q arg2.view X2 (k0_off20_inb i k) 3 _ (off20 i k), ← readAt_do arg6.view X6 (k0_off24_inb i k) 3 _ (off24 i k), ← readAt_row arg7.view X7 (k0_off28_inb i k) 3 _ (off28 i k), ← readAt_row arg8.view X8 (k0_off28_inb i k) 3 _ (off28 i k), ← readAt_dq arg9.view f (k0_off32_inb i k) 3 _ (off32 i k)]
        rfl)]
    sl_close

end

end Cert.FoxBwd

end
-- ==== Proof.FoxBwd.Sweep.lean ====
/- The sweep over the query tiles after the diagonal one, as the invariant of the kernel's loop: before trip `k`
   the query gradient holds what `k` steps leave in it and the carried gradients are those of `k` steps. -/
module

public import proofs.«01_k».proof.Proof.FoxBwd.Trip
public import Idealize.ShloMosaic.Lib.Exec
public import Idealize.ShloMosaic.Lib.Tactic
public import Idealize.ShloMosaic.Lib.Pipeline.Kit

@[expose] public section

set_option maxRecDepth 16384

noncomputable section

namespace Cert.FoxBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄G" => MT nD τ sig Unit (Elt F) ℕ (UR sig nD τ) ℕ

section
variable (𝒱 : Variants) (c : Dev nD) (bd : Option 𝒱.V) (E : Set ℕ) (i : grid0.Coords)
  (arg2 : Memref sig .tc .vmem S4x4096x128 .bf16) (harg2 : arg2.IsWhole) (arg3 : Memref sig .tc .vmem S4x256x128 .bf16) (harg3 : arg3.IsWhole)
  (arg4 : Memref sig .tc .vmem S4x1x128x256 .bf16) (harg4 : arg4.IsWhole) (arg5 : Memref sig .tc .vmem S4x256x64 .bf16) (harg5 : arg5.IsWhole)
  (arg6 : Memref sig .tc .vmem S4x4096x64 .bf16) (harg6 : arg6.IsWhole) (arg7 : Memref sig .tc .vmem S4x16x8x256 .f32) (harg7 : arg7.IsWhole)
  (arg8 : Memref sig .tc .vmem S4x16x8x256 .f32) (harg8 : arg8.IsWhole) (arg9 : Memref sig .tc .vmem S4x16x128x256 .f32) (harg9 : arg9.IsWhole)
  (arg10 : Memref sig .tc .vmem S4x256x128 .f32) (harg10 : arg10.IsWhole) (arg11 : Memref sig .tc .vmem S4x256x64 .f32) (harg11 : arg11.IsWhole)
  (arg1 : BitVec 32) (v4 v6 v8 v10 : FVec F S256x128 .bf16) (v12 v14 v16 v18 : FVec F S128x256 .bf16) (v20 v22 v24 v26 : FVec F S256x64 .bf16)
  (v31 : FVec F S256x128 .f32) (v32 : FVec F S256x64 .f32) (v33 : FVec F S256x128 .f32) (v34 : FVec F S256x64 .f32)
  (v45 v48 : FVec F S256x128 .bf16) (v57 v60 : FVec F S256x64 .bf16) (v118 v125 v137 v144 : FVec F S256x256 .bf16)
  (v155 : FVec F S256x128 .f32) (v157 : FVec F S256x64 .f32) (v168 : FVec F S256x128 .f32) (v170 : FVec F S256x64 .f32) (v197 : BitVec 32)

/-- What the query gradient's buffer holds before trip `k` of the sweep, from the contents `G`. -/
def sweepCont (kt : Fin 4 → FVec F S128x256 .bf16) (ds : Fin 4 → Fin 16 → FVec F S256x256 .bf16)
    (G : BufTy.Contents (Elt F) arg9.view.ty) : ℕ → BufTy.Contents (Elt F) arg9.view.ty
  | 0 => G
  | k + 1 => harg9.unread (dqStep kt (fun h => ds h (tileAt (i 1).val k))
      (arg9.view.read (Elt F) (sweepCont kt ds G k)) (tileAt (i 1).val k))

/-- Read off the buffer, it is the sweep on arrays. -/
theorem read_sweepCont (kt : Fin 4 → FVec F S128x256 .bf16) (ds : Fin 4 → Fin 16 → FVec F S256x256 .bf16)
    (G : BufTy.Contents (Elt F) arg9.view.ty) (k : ℕ) :
    arg9.view.read (Elt F) (sweepCont i arg9 harg9 kt ds G k) = sweepDq kt ds (i 1).val (arg9.view.read (Elt F) G) k := by
  induction k with
  | zero => rfl
  | succ k ih =>
    show arg9.view.read (Elt F) (harg9.unread _) = _
    rw [harg9.read_unread, ih]
    rfl

variable (X2 : BufTy.Contents (Elt F) arg2.view.ty) (X6 : BufTy.Contents (Elt F) arg6.view.ty)
  (X7 : BufTy.Contents (Elt F) arg7.view.ty) (X8 : BufTy.Contents (Elt F) arg8.view.ty)

set_option warn.classDefReducibility false in
/-- The loop's invariant. -/
@[sl_loop] def sweepInv (G : BufTy.Contents (Elt F) arg9.view.ty) (init : Acc F) :
    Idealize.ShloMosaic.LoopInv (M := 𝕄G) Idealize.ShloMosaic.frame (wpE defs₀ 𝒱 (c : Thread nD τ) bd) E
      (k0_t1_loop i).lb (k0_t1_loop i).ub (k0_t1_loop i).st (k0_t1_ok i) init
      (k0_t1_body (F := F) i arg2 harg2 arg3 harg3 arg4 harg4 arg5 harg5 arg6 harg6 arg7 harg7 arg8 harg8 arg9 harg9 arg10 harg10 arg11 harg11 arg1 v4 v6 v8 v10 v12 v14 v16 v18 v20 v22 v24 v26 v31 v32 v33 v34 v45 v48 v57 v60 v118 v125 v137 v144 v155 v157 v168 v170 v197) where
  inv := fun k acc => iprop((arg2.view.loc (c : Thread nD τ) ↦[arg2.view.set]{fullShare} X2)
    ∗ (arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} X8)
    ∗ (∃ f, (arg9.view.loc (c : Thread nD τ) ↦[arg9.view.set]{fullShare} f)
      ∗ ⌜f = sweepCont i arg9 harg9 ![v12, v14, v16, v18] (fun h t => tileDs ((![v4, v6, v8, v10] : Fin 4 → _) h)
        ((![v20, v22, v24, v26] : Fin 4 → _) h) (arg2.view.read (Elt F) X2) (arg6.view.read (Elt F) X6)
        (arg7.view.read (Elt F) X7) (arg8.view.read (Elt F) X8) h t) G k⌝)
    ∗ ⌜acc = sweepAcc ![v4, v6, v8, v10] ![v20, v22, v24, v26] (arg2.view.read (Elt F) X2) (arg6.view.read (Elt F) X6)
        (arg7.view.read (Elt F) X7) (arg8.view.read (Elt F) X8) (i 1).val init k⌝)
  step k acc := by
    iintro ⟨H2, H6, H7, H8, ⟨%f, H9, %h9⟩, %ha⟩
    iapply (wp_wand_r Idealize.ShloMosaic.frame (wpE (defs₀ (F := F)) 𝒱 (c : Thread nD τ) bd) E)
    isplitl [H2 H6 H7 H8 H9]
    · iapply (sweep_trip (F := F) 𝒱 c bd E i arg2 harg2 arg3 harg3 arg4 harg4 arg5 harg5 arg6 harg6 arg7 harg7 arg8 harg8 arg9 harg9 arg10 harg10 arg11 harg11 arg1 v4 v6 v8 v10 v12 v14 v16 v18 v20 v22 v24 v26 v31 v32 v33 v34 v45 v48 v57 v60 v118 v125 v137 v144 v155 v157 v168 v170 v197 X2 X6 X7 X8 k acc f)
      isplitl [H2]; · iexact H2
      isplitl [H6]; · iexact H6
      isplitl [H7]; · iexact H7
      isplitl [H8]; · iexact H8
      iexact H9
    · iintro %yld ⟨%hr, H2, H6, H7, H8, H9⟩
      isplitl [H2]; · iexact H2
      isplitl [H6]; · iexact H6
      isplitl [H7]; · iexact H7
      isplitl [H8]; · iexact H8
      isplitl [H9]
      · iexists _; isplitl [H9]; · iexact H9
        ipureintro
        rw [h9]
        rfl
      ipureintro
      rw [hr, ha]
      rfl

end

end Cert.FoxBwd

end
-- ==== Proof.FoxBwd.Point.lean ====
/- What the kernel's body computes at one grid point, as plain functions of the arrays its windows hold: the tile on
   the diagonal, which the causal mask cuts, and then the sweep over the later query tiles. -/
module

public import proofs.«01_k».proof.Proof.FoxBwd.Reads
public import Idealize.ShloMosaic.Lib.ValueLayout

@[expose] public section

noncomputable section

namespace Cert.FoxBwd

open Idealize.ShloMosaic Idealize.ShloMosaic.ValueIdx Cert.KernelIdeal Cert.KernelIdeal.Gen

variable {F : FTy → Type} [FloatOps F] [Named F]

/-- The key block's number, which is also the number of the query tile on the diagonal. -/
abbrev diagTile (i : grid0.Coords) : Fin 16 := ⟨(i 1).val, (i 1).isLt⟩

/-- The four heads of a key block, as matrices. -/
def keysOf (K : Vec F S4x256x128 .bf16) : Fin 4 → FVec F S256x128 .bf16 :=
  ![k0_pay74 (kBlk K 0), k0_pay75 (kBlk K 1), k0_pay76 (kBlk K 2), k0_pay77 (kBlk K 3)]

/-- The four heads of a transposed key block, as matrices. -/
def keysTOf (KT : Vec F S4x1x128x256 .bf16) : Fin 4 → FVec F S128x256 .bf16 :=
  ![k0_pay78 (ktBlk KT 0), k0_pay79 (ktBlk KT 1), k0_pay80 (ktBlk KT 2), k0_pay81 (ktBlk KT 3)]

/-- The four heads of a value block, as matrices. -/
def valsOf (V : Vec F S4x256x64 .bf16) : Fin 4 → FVec F S256x64 .bf16 :=
  ![k0_pay82 (vBlk V 0), k0_pay83 (vBlk V 1), k0_pay84 (vBlk V 2), k0_pay85 (vBlk V 3)]

theorem keysOf_apply (K : Vec F S4x256x128 .bf16) (h : Fin 4) : keysOf K h = k0_pay74 (kBlk K h) := by
  match h with
  | 0 => rfl
  | 1 => rfl
  | 2 => rfl
  | 3 => rfl

theorem keysTOf_apply (KT : Vec F S4x1x128x256 .bf16) (h : Fin 4) : keysTOf KT h = k0_pay78 (ktBlk KT h) := by
  match h with
  | 0 => rfl
  | 1 => rfl
  | 2 => rfl
  | 3 => rfl

theorem valsOf_apply (V : Vec F S4x256x64 .bf16) (h : Fin 4) : valsOf V h = k0_pay82 (vBlk V h) := by
  match h with
  | 0 => rfl
  | 1 => rfl
  | 2 => rfl
  | 3 => rfl

/-- The attention weights of the diagonal tile: a query sees the keys up to its own. -/
def diagP (kh : FVec F S256x128 .bf16) (Q : Vec F S4x4096x128 .bf16) (LS : Vec F S4x16x8x256 .f32)
    (h : Fin 4) (t : Fin 16) : FVec F S256x256 .bf16 :=
  k0_pay108 kh (k0_pay94 (qBlk Q h t)) (rowBlk LS h t)

/-- The logit gradients of the diagonal tile. -/
def diagDs (kh : FVec F S256x128 .bf16) (vh : FVec F S256x64 .bf16) (Q : Vec F S4x4096x128 .bf16)
    (DO : Vec F S4x4096x64 .bf16) (LS DL : Vec F S4x16x8x256 .f32) (h : Fin 4) (t : Fin 16) :
    FVec F S256x256 .bf16 :=
  k0_pay109 kh vh (k0_pay94 (qBlk Q h t)) (k0_pay98 (doBlk DO h t)) (rowBlk LS h t) (rowBlk DL h t)

/-- The diagonal tile's share of the gradients of the key block and of the value block. -/
def diagAcc (kh : Fin 4 → FVec F S256x128 .bf16) (vh : Fin 4 → FVec F S256x64 .bf16)
    (Q : Vec F S4x4096x128 .bf16) (DO : Vec F S4x4096x64 .bf16) (LS DL : Vec F S4x16x8x256 .f32) (t : Fin 16) : Acc F :=
  accOf (fun h => k0_pay121 k0_pay86 (k0_pay94 (qBlk Q h t)) (diagDs (kh h) (vh h) Q DO LS DL h t))
    (fun h => k0_pay122 k0_pay87 (k0_pay98 (doBlk DO h t)) (diagP (kh h) Q LS h t))

/-- The gradients of a key block and of its value block: the diagonal tile and `n` later ones. -/
def pointAcc (K : Vec F S4x256x128 .bf16) (V : Vec F S4x256x64 .bf16) (Q : Vec F S4x4096x128 .bf16)
    (DO : Vec F S4x4096x64 .bf16) (LS DL : Vec F S4x16x8x256 .f32) (t : Fin 16) (n : ℕ) : Acc F :=
  sweepAcc (keysOf K) (valsOf V) Q DO LS DL t.val (diagAcc (keysOf K) (valsOf V) Q DO LS DL t) n

/-- The query gradient `D` after a key block's diagonal tile and `n` later ones. -/
def pointDq (K : Vec F S4x256x128 .bf16) (KT : Vec F S4x1x128x256 .bf16) (V : Vec F S4x256x64 .bf16)
    (Q : Vec F S4x4096x128 .bf16) (DO : Vec F S4x4096x64 .bf16) (LS DL : Vec F S4x16x8x256 .f32) (t : Fin 16)
    (D : Vec F S4x16x128x256 .f32) (n : ℕ) : Vec F S4x16x128x256 .f32 :=
  sweepDq (keysTOf KT) (fun h t => tileDs (keysOf K h) (valsOf V h) Q DO LS DL h t) t.val
    (dqStep (keysTOf KT) (fun h => diagDs (keysOf K h) (valsOf V h) Q DO LS DL h t) D t) n

/-- The first key block of a group of heads: the kernel's one condition. -/
abbrev firstBlock (i : grid0.Coords) : Prop :=
  Scalar.cmpi .ne (Scalar.extui (Scalar.cmpi .eq (BitVec.ofNat 32 (i 1).val) 0#32) : BitVec 32) 0#32 = 1#1

/-- A load of one head's tile sees through a store at another head's. -/
theorem load_after {κ : Kind} {sp : Space} (v : View sig κ sp S4x16x128x256 .f32) (f : v.ty.Contents (Elt F)) {o o' : Fin 4 → ℕ}
    (b : ∀ a, o a + S1x1x128x256.size a ≤ S4x16x128x256.size a) (b' : ∀ a, o' a + S1x1x128x256.size a ≤ S4x16x128x256.size a)
    (h h' : Fin 4) (t : Fin 16) (ho : o = ![h.val, t.val, 0, 0]) (ho' : o' = ![h'.val, t.val, 0, 0]) (hne : h' ≠ h)
    (w : Vec F S1x1x128x256 .f32) (L : List (View.Piece (Elt F) S4x16x128x256 .f32)) :
    v.readAt (Elt F) (Rect.unit (s := S4x16x128x256) o S1x1x128x256.size b).toLoadRect
        (v.writes (Elt F) f (⟨Rect.unit (s := S4x16x128x256) o' S1x1x128x256.size b', w⟩ :: L))
      = v.readAt (Elt F) (Rect.unit (s := S4x16x128x256) o S1x1x128x256.size b).toLoadRect (v.writes (Elt F) f L) := by
  rw [readAt_dq v _ b h t ho, readAt_dq v _ b h t ho, View.read_writes_cons_put v f b' w L ho']
  exact dqBlk_put_ne _ h' h t hne w

/-- A load of one head's tile from the zeros just stored. -/
theorem load_zero {κ : Kind} {sp : Space} (v : View sig κ sp S4x16x128x256 .f32) (f : v.ty.Contents (Elt F)) {o : Fin 4 → ℕ}
    (b : ∀ a, o a + S1x1x128x256.size a ≤ S4x16x128x256.size a) (h : Fin 4) (t : Fin 16) (ho : o = ![h.val, t.val, 0, 0])
    (b' : ∀ a, (![0, 0, 0, 0] : Fin 4 → ℕ) a + S4x16x128x256.size a ≤ S4x16x128x256.size a)
    (D : Vec F S4x16x128x256 .f32) (L : List (View.Piece (Elt F) S4x16x128x256 .f32)) :
    v.readAt (Elt F) (Rect.unit (s := S4x16x128x256) o S1x1x128x256.size b).toLoadRect
        (v.writes (Elt F) f (⟨Rect.unit (s := S4x16x128x256) ![0, 0, 0, 0] S4x16x128x256.size b', D⟩ :: L))
      = dqBlk D h t := by
  rw [readAt_dq v _ b h t ho, View.read_writes_full v f b' D L]

/-- One head's addition into the query gradient, from equal parts. -/
theorem pay37_congr {a a' : FVec F S128x256 .bf16} {b b' : FVec F S256x256 .bf16} {d d' : Vec F S1x1x128x256 .f32}
    (ha : a = a') (hb : b = b') (hd : d = d') : k0_pay37 a b d = k0_pay37 a' b' d' := by subst ha hb hd; rfl

/-- Sweeps from equal data are equal. -/
theorem sweepDq_congr {kt kt' : Fin 4 → FVec F S128x256 .bf16} {ds ds' : Fin 4 → Fin 16 → FVec F S256x256 .bf16} {j n : ℕ}
    {D D' : Vec F S4x16x128x256 .f32} (hk : kt = kt') (hs : ds = ds') (hD : D = D') :
    sweepDq kt ds j D n = sweepDq kt' ds' j D' n := by subst hk hs hD; rfl

/-- Four matrices, stacked as the heads of a block. -/
def stack {n : ℕ} (A : Fin 4 → Vec F (⟨2, ![256, n]⟩ : Shape) .f32) : Vec F (⟨3, ![4, 256, n]⟩ : Shape) .f32 :=
  fun y => A (y 0) (ix2 (y 1) (y 2))

/-- Stores of the four heads leave the four matrices stacked. -/
theorem read_writes_stack {κ : Kind} {sp : Space} {n : ℕ} (v : View sig κ sp (⟨3, ![4, 256, n]⟩ : Shape) .f32)
    (f : v.ty.Contents (Elt F)) (A : Fin 4 → Vec F (⟨2, ![256, n]⟩ : Shape) .f32)
    (b0 : ∀ a, (![0, 0, 0] : Fin 3 → ℕ) a + (![1, 256, n] : Fin 3 → ℕ) a ≤ (⟨3, ![4, 256, n]⟩ : Shape).size a)
    (b1 : ∀ a, (![1, 0, 0] : Fin 3 → ℕ) a + (![1, 256, n] : Fin 3 → ℕ) a ≤ (⟨3, ![4, 256, n]⟩ : Shape).size a)
    (b2 : ∀ a, (![2, 0, 0] : Fin 3 → ℕ) a + (![1, 256, n] : Fin 3 → ℕ) a ≤ (⟨3, ![4, 256, n]⟩ : Shape).size a)
    (b3 : ∀ a, (![3, 0, 0] : Fin 3 → ℕ) a + (![1, 256, n] : Fin 3 → ℕ) a ≤ (⟨3, ![4, 256, n]⟩ : Shape).size a)
    {w0 w1 w2 w3 : Vec F (⟨3, ![1, 256, n]⟩ : Shape) .f32}
    (h0 : ∀ z, w0 z = A 0 (ix2 (z 1) (z 2))) (h1 : ∀ z, w1 z = A 1 (ix2 (z 1) (z 2)))
    (h2 : ∀ z, w2 z = A 2 (ix2 (z 1) (z 2))) (h3 : ∀ z, w3 z = A 3 (ix2 (z 1) (z 2))) :
    v.read (Elt F) (v.writes (Elt F) f [⟨Rect.unit (s := (⟨3, ![4, 256, n]⟩ : Shape)) ![3, 0, 0] ![1, 256, n] b3, w3⟩,
      ⟨Rect.unit (s := (⟨3, ![4, 256, n]⟩ : Shape)) ![2, 0, 0] ![1, 256, n] b2, w2⟩,
      ⟨Rect.unit (s := (⟨3, ![4, 256, n]⟩ : Shape)) ![1, 0, 0] ![1, 256, n] b1, w1⟩,
      ⟨Rect.unit (s := (⟨3, ![4, 256, n]⟩ : Shape)) ![0, 0, 0] ![1, 256, n] b0, w0⟩]) = stack A := by
  have pos : ∀ (X : Vec F (⟨3, ![4, 256, n]⟩ : Shape) .f32) (h : Fin 4) (w : Vec F (⟨3, ![1, 256, n]⟩ : Shape) .f32)
      (hw : ∀ z, w z = A h (ix2 (z 1) (z 2))) (y : (⟨3, ![4, 256, n]⟩ : Shape).Idx), y 0 = h →
      VecWindow.put (s := (⟨3, ![4, 256, n]⟩ : Shape)) X ![h.val, 0, 0] ![1, 256, n] w y = stack A y := by
    intro X h w hw y h0
    have e0 : (y 0).val = h.val := congrArg Fin.val h0
    have e1 : (y 1).val < 256 := (y 1).isLt
    have e2 : (y 2).val < n := (y 2).isLt
    have hall : ∀ a, (![h.val, 0, 0] : Fin 3 → ℕ) a ≤ (y a).val
        ∧ (y a).val < (![h.val, 0, 0] : Fin 3 → ℕ) a + (![1, 256, n] : Fin 3 → ℕ) a := by
      intro a
      match a with
      | ⟨0, _⟩ => show h.val ≤ (y 0).val ∧ (y 0).val < h.val + 1; omega
      | ⟨1, _⟩ => show 0 ≤ (y 1).val ∧ (y 1).val < 0 + 256; omega
      | ⟨2, _⟩ => show 0 ≤ (y 2).val ∧ (y 2).val < 0 + n; omega
    refine (dif_pos hall).trans ((hw _).trans ?_)
    show _ = A (y 0) _
    rw [h0]
    refine congrArg (A h) (funext fun a => ?_)
    match a with
    | ⟨0, _⟩ => exact Fin.ext (by show (y 1).val - 0 = (y 1).val; omega)
    | ⟨1, _⟩ => exact Fin.ext (by show (y 2).val - 0 = (y 2).val; omega)
  have neg : ∀ (X : Vec F (⟨3, ![4, 256, n]⟩ : Shape) .f32) (h : Fin 4) (w : Vec F (⟨3, ![1, 256, n]⟩ : Shape) .f32)
      (y : (⟨3, ![4, 256, n]⟩ : Shape).Idx), y 0 ≠ h →
      VecWindow.put (s := (⟨3, ![4, 256, n]⟩ : Shape)) X ![h.val, 0, 0] ![1, 256, n] w y = X y := by
    intro X h w y hn
    refine dif_neg fun hall => hn (Fin.ext ?_)
    have : h.val ≤ (y 0).val ∧ (y 0).val < h.val + 1 := hall 0
    omega
  rw [View.read_writes_cons_put v f b3 w3 _ rfl, View.read_writes_cons_put v f b2 w2 _ rfl,
    View.read_writes_cons_put v f b1 w1 _ rfl, View.read_writes_cons_put v f b0 w0 _ rfl]
  funext y
  rcases (by decide : ∀ h : Fin 4, h = 0 ∨ h = 1 ∨ h = 2 ∨ h = 3) (y 0) with h | h | h | h
  · exact (neg _ 3 w3 y (by rw [h]; exact (by decide : (0 : Fin 4) ≠ 3))).trans
      ((neg _ 2 w2 y (by rw [h]; exact (by decide : (0 : Fin 4) ≠ 2))).trans
        ((neg _ 1 w1 y (by rw [h]; exact (by decide : (0 : Fin 4) ≠ 1))).trans (pos _ 0 w0 h0 y h)))
  · exact (neg _ 3 w3 y (by rw [h]; exact (by decide : (1 : Fin 4) ≠ 3))).trans
      ((neg _ 2 w2 y (by rw [h]; exact (by decide : (1 : Fin 4) ≠ 2))).trans (pos _ 1 w1 h1 y h))
  · exact (neg _ 3 w3 y (by rw [h]; exact (by decide : (2 : Fin 4) ≠ 3))).trans (pos _ 2 w2 h2 y h)
  · exact pos _ 3 w3 h3 y h

/-- A matrix given a leading unit axis, read. -/
theorem addHead_apply {n : ℕ} (w : Vec F (⟨2, ![256, n]⟩ : Shape) .f32) (hc) (z : (⟨3, ![1, 256, n]⟩ : Shape).Idx) :
    shapeCast (⟨3, ![1, 256, n]⟩ : Shape) w hc z = w (ix2 (z 1) (z 2)) := by
  have h0 : z 0 = (0 : Fin 1) := Fin.ext (by have : (z 0).val < 1 := (z 0).isLt; show (z 0).val = 0; omega)
  have hz : z = ix3 (0 : Fin 1) (z 1) (z 2) := by
    funext a
    match a with
    | ⟨0, _⟩ => exact h0
    | ⟨1, _⟩ => rfl
    | ⟨2, _⟩ => rfl
  rw [hz]
  exact shapeCast_ab_1ab_apply _ _ _ _ _

end Cert.FoxBwd

end
-- ==== Proof.FoxBwd.BodyFirst.lean ====
/- The body of the backward kernel on a group's first key block, run: from the seven input blocks it leaves the stacked
   gradients of the key block and of the value block in its last two windows and, in the window before them, the query
   gradient, which here starts from zeros. -/
module

public import proofs.«01_k».proof.Proof.FoxBwd.Sweep
public import proofs.«01_k».proof.Proof.FoxBwd.Point
public import Idealize.ShloMosaic.Lib.Exec
public import Idealize.ShloMosaic.Lib.Tactic
public import Idealize.ShloMosaic.Lib.Pipeline.Kit

@[expose] public section

set_option maxRecDepth 16384

noncomputable section

namespace Cert.FoxBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄G" => MT nD τ sig Unit (Elt F) ℕ (UR sig nD τ) ℕ

/-- Before the first trip the carried gradients are the initial ones. -/
@[local simp] theorem sweepAcc_zero_first (kh : Fin 4 → FVec F S256x128 .bf16) (vh : Fin 4 → FVec F S256x64 .bf16)
    (Q : Vec F S4x4096x128 .bf16) (DO : Vec F S4x4096x64 .bf16) (LS DL : Vec F S4x16x8x256 .f32) (j : ℕ) (a : Acc F) :
    sweepAcc kh vh Q DO LS DL j a 0 = a := rfl

attribute [local irreducible] sweepAcc sweepDq

set_option maxHeartbeats 8000000 in
/-- The body on a group's first key block. -/
theorem body_first (c : Dev nD) (i : grid0.Coords) (arg2 : Memref sig .tc .vmem S4x4096x128 .bf16) (harg2 : arg2.IsWhole) (arg3 : Memref sig .tc .vmem S4x256x128 .bf16) (harg3 : arg3.IsWhole)
    (arg4 : Memref sig .tc .vmem S4x1x128x256 .bf16) (harg4 : arg4.IsWhole) (arg5 : Memref sig .tc .vmem S4x256x64 .bf16) (harg5 : arg5.IsWhole)
    (arg6 : Memref sig .tc .vmem S4x4096x64 .bf16) (harg6 : arg6.IsWhole) (arg7 : Memref sig .tc .vmem S4x16x8x256 .f32) (harg7 : arg7.IsWhole)
    (arg8 : Memref sig .tc .vmem S4x16x8x256 .f32) (harg8 : arg8.IsWhole) (arg9 : Memref sig .tc .vmem S4x16x128x256 .f32) (harg9 : arg9.IsWhole)
    (arg10 : Memref sig .tc .vmem S4x256x128 .f32) (harg10 : arg10.IsWhole) (arg11 : Memref sig .tc .vmem S4x256x64 .f32) (harg11 : arg11.IsWhole)
    (hc0 : firstBlock i) (x0 : Vec F S4x4096x128 .bf16) (x1 : Vec F S4x256x128 .bf16) (x2 : Vec F S4x1x128x256 .bf16) (x3 : Vec F S4x256x64 .bf16)
    (x4 : Vec F S4x4096x64 .bf16) (x5 : Vec F S4x16x8x256 .f32) (x6 : Vec F S4x16x8x256 .f32) :
      ∀ (E : Set ℕ) (K : PUnit → sProp 𝕄G),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (pointDq x1 x2 x3 x0 x4 x5 x6 (diagTile i) k0_pay73 (15 - (i 1).val)) ∗ owns (c : Thread nD τ) arg10 fullShare (stack (Acc.dk (pointAcc x1 x3 x0 x4 x5 x6 (diagTile i) (15 - (i 1).val)))) ∗ owns (c : Thread nD τ) arg11 fullShare (stack (Acc.dv (pointAcc x1 x3 x0 x4 x5 x6 (diagTile i) (15 - (i 1).val))))) -∗ K ⟨⟩))
          ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11) K := by
    intro E K
    rw [← trips_sweep i]
    simp only [cc0_fox_bwd_eq_skeleton]; unfold cc0_fox_bwd_skel
    simp only [k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    subst hf0; subst hf1; subst hf2; subst hf3; subst hf4; subst hf5; subst hf6
    have htr := trips_rest i
    sl_exec (disch := first | sl_exact hc0)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists _; isplitr; swap; · iexact H7
      ipureintro
      refine (read_sweepCont i arg9 harg9 _ _ _ _).trans ?_
      unfold pointDq
      refine sweepDq_congr ?_ ?_ ?_
      · unfold keysTOf
        rw [← readAt_kt arg4.view f2 inb_S4x1x128x256_S1x1x128x256_0_0_0_0 0 rfl, ← readAt_kt arg4.view f2 inb_S4x1x128x256_S1x1x128x256_1_0_0_0 1 rfl, ← readAt_kt arg4.view f2 inb_S4x1x128x256_S1x1x128x256_2_0_0_0 2 rfl, ← readAt_kt arg4.view f2 inb_S4x1x128x256_S1x1x128x256_3_0_0_0 3 rfl]
        rfl
      · unfold keysOf valsOf
        rw [← readAt_k arg3.view f1 inb_S4x256x128_S1x256x128_0_0_0 0 rfl, ← readAt_v arg5.view f3 inb_S4x256x64_S1x256x64_0_0_0 0 rfl, ← readAt_k arg3.view f1 inb_S4x256x128_S1x256x128_1_0_0 1 rfl, ← readAt_v arg5.view f3 inb_S4x256x64_S1x256x64_1_0_0 1 rfl, ← readAt_k arg3.view f1 inb_S4x256x128_S1x256x128_2_0_0 2 rfl, ← readAt_v arg5.view f3 inb_S4x256x64_S1x256x64_2_0_0 2 rfl, ← readAt_k arg3.view f1 inb_S4x256x128_S1x256x128_3_0_0 3 rfl, ← readAt_v arg5.view f3 inb_S4x256x64_S1x256x64_3_0_0 3 rfl]
        rfl
      · refine (read_writes_heads arg9.view arg9.view.junk (diagTile i)
          (fun h => k0_pay37 (keysTOf (arg4.view.read (Elt F) f2) h) (diagDs (keysOf (arg3.view.read (Elt F) f1) h) (valsOf (arg5.view.read (Elt F) f3) h)
            (arg2.view.read (Elt F) f0) (arg6.view.read (Elt F) f4) (arg7.view.read (Elt F) f5) (arg8.view.read (Elt F) f6) h (diagTile i))
            (dqBlk k0_pay73 h (diagTile i)))
          (k0_off13_inb i) (k0_off14_inb i) (k0_off15_inb i)
          (k0_off16_inb i) (off13 i) (off14 i) (off15 i) (off16 i) ?_ ?_ ?_ ?_ [⟨Rect.unit (s := S4x16x128x256) ![0, 0, 0, 0] S4x16x128x256.size inb_S4x16x128x256_S4x16x128x256_0_0_0_0, k0_pay73⟩]).trans ?_
        · beta_reduce
          rw [keysTOf_apply, keysOf_apply, valsOf_apply]
          unfold diagDs
          rw [← readAt_kt arg4.view f2 inb_S4x1x128x256_S1x1x128x256_0_0_0_0 0 rfl, ← readAt_k arg3.view f1 inb_S4x256x128_S1x256x128_0_0_0 0 rfl, ← readAt_v arg5.view f3 inb_S4x256x64_S1x256x64_0_0_0 0 rfl, ← readAt_q arg2.view f0 (k0_off1_inb i) 0 (diagTile i) (off1 i), ← readAt_do arg6.view f4 (k0_off5_inb i) 0 (diagTile i) (off5 i), ← readAt_row arg7.view f5 (k0_off9_inb i) 0 (diagTile i) (off9 i), ← readAt_row arg8.view f6 (k0_off9_inb i) 0 (diagTile i) (off9 i)]
          exact pay37_congr (a := k0_pay78 _) (b := k0_pay109 _ _ _ _ _ _) rfl rfl (load_zero arg9.view _ (k0_off13_inb i) 0 (diagTile i) (off13 i) _ _ _)
        · beta_reduce
          rw [keysTOf_apply, keysOf_apply, valsOf_apply]
          unfold diagDs
          rw [← readAt_kt arg4.view f2 inb_S4x1x128x256_S1x1x128x256_1_0_0_0 1 rfl, ← readAt_k arg3.view f1 inb_S4x256x128_S1x256x128_1_0_0 1 rfl, ← readAt_v arg5.view f3 inb_S4x256x64_S1x256x64_1_0_0 1 rfl, ← readAt_q arg2.view f0 (k0_off2_inb i) 1 (diagTile i) (off2 i), ← readAt_do arg6.view f4 (k0_off6_inb i) 1 (diagTile i) (off6 i), ← readAt_row arg7.view f5 (k0_off10_inb i) 1 (diagTile i) (off10 i), ← readAt_row arg8.view f6 (k0_off10_inb i) 1 (diagTile i) (off10 i)]
          exact pay37_congr (a := k0_pay79 _) (b := k0_pay109 _ _ _ _ _ _) rfl rfl ((load_after arg9.view _ (k0_off14_inb i) (k0_off13_inb i) 1 0 (diagTile i) (off14 i) (off13 i) (by decide) _ _).trans (load_zero arg9.view _ (k0_off14_inb i) 1 (diagTile i) (off14 i) _ _ _))
        · beta_reduce
          rw [keysTOf_apply, keysOf_apply, valsOf_apply]
          unfold diagDs
          rw [← readAt_kt arg4.view f2 inb_S4x1x128x256_S1x1x128x256_2_0_0_0 2 rfl, ← readAt_k arg3.view f1 inb_S4x256x128_S1x256x128_2_0_0 2 rfl, ← readAt_v arg5.view f3 inb_S4x256x64_S1x256x64_2_0_0 2 rfl, ← readAt_q arg2.view f0 (k0_off3_inb i) 2 (diagTile i) (off3 i), ← readAt_do arg6.view f4 (k0_off7_inb i) 2 (diagTile i) (off7 i), ← readAt_row arg7.view f5 (k0_off11_inb i) 2 (diagTile i) (off11 i), ← readAt_row arg8.view f6 (k0_off11_inb i) 2 (diagTile i) (off11 i)]
          exact pay37_congr (a := k0_pay80 _) (b := k0_pay109 _ _ _ _ _ _) rfl rfl ((load_after arg9.view _ (k0_off15_inb i) (k0_off14_inb i) 2 1 (diagTile i) (off15 i) (off14 i) (by decide) _ _).trans ((load_after arg9.view _ (k0_off15_inb i) (k0_off13_inb i) 2 0 (diagTile i) (off15 i) (off13 i) (by decide) _ _).trans (load_zero arg9.view _ (k0_off15_inb i) 2 (diagTile i) (off15 i) _ _ _)))
        · beta_reduce
          rw [keysTOf_apply, keysOf_apply, valsOf_apply]
          unfold diagDs
          rw [← readAt_kt arg4.view f2 inb_S4x1x128x256_S1x1x128x256_3_0_0_0 3 rfl, ← readAt_k arg3.view f1 inb_S4x256x128_S1x256x128_3_0_0 3 rfl, ← readAt_v arg5.view f3 inb_S4x256x64_S1x256x64_3_0_0 3 rfl, ← readAt_q arg2.view f0 (k0_off4_inb i) 3 (diagTile i) (off4 i), ← readAt_do arg6.view f4 (k0_off8_inb i) 3 (diagTile i) (off8 i), ← readAt_row arg7.view f5 (k0_off12_inb i) 3 (diagTile i) (off12 i), ← readAt_row arg8.view f6 (k0_off12_inb i) 3 (diagTile i) (off12 i)]
          exact pay37_congr (a := k0_pay81 _) (b := k0_pay109 _ _ _ _ _ _) rfl rfl ((load_after arg9.view _ (k0_off16_inb i) (k0_off15_inb i) 3 2 (diagTile i) (off16 i) (off15 i) (by decide) _ _).trans ((load_after arg9.view _ (k0_off16_inb i) (k0_off14_inb i) 3 1 (diagTile i) (off16 i) (off14 i) (by decide) _ _).trans ((load_after arg9.view _ (k0_off16_inb i) (k0_off13_inb i) 3 0 (diagTile i) (off16 i) (off13 i) (by decide) _ _).trans (load_zero arg9.view _ (k0_off16_inb i) 3 (diagTile i) (off16 i) _ _ _))))
        · refine congrArg (fun D => putTile D (diagTile i) _) ?_
          exact View.read_writes_full arg9.view _ _ _ _
    have e := Eq.refl (pointAcc (arg3.view.read (Elt F) f1) (arg5.view.read (Elt F) f3) (arg2.view.read (Elt F) f0) (arg6.view.read (Elt F) f4) (arg7.view.read (Elt F) f5) (arg8.view.read (Elt F) f6) (diagTile i) (k0_t1_loop i).trips)
    conv at e =>
      rhs
      unfold pointAcc diagAcc diagDs diagP keysOf valsOf accOf
      dsimp only
      rw [← readAt_k arg3.view f1 inb_S4x256x128_S1x256x128_0_0_0 0 rfl, ← readAt_v arg5.view f3 inb_S4x256x64_S1x256x64_0_0_0 0 rfl, ← readAt_k arg3.view f1 inb_S4x256x128_S1x256x128_1_0_0 1 rfl, ← readAt_v arg5.view f3 inb_S4x256x64_S1x256x64_1_0_0 1 rfl, ← readAt_k arg3.view f1 inb_S4x256x128_S1x256x128_2_0_0 2 rfl, ← readAt_v arg5.view f3 inb_S4x256x64_S1x256x64_2_0_0 2 rfl, ← readAt_k arg3.view f1 inb_S4x256x128_S1x256x128_3_0_0 3 rfl, ← readAt_v arg5.view f3 inb_S4x256x64_S1x256x64_3_0_0 3 rfl, ← readAt_q arg2.view f0 (k0_off1_inb i) 0 (diagTile i) (off1 i), ← readAt_do arg6.view f4 (k0_off5_inb i) 0 (diagTile i) (off5 i), ← readAt_row arg7.view f5 (k0_off9_inb i) 0 (diagTile i) (off9 i), ← readAt_row arg8.view f6 (k0_off9_inb i) 0 (diagTile i) (off9 i), ← readAt_q arg2.view f0 (k0_off2_inb i) 1 (diagTile i) (off2 i), ← readAt_do arg6.view f4 (k0_off6_inb i) 1 (diagTile i) (off6 i), ← readAt_row arg7.view f5 (k0_off10_inb i) 1 (diagTile i) (off10 i), ← readAt_row arg8.view f6 (k0_off10_inb i) 1 (diagTile i) (off10 i), ← readAt_q arg2.view f0 (k0_off3_inb i) 2 (diagTile i) (off3 i), ← readAt_do arg6.view f4 (k0_off7_inb i) 2 (diagTile i) (off7 i), ← readAt_row arg7.view f5 (k0_off11_inb i) 2 (diagTile i) (off11 i), ← readAt_row arg8.view f6 (k0_off11_inb i) 2 (diagTile i) (off11 i), ← readAt_q arg2.view f0 (k0_off4_inb i) 3 (diagTile i) (off4 i), ← readAt_do arg6.view f4 (k0_off8_inb i) 3 (diagTile i) (off8 i), ← readAt_row arg7.view f5 (k0_off12_inb i) 3 (diagTile i) (off12 i), ← readAt_row arg8.view f6 (k0_off12_inb i) 3 (diagTile i) (off12 i)]
    isplitl [H8]
    · iexists _; isplitr; swap; · iexact H8
      ipureintro
      rw [e]
      exact read_writes_stack arg10.view f8 _ _ _ _ _ (fun z => addHead_apply _ _ z) (fun z => addHead_apply _ _ z)
        (fun z => addHead_apply _ _ z) (fun z => addHead_apply _ _ z)
    · iexists _; isplitr; swap; · iexact H9
      ipureintro
      rw [e]
      exact read_writes_stack arg11.view f9 _ _ _ _ _ (fun z => addHead_apply _ _ z) (fun z => addHead_apply _ _ z)
        (fun z => addHead_apply _ _ z) (fun z => addHead_apply _ _ z)

end Cert.FoxBwd

end
-- ==== Proof.FoxBwd.BodyLater.lean ====
/- The body of the backward kernel on a later key block, run: from the seven input blocks it leaves the stacked
   gradients of the key block and of the value block in its last two windows and, in the window before them, the query
   gradient advanced by this key block. -/
module

public import proofs.«01_k».proof.Proof.FoxBwd.Sweep
public import proofs.«01_k».proof.Proof.FoxBwd.Point
public import Idealize.ShloMosaic.Lib.Exec
public import Idealize.ShloMosaic.Lib.Tactic
public import Idealize.ShloMosaic.Lib.Pipeline.Kit

@[expose] public section

set_option maxRecDepth 16384

noncomputable section

namespace Cert.FoxBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄G" => MT nD τ sig Unit (Elt F) ℕ (UR sig nD τ) ℕ

/-- Before the first trip the carried gradients are the initial ones. -/
@[local simp] theorem sweepAcc_zero_later (kh : Fin 4 → FVec F S256x128 .bf16) (vh : Fin 4 → FVec F S256x64 .bf16)
    (Q : Vec F S4x4096x128 .bf16) (DO : Vec F S4x4096x64 .bf16) (LS DL : Vec F S4x16x8x256 .f32) (j : ℕ) (a : Acc F) :
    sweepAcc kh vh Q DO LS DL j a 0 = a := rfl

attribute [local irreducible] sweepAcc sweepDq

set_option maxHeartbeats 8000000 in
/-- The body on a later key block: the query gradient continues from what is there. -/
theorem body_later (c : Dev nD) (i : grid0.Coords) (arg2 : Memref sig .tc .vmem S4x4096x128 .bf16) (harg2 : arg2.IsWhole) (arg3 : Memref sig .tc .vmem S4x256x128 .bf16) (harg3 : arg3.IsWhole)
    (arg4 : Memref sig .tc .vmem S4x1x128x256 .bf16) (harg4 : arg4.IsWhole) (arg5 : Memref sig .tc .vmem S4x256x64 .bf16) (harg5 : arg5.IsWhole)
    (arg6 : Memref sig .tc .vmem S4x4096x64 .bf16) (harg6 : arg6.IsWhole) (arg7 : Memref sig .tc .vmem S4x16x8x256 .f32) (harg7 : arg7.IsWhole)
    (arg8 : Memref sig .tc .vmem S4x16x8x256 .f32) (harg8 : arg8.IsWhole) (arg9 : Memref sig .tc .vmem S4x16x128x256 .f32) (harg9 : arg9.IsWhole)
    (arg10 : Memref sig .tc .vmem S4x256x128 .f32) (harg10 : arg10.IsWhole) (arg11 : Memref sig .tc .vmem S4x256x64 .f32) (harg11 : arg11.IsWhole)
    (hc0 : ¬ firstBlock i) (x0 : Vec F S4x4096x128 .bf16) (x1 : Vec F S4x256x128 .bf16) (x2 : Vec F S4x1x128x256 .bf16) (x3 : Vec F S4x256x64 .bf16)
    (x4 : Vec F S4x4096x64 .bf16) (x5 : Vec F S4x16x8x256 .f32) (x6 : Vec F S4x16x8x256 .f32) (x7 : Vec F S4x16x128x256 .f32) :
      ∀ (E : Set ℕ) (K : PUnit → sProp 𝕄G),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (pointDq x1 x2 x3 x0 x4 x5 x6 (diagTile i) x7 (15 - (i 1).val)) ∗ owns (c : Thread nD τ) arg10 fullShare (stack (Acc.dk (pointAcc x1 x3 x0 x4 x5 x6 (diagTile i) (15 - (i 1).val)))) ∗ owns (c : Thread nD τ) arg11 fullShare (stack (Acc.dv (pointAcc x1 x3 x0 x4 x5 x6 (diagTile i) (15 - (i 1).val))))) -∗ K ⟨⟩))
          ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11) K := by
    intro E K
    rw [← trips_sweep i]
    simp only [cc0_fox_bwd_eq_skeleton]; unfold cc0_fox_bwd_skel
    simp only [k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    subst hf0; subst hf1; subst hf2; subst hf3; subst hf4; subst hf5; subst hf6; subst hf7
    have htr := trips_rest i
    sl_exec (disch := first | sl_exact hc0)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists _; isplitr; swap; · iexact H7
      ipureintro
      refine (read_sweepCont i arg9 harg9 _ _ _ _).trans ?_
      unfold pointDq
      refine sweepDq_congr ?_ ?_ ?_
      · unfold keysTOf
        rw [← readAt_kt arg4.view f2 inb_S4x1x128x256_S1x1x128x256_0_0_0_0 0 rfl, ← readAt_kt arg4.view f2 inb_S4x1x128x256_S1x1x128x256_1_0_0_0 1 rfl, ← readAt_kt arg4.view f2 inb_S4x1x128x256_S1x1x128x256_2_0_0_0 2 rfl, ← readAt_kt arg4.view f2 inb_S4x1x128x256_S1x1x128x256_3_0_0_0 3 rfl]
        rfl
      · unfold keysOf valsOf
        rw [← readAt_k arg3.view f1 inb_S4x256x128_S1x256x128_0_0_0 0 rfl, ← readAt_v arg5.view f3 inb_S4x256x64_S1x256x64_0_0_0 0 rfl, ← readAt_k arg3.view f1 inb_S4x256x128_S1x256x128_1_0_0 1 rfl, ← readAt_v arg5.view f3 inb_S4x256x64_S1x256x64_1_0_0 1 rfl, ← readAt_k arg3.view f1 inb_S4x256x128_S1x256x128_2_0_0 2 rfl, ← readAt_v arg5.view f3 inb_S4x256x64_S1x256x64_2_0_0 2 rfl, ← readAt_k arg3.view f1 inb_S4x256x128_S1x256x128_3_0_0 3 rfl, ← readAt_v arg5.view f3 inb_S4x256x64_S1x256x64_3_0_0 3 rfl]
        rfl
      · refine (read_writes_heads arg9.view f7 (diagTile i)
          (fun h => k0_pay37 (keysTOf (arg4.view.read (Elt F) f2) h) (diagDs (keysOf (arg3.view.read (Elt F) f1) h) (valsOf (arg5.view.read (Elt F) f3) h)
            (arg2.view.read (Elt F) f0) (arg6.view.read (Elt F) f4) (arg7.view.read (Elt F) f5) (arg8.view.read (Elt F) f6) h (diagTile i))
            (dqBlk (arg9.view.read (Elt F) f7) h (diagTile i)))
          (k0_off13_inb i) (k0_off14_inb i) (k0_off15_inb i)
          (k0_off16_inb i) (off13 i) (off14 i) (off15 i) (off16 i) ?_ ?_ ?_ ?_ []).trans ?_
        · beta_reduce
          rw [keysTOf_apply, keysOf_apply, valsOf_apply]
          unfold diagDs
          rw [← readAt_kt arg4.view f2 inb_S4x1x128x256_S1x1x128x256_0_0_0_0 0 rfl, ← readAt_k arg3.view f1 inb_S4x256x128_S1x256x128_0_0_0 0 rfl, ← readAt_v arg5.view f3 inb_S4x256x64_S1x256x64_0_0_0 0 rfl, ← readAt_q arg2.view f0 (k0_off1_inb i) 0 (diagTile i) (off1 i), ← readAt_do arg6.view f4 (k0_off5_inb i) 0 (diagTile i) (off5 i), ← readAt_row arg7.view f5 (k0_off9_inb i) 0 (diagTile i) (off9 i), ← readAt_row arg8.view f6 (k0_off9_inb i) 0 (diagTile i) (off9 i), ← readAt_dq arg9.view f7 (k0_off13_inb i) 0 (diagTile i) (off13 i)]
          rfl
        · beta_reduce
          rw [keysTOf_apply, keysOf_apply, valsOf_apply]
          unfold diagDs
          rw [← readAt_kt arg4.view f2 inb_S4x1x128x256_S1x1x128x256_1_0_0_0 1 rfl, ← readAt_k arg3.view f1 inb_S4x256x128_S1x256x128_1_0_0 1 rfl, ← readAt_v arg5.view f3 inb_S4x256x64_S1x256x64_1_0_0 1 rfl, ← readAt_q arg2.view f0 (k0_off2_inb i) 1 (diagTile i) (off2 i), ← readAt_do arg6.view f4 (k0_off6_inb i) 1 (diagTile i) (off6 i), ← readAt_row arg7.view f5 (k0_off10_inb i) 1 (diagTile i) (off10 i), ← readAt_row arg8.view f6 (k0_off10_inb i) 1 (diagTile i) (off10 i), ← readAt_dq arg9.view f7 (k0_off14_inb i) 1 (diagTile i) (off14 i)]
          rfl
        · beta_reduce
          rw [keysTOf_apply, keysOf_apply, valsOf_apply]
          unfold diagDs
          rw [← readAt_kt arg4.view f2 inb_S4x1x128x256_S1x1x128x256_2_0_0_0 2 rfl, ← readAt_k arg3.view f1 inb_S4x256x128_S1x256x128_2_0_0 2 rfl, ← readAt_v arg5.view f3 inb_S4x256x64_S1x256x64_2_0_0 2 rfl, ← readAt_q arg2.view f0 (k0_off3_inb i) 2 (diagTile i) (off3 i), ← readAt_do arg6.view f4 (k0_off7_inb i) 2 (diagTile i) (off7 i), ← readAt_row arg7.view f5 (k0_off11_inb i) 2 (diagTile i) (off11 i), ← readAt_row arg8.view f6 (k0_off11_inb i) 2 (diagTile i) (off11 i), ← readAt_dq arg9.view f7 (k0_off15_inb i) 2 (diagTile i) (off15 i)]
          rfl
        · beta_reduce
          rw [keysTOf_apply, keysOf_apply, valsOf_apply]
          unfold diagDs
          rw [← readAt_kt arg4.view f2 inb_S4x1x128x256_S1x1x128x256_3_0_0_0 3 rfl, ← readAt_k arg3.view f1 inb_S4x256x128_S1x256x128_3_0_0 3 rfl, ← readAt_v arg5.view f3 inb_S4x256x64_S1x256x64_3_0_0 3 rfl, ← readAt_q arg2.view f0 (k0_off4_inb i) 3 (diagTile i) (off4 i), ← readAt_do arg6.view f4 (k0_off8_inb i) 3 (diagTile i) (off8 i), ← readAt_row arg7.view f5 (k0_off12_inb i) 3 (diagTile i) (off12 i), ← readAt_row arg8.view f6 (k0_off12_inb i) 3 (diagTile i) (off12 i), ← readAt_dq arg9.view f7 (k0_off16_inb i) 3 (diagTile i) (off16 i)]
          rfl
        · refine congrArg (fun D => putTile D (diagTile i) _) ?_
          rfl
    have e := Eq.refl (pointAcc (arg3.view.read (Elt F) f1) (arg5.view.read (Elt F) f3) (arg2.view.read (Elt F) f0) (arg6.view.read (Elt F) f4) (arg7.view.read (Elt F) f5) (arg8.view.read (Elt F) f6) (diagTile i) (k0_t1_loop i).trips)
    conv at e =>
      rhs
      unfold pointAcc diagAcc diagDs diagP keysOf valsOf accOf
      dsimp only
      rw [← readAt_k arg3.view f1 inb_S4x256x128_S1x256x128_0_0_0 0 rfl, ← readAt_v arg5.view f3 inb_S4x256x64_S1x256x64_0_0_0 0 rfl, ← readAt_k arg3.view f1 inb_S4x256x128_S1x256x128_1_0_0 1 rfl, ← readAt_v arg5.view f3 inb_S4x256x64_S1x256x64_1_0_0 1 rfl, ← readAt_k arg3.view f1 inb_S4x256x128_S1x256x128_2_0_0 2 rfl, ← readAt_v arg5.view f3 inb_S4x256x64_S1x256x64_2_0_0 2 rfl, ← readAt_k arg3.view f1 inb_S4x256x128_S1x256x128_3_0_0 3 rfl, ← readAt_v arg5.view f3 inb_S4x256x64_S1x256x64_3_0_0 3 rfl, ← readAt_q arg2.view f0 (k0_off1_inb i) 0 (diagTile i) (off1 i), ← readAt_do arg6.view f4 (k0_off5_inb i) 0 (diagTile i) (off5 i), ← readAt_row arg7.view f5 (k0_off9_inb i) 0 (diagTile i) (off9 i), ← readAt_row arg8.view f6 (k0_off9_inb i) 0 (diagTile i) (off9 i), ← readAt_q arg2.view f0 (k0_off2_inb i) 1 (diagTile i) (off2 i), ← readAt_do arg6.view f4 (k0_off6_inb i) 1 (diagTile i) (off6 i), ← readAt_row arg7.view f5 (k0_off10_inb i) 1 (diagTile i) (off10 i), ← readAt_row arg8.view f6 (k0_off10_inb i) 1 (diagTile i) (off10 i), ← readAt_q arg2.view f0 (k0_off3_inb i) 2 (diagTile i) (off3 i), ← readAt_do arg6.view f4 (k0_off7_inb i) 2 (diagTile i) (off7 i), ← readAt_row arg7.view f5 (k0_off11_inb i) 2 (diagTile i) (off11 i), ← readAt_row arg8.view f6 (k0_off11_inb i) 2 (diagTile i) (off11 i), ← readAt_q arg2.view f0 (k0_off4_inb i) 3 (diagTile i) (off4 i), ← readAt_do arg6.view f4 (k0_off8_inb i) 3 (diagTile i) (off8 i), ← readAt_row arg7.view f5 (k0_off12_inb i) 3 (diagTile i) (off12 i), ← readAt_row arg8.view f6 (k0_off12_inb i) 3 (diagTile i) (off12 i)]
    isplitl [H8]
    · iexists _; isplitr; swap; · iexact H8
      ipureintro
      rw [e]
      exact read_writes_stack arg10.view f8 _ _ _ _ _ (fun z => addHead_apply _ _ z) (fun z => addHead_apply _ _ z)
        (fun z => addHead_apply _ _ z) (fun z => addHead_apply _ _ z)
    · iexists _; isplitr; swap; · iexact H9
      ipureintro
      rw [e]
      exact read_writes_stack arg11.view f9 _ _ _ _ _ (fun z => addHead_apply _ _ z) (fun z => addHead_apply _ _ z)
        (fun z => addHead_apply _ _ z) (fun z => addHead_apply _ _ z)

end Cert.FoxBwd

end
-- ==== Proof.FoxBwd.Run.lean ====
/- The launch of the backward kernel: what each window holds at each grid point, the body there, and the run of the
   program around it, in which the three gradients are named. -/
module

public import proofs.«01_k».proof.Proof.FoxBwd.BodyFirst
public import proofs.«01_k».proof.Proof.FoxBwd.BodyLater
public import proofs.«01_k».proof.Proof.Gen.KernelIdeal.Frame
public import Idealize.ShloMosaic.Lib.Claim

@[expose] public section

set_option maxRecDepth 16384

noncomputable section

namespace Cert.FoxBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄G" => MT nD τ sig Unit (Elt F) ℕ (UR sig nD τ) ℕ

variable (m : (ℓ : Loc nD τ sig) → Buf (Elt F) ℓ) (ρ : Dev nD → PrngReg)

/-- The kernel's condition holds at a group's first point. -/
theorem firstBlock_iff : ∀ t : Fin cfg0.N, firstBlock (grid0.coords t) ↔ t.val % 16 = 0 := by
  have e1 : ∀ j : Fin 16, (Scalar.cmpi .ne (Scalar.extui (Scalar.cmpi .eq (BitVec.ofNat 32 j.val) 0#32) : BitVec 32) 0#32 = 1#1) ↔ j.val = 0 := by
    decide +kernel
  have e2 : ∀ t : Fin grid0.N, ((grid0.coords t) 1).val = t.val % 16 := by decide +kernel
  intro t
  exact (e1 ((grid0.coords t) 1)).trans (by rw [e2 t])

/-- The query gradient `D` after the body at point `t`. -/
def ptDq (c : Dev nD) (t : Fin cfg0.N) (D : Vec F S4x16x128x256 .f32) : Vec F S4x16x128x256 .f32 :=
  pointDq (iblk m c 1 t) (iblk m c 2 t) (iblk m c 3 t) (iblk m c 0 t) (iblk m c 4 t) (iblk m c 5 t) (iblk m c 6 t)
    (diagTile (grid0.coords t)) D (15 - ((grid0.coords t) 1).val)

/-- The gradients of the key block and the value block of point `t`. -/
def ptAcc (c : Dev nD) (t : Fin cfg0.N) : Acc F :=
  pointAcc (iblk m c 1 t) (iblk m c 3 t) (iblk m c 0 t) (iblk m c 4 t) (iblk m c 5 t) (iblk m c 6 t)
    (diagTile (grid0.coords t)) (15 - ((grid0.coords t) 1).val)

/-- The query gradient after each point: from zeros at a group's first key block, else from the point before. -/
def dqAt (c : Dev nD) : (n : ℕ) → n < cfg0.N → Vec F S4x16x128x256 .f32
  | 0, h => ptDq m c ⟨0, h⟩ k0_pay73
  | n + 1, h => ptDq m c ⟨n + 1, h⟩ (if (n + 1) % 16 = 0 then k0_pay73 else dqAt c n (by omega))

theorem dqAt_first (c : Dev nD) (t : Fin cfg0.N) (h : t.val % 16 = 0) : dqAt m c t.val t.isLt = ptDq m c t k0_pay73 := by
  obtain ⟨n, hn⟩ := t
  cases n with
  | zero => rfl
  | succ n => dsimp only [dqAt]; rw [if_pos h]

theorem dqAt_later (c : Dev nD) (t : Fin cfg0.N) (h : t.val % 16 ≠ 0) :
    dqAt m c t.val t.isLt = ptDq m c t (dqAt m c (t.val - 1) (Nat.lt_of_le_of_lt (Nat.sub_le _ _) t.isLt)) := by
  obtain ⟨n, hn⟩ := t
  cases n with
  | zero => exact absurd rfl h
  | succ n => dsimp only [dqAt]; rw [if_neg h]; rfl

/-- The proof data: the arrays as the region finds them; after each point the inputs' blocks in place, and the three
    gradients in the output windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqAt m c t.val t.isLt
    | ⟨8, _⟩ => stack (ptAcc m c t).dk
    | ⟨9, _⟩ => stack (ptAcc m c t).dv
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = dqAt m c t.val t.isLt := by dsimp only [dats]
theorem after_8 (c : Dev nD) (t : Fin cfg0.N) : (dats m 0 c).after 8 t = stack (ptAcc m c t).dk := by dsimp only [dats]
theorem after_9 (c : Dev nD) (t : Fin cfg0.N) : (dats m 0 c).after 9 t = stack (ptAcc m c t).dv := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- At a later key block of a group, the query gradient of the point before is still there. -/
theorem before_7 (c : Dev nD) (t : Fin cfg0.N) (h : t.val % 16 ≠ 0) (d) :
    (dats m 0 c).before 7 t d = dqAt m c (t.val - 1) (Nat.lt_of_le_of_lt (Nat.sub_le _ _) t.isLt) := by
  have h0 : t.val ≠ 0 := fun e => h (by rw [e])
  rw [(dats m 0 c).before_out_kept 7 rfl t h0
    (Bool.eq_false_iff.mpr fun e => h (by have := (flush0_7 _).mp e; dsimp only at this; omega)) (fun _ => rfl) (fun _ _ => rfl) d]
  exact after_7 m c _

abbrev ms_0 (t : Fin cfg0.N) : Memref sig .tc .vmem S4x4096x128 .bf16 := win0_0.stage (cfg0.slots t 0)
abbrev ms_1 (t : Fin cfg0.N) : Memref sig .tc .vmem S4x256x128 .bf16 := win0_1.stage (cfg0.slots t 1)
abbrev ms_2 (t : Fin cfg0.N) : Memref sig .tc .vmem S4x1x128x256 .bf16 := win0_2.stage (cfg0.slots t 2)
abbrev ms_3 (t : Fin cfg0.N) : Memref sig .tc .vmem S4x256x64 .bf16 := win0_3.stage (cfg0.slots t 3)
abbrev ms_4 (t : Fin cfg0.N) : Memref sig .tc .vmem S4x4096x64 .bf16 := win0_4.stage (cfg0.slots t 4)
abbrev ms_5 (t : Fin cfg0.N) : Memref sig .tc .vmem S4x16x8x256 .f32 := win0_5.stage (cfg0.slots t 5)
abbrev ms_6 (t : Fin cfg0.N) : Memref sig .tc .vmem S4x16x8x256 .f32 := win0_6.stage (cfg0.slots t 6)
abbrev ms_7 (t : Fin cfg0.N) : Memref sig .tc .vmem S4x16x128x256 .f32 := win0_7.stage (cfg0.slots t 7)
abbrev ms_8 (t : Fin cfg0.N) : Memref sig .tc .vmem S4x256x128 .f32 := win0_8.stage (cfg0.slots t 8)
abbrev ms_9 (t : Fin cfg0.N) : Memref sig .tc .vmem S4x256x64 .f32 := win0_9.stage (cfg0.slots t 9)

/-- What the body is called with at point `t`, -/
def bodyPre (c : Dev nD) (t : Fin cfg0.N) : sProp 𝕄G :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d)))

/-- and what it returns. -/
def bodyPost (c : Dev nD) (t : Fin cfg0.N) : sProp 𝕄G :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ owns (c : Thread nD τ) (ms_7 t) fullShare ((dats m 0 c).after 7 t)
    ∗ owns (c : Thread nD τ) (ms_8 t) fullShare ((dats m 0 c).after 8 t)
    ∗ owns (c : Thread nD τ) (ms_9 t) fullShare ((dats m 0 c).after 9 t))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  by_cases h0 : t.val % 16 = 0
  · rw [dqAt_first m c t h0]
    unfold ptDq ptAcc
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_first c (grid0.coords t) _ _ _ _ _ _ _ _ _ _ _ _ _ _ _ _ _ _ _ _ ((firstBlock_iff t).mpr h0) (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [dqAt_later m c t h0]
    simp only [before_7 m c t h0]
    unfold ptDq ptAcc
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_later c (grid0.coords t) _ _ _ _ _ _ _ _ _ _ _ _ _ _ _ _ _ _ _ _ (fun h => h0 ((firstBlock_iff t).mp h)) (iblk m c 0 t) (iblk m c 1 t) (iblk m c 2 t) (iblk m c 3 t) (iblk m c 4 t) (iblk m c 5 t) (iblk m c 6 t) (dqAt m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t` is the body there. -/
theorem row_eq (t : Fin cfg0.N) : defs₀ (F := F) .tc cfg0.body (cfg0.bodyArgs t (cfg0.slots t)) = bodyAt0 t := by
  unfold defs₀; rw [Defs.onTc_tc]

/-- The pipeline's obligation of the body, at every point. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
set_option maxHeartbeats 800000 in
/-- The run of the whole program: every window's array at its final contents, the host lines after the kernel done, and
    every semaphore counter at zero. -/
theorem run_whole : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_whole m ρ)))
    ((θ_run defs _ _).mono (fun _ h => h.2) (run_whole m ρ))

end Cert.FoxBwd

end
-- ==== Proof.FoxBwd.Printed.lean ====
/- The frame of the kernel as printed. It is the idealized program with the mask's printed value where the other has the
   named constant: read with the printed value there, the one program is the other, and so is its run. -/
module

public import proofs.«01_k».proof.Proof.FoxBwd.Run
public import proofs.«01_k».proof.Proof.Gen.Kernel
public import Idealize.ShloMosaic.PureOps.BitExact

@[expose] public section

set_option maxRecDepth 65536
set_option maxHeartbeats 1000000

noncomputable section

namespace Cert.FoxBwd

open Idealize.ShloMosaic Idealize.ShloMosaic.TcCoe Idealize.SL.Sem

/-- A named constant read as its printed bits. -/
instance printedBits : Named Bits where
  named _ _ {φ} bits := Scalar.ofBits φ bits

/-- The bodies of the two kernels, -/
theorem body_printed (i : Cert.Kernel.grid0.Coords)
    (a2 : Memref Cert.Kernel.sig .tc .vmem Cert.Kernel.S4x4096x128 .bf16) (h2 : a2.IsWhole)
    (a3 : Memref Cert.Kernel.sig .tc .vmem Cert.Kernel.S4x256x128 .bf16) (h3 : a3.IsWhole)
    (a4 : Memref Cert.Kernel.sig .tc .vmem Cert.Kernel.S4x1x128x256 .bf16) (h4 : a4.IsWhole)
    (a5 : Memref Cert.Kernel.sig .tc .vmem Cert.Kernel.S4x256x64 .bf16) (h5 : a5.IsWhole)
    (a6 : Memref Cert.Kernel.sig .tc .vmem Cert.Kernel.S4x4096x64 .bf16) (h6 : a6.IsWhole)
    (a7 : Memref Cert.Kernel.sig .tc .vmem Cert.Kernel.S4x16x8x256 .f32) (h7 : a7.IsWhole)
    (a8 : Memref Cert.Kernel.sig .tc .vmem Cert.Kernel.S4x16x8x256 .f32) (h8 : a8.IsWhole)
    (a9 : Memref Cert.Kernel.sig .tc .vmem Cert.Kernel.S4x16x128x256 .f32) (h9 : a9.IsWhole)
    (a10 : Memref Cert.Kernel.sig .tc .vmem Cert.Kernel.S4x256x128 .f32) (h10 : a10.IsWhole)
    (a11 : Memref Cert.Kernel.sig .tc .vmem Cert.Kernel.S4x256x64 .f32) (h11 : a11.IsWhole) :
    Cert.Kernel.cc0_fox_bwd (F := Bits) i a2 h2 a3 h3 a4 h4 a5 h5 a6 h6 a7 h7 a8 h8 a9 h9 a10 h10 a11 h11
      = Cert.KernelIdeal.cc0_fox_bwd (F := Bits) i a2 h2 a3 h3 a4 h4 a5 h5 a6 h6 a7 h7 a8 h8 a9 h9 a10 h10 a11 h11 := by
  rfl

theorem row_printed (l : Cert.Kernel.Λ₀.Label) (a : Cert.Kernel.Λ₀.Args l) :
    Cert.Kernel.defs₀ (F := Bits) .tc l a = Cert.KernelIdeal.defs₀ (F := Bits) .tc l a := by
  match l, a with
  | ⟨0, _⟩, (t, s) =>
    unfold Cert.Kernel.defs₀ Cert.KernelIdeal.defs₀
    rw [Defs.onTc_tc]
    erw [Defs.onTc_tc]
    exact body_printed _ _ _ _ _ _ _ _ _ _ _ _ _ _ _ _ _ _ _ _ _

theorem bodies_printed : Cert.Kernel.defs₀ (F := Bits) = Cert.KernelIdeal.defs₀ (F := Bits) := by
  funext p l a
  match p with
  | .tc => exact row_printed l a
  | .scScalar _ => rfl
  | .scVector _ _ => rfl

/-- their tables, -/
theorem defs_printed : Cert.Kernel.defs (F := Bits) = Cert.KernelIdeal.defs (F := Bits) := by
  unfold Cert.Kernel.defs Cert.KernelIdeal.defs
  rw [bodies_printed]
  rfl

/-- and the two programs. -/
theorem main_printed : Cert.Kernel.main (F := Bits) = Cert.KernelIdeal.main (F := Bits) := by
  rfl

/-- The frame of the kernel as printed. -/
theorem frame_printed (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) := by
  rw [defs_printed, main_printed]
  exact frame (F := Bits) m ρ

end Cert.FoxBwd

end
-- ==== Proof.FoxBwd.Consts.lean ====
/- The constants of the two programs as extended reals, the causal comparison of two positions, and arrays of real
   numbers. -/
module

public import Idealize.ShloMosaic.Lib.Pointwise
public import Idealize.ShloMosaic.Lib.IdealHost

@[expose] public section

noncomputable section

namespace Cert.FoxBwd

open Idealize.ShloMosaic

theorem ofBits_eighth : Ideal.ofBits .f32 0x3E000000#32 = ((0.125 : ℝ) : EReal) := by
  simp [Ideal.ofBits, Ideal.ieee, -EReal.coe_mul]; norm_num

theorem ofBits_bot : Ideal.ofBits .f32 0xFF800000#32 = (⊥ : EReal) := by
  simp [Ideal.ofBits, Ideal.ieee]

/-- A position as a 32-bit word, read back. -/
theorem toInt_word {n : ℕ} (h : n < 2 ^ 31) : (BitVec.ofNat 32 n).toInt = n := by
  rw [BitVec.toInt_eq_toNat_of_lt] <;> simp only [BitVec.toNat_ofNat] <;> omega

/-- The causal mask keeps a key up to the query. -/
theorem causal_select {n : ℕ} (hn : n ≤ 2 ^ 31) (u c : Fin n) (a b : EReal) :
    Scalar.select (IntOp.cmpi .sle (BitVec.ofNat 32 u.val) (BitVec.ofNat 32 c.val)) a b = if u ≤ c then a else b := by
  have e : IntOp.cmpi .sle (BitVec.ofNat 32 u.val) (BitVec.ofNat 32 c.val) = BitVec.ofBool (decide (u ≤ c)) := by
    show BitVec.ofBool (BitVec.sle _ _) = _
    rw [BitVec.sle, toInt_word (by omega), toInt_word (by omega)]
    simp only [Nat.cast_le, Fin.le_def]
  rw [e]
  by_cases h : u ≤ c
  · rw [decide_eq_true h, if_pos h]; rfl
  · rw [decide_eq_false h, if_neg h]; rfl

/-- The array of a real function of three coordinates. -/
def real3 {a b c : ℕ} (x : Fin a → Fin b → Fin c → ℝ) : FVec Ideal (⟨3, ![a, b, c]⟩ : Shape) .f32 :=
  fun y => ((x (y 0) (y 1) (y 2) : ℝ) : EReal)

/-- The array of a real function of two coordinates. -/
def real2 {a b : ℕ} (x : Fin a → Fin b → ℝ) : FVec Ideal (⟨2, ![a, b]⟩ : Shape) .f32 :=
  fun y => ((x (y 0) (y 1) : ℝ) : EReal)

theorem real3_apply {a b c : ℕ} (x : Fin a → Fin b → Fin c → ℝ) (i : Fin a) (j : Fin b) (k : Fin c) :
    real3 x (ix3 i j k) = ((x i j k : ℝ) : EReal) := rfl

theorem real2_apply {a b : ℕ} (x : Fin a → Fin b → ℝ) (i : Fin a) (j : Fin b) :
    real2 x (ix2 i j) = ((x i j : ℝ) : EReal) := rfl

end Cert.FoxBwd

end
-- ==== Proof.FoxBwd.TileValue.lean ====
/- The kernel's arithmetic on one tile, read at an element, over the extended reals: the attention weights, the logit
   gradients, and the three products added into the gradients. -/
module

public import proofs.«01_k».proof.Proof.FoxBwd.Consts
public import proofs.«01_k».proof.Proof.FoxBwd.Point
public import Idealize.ShloMosaic.Lib.Pointwise
public import Idealize.ShloMosaic.Lib.IdealHost

@[expose] public section

set_option maxRecDepth 16384

noncomputable section

namespace Cert.FoxBwd

open Idealize.ShloMosaic Cert.KernelIdeal Cert.KernelIdeal.Gen

/-- The mask's constant denotes minus infinity. -/
theorem mask_named : (Named.named κ "mask" 0xF149F2CA#32 : Ideal .f32) = (⊥ : EReal) :=
  IdealRules.named_const.ideal_named_scalar _ _ _ _ rfl

theorem pay73_apply (y : S4x16x128x256.Idx) : k0_pay73 (F := Ideal) y = (0 : EReal) := by
  unfold k0_pay73
  exact Ideal.ofBits_zero_f32

theorem pay17_apply (kh : FVec Ideal S256x128 .bf16) (q : Vec Ideal S1x256x128 .bf16) (u c : Fin 256) :
    k0_pay17 kh q (ix2 u c) = (∑ e : Fin 128, kh (ix2 u e) * q (ix3 (0 : Fin 1) c e) : EReal) := by
  pointwise [k0_pay17, k0_pay9]

theorem pay18_apply (vh : FVec Ideal S256x64 .bf16) (g : Vec Ideal S1x256x64 .bf16) (u c : Fin 256) :
    k0_pay18 vh g (ix2 u c) = (∑ d : Fin 64, vh (ix2 u d) * g (ix3 (0 : Fin 1) c d) : EReal) := by
  pointwise [k0_pay18, k0_pay13]

theorem pay26_apply (S : FVec Ideal S256x256 .f32) (L : Vec Ideal S1x1x1x256 .f32) (u c : Fin 256) :
    k0_pay26 S L (ix2 u c) = Ideal.exp (S (ix2 u c) - L (ix4 (0 : Fin 1) (0 : Fin 1) (0 : Fin 1) c)) := by
  pointwise [k0_pay26, k0_pay25]

theorem pay27_apply (S T : FVec Ideal S256x256 .f32) (L D : Vec Ideal S1x1x1x256 .f32) (u c : Fin 256) :
    k0_pay27 S T L D (ix2 u c) = (Ideal.exp (S (ix2 u c) - L (ix4 (0 : Fin 1) (0 : Fin 1) (0 : Fin 1) c))
      * (T (ix2 u c) - D (ix4 (0 : Fin 1) (0 : Fin 1) (0 : Fin 1) c)) : EReal) := by
  pointwise [k0_pay27, k0_pay25]

theorem pay107_apply (kh qh : FVec Ideal S256x128 .bf16) (L : Vec Ideal S1x1x1x256 .f32) (u c : Fin 256) :
    k0_pay107 kh qh L (ix2 u c) = Ideal.exp ((if u ≤ c then (∑ e : Fin 128, kh (ix2 u e) * qh (ix2 c e) : EReal) else ⊥)
      - L (ix4 (0 : Fin 1) (0 : Fin 1) (0 : Fin 1) c)) := by
  pointwise [k0_pay107, mask_named]
  rw [causal_select (by norm_num)]

theorem pay37_apply (kt : FVec Ideal S128x256 .bf16) (ds : FVec Ideal S256x256 .bf16) (D : Vec Ideal S1x1x128x256 .f32)
    (e : Fin 128) (c : Fin 256) :
    k0_pay37 kt ds D (ix4 (0 : Fin 1) (0 : Fin 1) e c)
      = (D (ix4 (0 : Fin 1) (0 : Fin 1) e c) + ∑ u : Fin 256, kt (ix2 e u) * ds (ix2 u c) : EReal) := by
  pointwise [k0_pay37]

theorem pay38_apply (A : FVec Ideal S256x128 .f32) (qh : FVec Ideal S256x128 .bf16) (ds : FVec Ideal S256x256 .bf16)
    (u : Fin 256) (e : Fin 128) :
    k0_pay38 A qh ds (ix2 u e) = (A (ix2 u e) + ∑ c : Fin 256, ds (ix2 u c) * qh (ix2 c e) : EReal) := by
  pointwise [k0_pay38]

theorem pay39_apply (A : FVec Ideal S256x64 .f32) (gh : FVec Ideal S256x64 .bf16) (p : FVec Ideal S256x256 .bf16)
    (u : Fin 256) (d : Fin 64) :
    k0_pay39 A gh p (ix2 u d) = (A (ix2 u d) + ∑ c : Fin 256, p (ix2 u c) * gh (ix2 c d) : EReal) := by
  pointwise [k0_pay39]

theorem pay108_apply (kh qh : FVec Ideal S256x128 .bf16) (L : Vec Ideal S1x1x1x256 .f32) (u c : Fin 256) :
    k0_pay108 kh qh L (ix2 u c) = (k0_pay107 kh qh L (ix2 u c) : EReal) := by
  pointwise [k0_pay108]

theorem pay109_apply (kh : FVec Ideal S256x128 .bf16) (vh : FVec Ideal S256x64 .bf16) (qh : FVec Ideal S256x128 .bf16)
    (gh : FVec Ideal S256x64 .bf16) (L D : Vec Ideal S1x1x1x256 .f32) (u c : Fin 256) :
    k0_pay109 kh vh qh gh L D (ix2 u c) = (k0_pay107 kh qh L (ix2 u c)
      * ((∑ d : Fin 64, vh (ix2 u d) * gh (ix2 c d)) - D (ix4 (0 : Fin 1) (0 : Fin 1) (0 : Fin 1) c)) : EReal) := by
  pointwise [k0_pay109]

theorem pay121_apply (qh : FVec Ideal S256x128 .bf16) (ds : FVec Ideal S256x256 .bf16) (u : Fin 256) (e : Fin 128) :
    k0_pay121 k0_pay86 qh ds (ix2 u e) = (∑ c : Fin 256, ds (ix2 u c) * qh (ix2 c e) : EReal) := by
  pointwise [k0_pay121, k0_pay86]

theorem pay122_apply (gh : FVec Ideal S256x64 .bf16) (p : FVec Ideal S256x256 .bf16) (u : Fin 256) (d : Fin 64) :
    k0_pay122 k0_pay87 gh p (ix2 u d) = (∑ c : Fin 256, p (ix2 u c) * gh (ix2 c d) : EReal) := by
  pointwise [k0_pay122, k0_pay87]

/-! The pieces of an array, read. -/

/-- The number of query `c` of tile `i`. -/
abbrev pair (i : Fin 16) (c : Fin 256) : Fin 4096 := ⟨256 * i.val + c.val, by omega⟩

theorem qBlk_apply (Q : Vec Ideal S4x4096x128 .bf16) (h : Fin 4) (i : Fin 16) (c : Fin 256) (e : Fin 128) :
    qBlk Q h i (ix3 (0 : Fin 1) c e) = Q (ix3 h (pair i c) e) := by
  rw [ix3_eq_valueIdx h (pair i c) e]; rfl

theorem doBlk_apply (DO : Vec Ideal S4x4096x64 .bf16) (h : Fin 4) (i : Fin 16) (c : Fin 256) (d : Fin 64) :
    doBlk DO h i (ix3 (0 : Fin 1) c d) = DO (ix3 h (pair i c) d) := by
  rw [ix3_eq_valueIdx h (pair i c) d]; rfl

theorem rowBlk_apply (L : Vec Ideal S4x16x8x256 .f32) (h : Fin 4) (i : Fin 16) (c : Fin 256) :
    rowBlk L h i (ix4 (0 : Fin 1) (0 : Fin 1) (0 : Fin 1) c) = L (ix4 h i (0 : Fin 8) c) := by
  rw [ix4_eq_valueIdx h i (0 : Fin 8) c]; rfl

theorem keysOf_at (K : Vec Ideal S4x256x128 .bf16) (h : Fin 4) (u : Fin 256) (e : Fin 128) :
    keysOf K h (ix2 u e) = K (ix3 h u e) := by
  rw [keysOf_apply]
  pointwise [k0_pay74, kBlk]
  rw [ix3_eq_valueIdx]

theorem keysTOf_at (KT : Vec Ideal S4x1x128x256 .bf16) (h : Fin 4) (e : Fin 128) (u : Fin 256) :
    keysTOf KT h (ix2 e u) = KT (ix4 h (0 : Fin 1) e u) := by
  rw [keysTOf_apply]
  pointwise [k0_pay78, ktBlk]
  rw [ix4_eq_valueIdx]

theorem valsOf_at (V : Vec Ideal S4x256x64 .bf16) (h : Fin 4) (u : Fin 256) (d : Fin 64) :
    valsOf V h (ix2 u d) = V (ix3 h u d) := by
  rw [valsOf_apply]
  pointwise [k0_pay82, vBlk]
  rw [ix3_eq_valueIdx]

theorem pay94_at (Q : Vec Ideal S4x4096x128 .bf16) (h : Fin 4) (i : Fin 16) (c : Fin 256) (e : Fin 128) :
    k0_pay94 (qBlk Q h i) (ix2 c e) = Q (ix3 h (pair i c) e) := by
  rw [← qBlk_apply Q h i c e]; pointwise [k0_pay94]

theorem pay98_at (DO : Vec Ideal S4x4096x64 .bf16) (h : Fin 4) (i : Fin 16) (c : Fin 256) (d : Fin 64) :
    k0_pay98 (doBlk DO h i) (ix2 c d) = DO (ix3 h (pair i c) d) := by
  rw [← doBlk_apply DO h i c d]; pointwise [k0_pay98]

theorem pay9_at (Q : Vec Ideal S4x4096x128 .bf16) (h : Fin 4) (i : Fin 16) (c : Fin 256) (e : Fin 128) :
    k0_pay9 (qBlk Q h i) (ix2 c e) = Q (ix3 h (pair i c) e) := by
  rw [← qBlk_apply Q h i c e]; pointwise [k0_pay9]

theorem pay13_at (DO : Vec Ideal S4x4096x64 .bf16) (h : Fin 4) (i : Fin 16) (c : Fin 256) (d : Fin 64) :
    k0_pay13 (doBlk DO h i) (ix2 c d) = DO (ix3 h (pair i c) d) := by
  rw [← doBlk_apply DO h i c d]; pointwise [k0_pay13]

/-! The weights and the logit gradients of one tile, in the arrays' own elements. -/

section Point

variable (K : Vec Ideal S4x256x128 .bf16) (V : Vec Ideal S4x256x64 .bf16) (Q : Vec Ideal S4x4096x128 .bf16)
  (DO : Vec Ideal S4x4096x64 .bf16) (LS DL : Vec Ideal S4x16x8x256 .f32) (h : Fin 4) (j : Fin 16)

/-- The weight of key `u` of block `j` for query `c` of tile `i`: none where the key lies after the query. -/
def wt (u : Fin 256) (i : Fin 16) (c : Fin 256) : EReal :=
  Ideal.exp ((if 256 * j.val + u.val ≤ 256 * i.val + c.val
    then (∑ e : Fin 128, K (ix3 h u e) * Q (ix3 h (pair i c) e) : EReal) else ⊥) - LS (ix4 h i (0 : Fin 8) c))

/-- The gradient of the logit of key `u` of block `j` at query `c` of tile `i`. -/
def gd (u : Fin 256) (i : Fin 16) (c : Fin 256) : EReal :=
  wt K Q LS h j u i c * ((∑ d : Fin 64, V (ix3 h u d) * DO (ix3 h (pair i c) d)) - DL (ix4 h i (0 : Fin 8) c))

theorem wt_before {i : Fin 16} (hij : i < j) (u c : Fin 256) : wt K Q LS h j u i c = 0 := by
  unfold wt
  have : i.val < j.val := hij
  rw [if_neg (by omega), EReal.bot_sub, Ideal.exp_bot]

theorem gd_before {i : Fin 16} (hij : i < j) (u c : Fin 256) : gd K V Q DO LS DL h j u i c = 0 := by
  unfold gd
  rw [wt_before K Q LS h j hij, zero_mul]

theorem tileP_apply {i : Fin 16} (hij : j < i) (u c : Fin 256) :
    tileP (keysOf K h) Q LS h i (ix2 u c) = wt K Q LS h j u i c := by
  have : j.val < i.val := hij
  unfold tileP wt
  rw [pay26_apply, pay17_apply, rowBlk_apply, if_pos (by omega)]
  simp only [keysOf_at, qBlk_apply]

theorem tileDs_apply {i : Fin 16} (hij : j < i) (u c : Fin 256) :
    tileDs (keysOf K h) (valsOf V h) Q DO LS DL h i (ix2 u c) = gd K V Q DO LS DL h j u i c := by
  have : j.val < i.val := hij
  unfold tileDs gd wt
  rw [pay27_apply, pay17_apply, pay18_apply, rowBlk_apply, rowBlk_apply, if_pos (by omega)]
  simp only [keysOf_at, valsOf_at, qBlk_apply, doBlk_apply]

theorem diagP_apply (u c : Fin 256) : diagP (keysOf K h) Q LS h j (ix2 u c) = wt K Q LS h j u j c := by
  unfold diagP wt
  rw [pay108_apply, pay107_apply, rowBlk_apply]
  simp only [keysOf_at, pay94_at, Fin.le_def, add_le_add_iff_left]

theorem diagDs_apply (u c : Fin 256) :
    diagDs (keysOf K h) (valsOf V h) Q DO LS DL h j (ix2 u c) = gd K V Q DO LS DL h j u j c := by
  unfold diagDs gd wt
  rw [pay109_apply, pay107_apply, rowBlk_apply, rowBlk_apply]
  simp only [keysOf_at, valsOf_at, pay94_at, pay98_at, Fin.le_def, add_le_add_iff_left]

end Point

end Cert.FoxBwd

end
-- ==== Proof.FoxBwd.TailStages.lean ====
/- The host lines after the kernel: each result from the arrays the kernel leaves. -/
module

public import proofs.«01_k».proof.Proof.FoxBwd.Consts
public import proofs.«01_k».proof.Proof.FoxBwd.TileValue
public import proofs.«01_k».proof.Proof.Gen.KernelIdeal.Frame
public import Idealize.ShloMosaic.Lib.StableHlo.ReadAt

@[expose] public section

set_option maxRecDepth 16384

noncomputable section

namespace Cert.FoxBwd

open Idealize.ShloMosaic Idealize.ShloMosaic.TcCoe Cert.KernelIdeal Cert.KernelIdeal.Gen

/-- The tile of a query and its place there. -/
abbrev tileOf (t : Fin 4096) : Fin 16 := ⟨t.val / 256, by omega⟩
abbrev placeOf (t : Fin 4096) : Fin 256 := ⟨t.val % 256, by omega⟩

theorem pair_tile (t : Fin 4096) : pair (tileOf t) (placeOf t) = t :=
  Fin.ext (by show 256 * (t.val / 256) + t.val % 256 = t.val; omega)

/-- The query gradient of every lane, from its transposed tiles. -/
def lanesOf (X : FVec Ideal S8x16x128x256 .f32) : FVec Ideal S8x4096x128 .f32 :=
  shapeCast S8x4096x128 (transpose S8x16x256x128 [0, 1, 3, 2] X transposes_S8x16x128x256_S8x16x256x128_0_1_3_2)
    shapeCasts_S8x16x256x128_S8x4096x128

/-- The gradient of the queries, -/
def dqOf (X : FVec Ideal S8x16x128x256 .f32) : FVec Ideal S8x4096x64 .f32 :=
  mulf (extractStridedSlice S8x4096x64 ![0, 0, 0] (lanesOf X) slices_S8x4096x128_S8x4096x64_0_0_0)
    (broadcastInDim S8x4096x64 ![] bcast_S_S8x4096x64 (constant S_ .f32 0x3E000000#32))

/-- of the keys, -/
def dkOf (Y : FVec Ideal S8x4096x128 .f32) : FVec Ideal S8x4096x64 .f32 :=
  extractStridedSlice S8x4096x64 ![0, 0, 0] Y slices_S8x4096x128_S8x4096x64_0_0_0

/-- and of the forget sums. -/
def dFOf (X : FVec Ideal S8x16x128x256 .f32) (Y : FVec Ideal S8x4096x128 .f32) : FVec Ideal S8x4096 .f32 :=
  subf (shapeCast S8x4096 (extractStridedSlice S8x4096x1 ![0, 0, 64] (lanesOf X) slices_S8x4096x128_S8x4096x1_0_0_64) shapeCasts_S8x4096x1_S8x4096)
    (shapeCast S8x4096 (extractStridedSlice S8x4096x1 ![0, 0, 67] Y slices_S8x4096x128_S8x4096x1_0_0_67) shapeCasts_S8x4096x1_S8x4096)

variable (X : FVec Ideal S8x16x128x256 .f32) (Y : FVec Ideal S8x4096x128 .f32) (h : Fin 8) (t : Fin 4096)

theorem lanesOf_apply (e : Fin 128) : lanesOf X (ix3 h t e) = X (ix4 h (tileOf t) e (placeOf t)) := by
  pointwise [lanesOf]

theorem dqOf_apply (d : Fin 64) :
    dqOf X (ix3 h t d) = (X (ix4 h (tileOf t) ⟨d.val, by omega⟩ (placeOf t)) * ((0.125 : ℝ) : EReal) : EReal) := by
  rw [← ofBits_eighth, ← lanesOf_apply X]
  pointwise [dqOf]

theorem dkOf_apply (d : Fin 64) : dkOf Y (ix3 h t d) = Y (ix3 h t ⟨d.val, by omega⟩) := by
  pointwise [dkOf]

theorem dFOf_apply :
    dFOf X Y (ix2 h t) = (X (ix4 h (tileOf t) (64 : Fin 128) (placeOf t)) - Y (ix3 h t (67 : Fin 128)) : EReal) := by
  rw [← lanesOf_apply X]
  pointwise [dFOf]

/-! The host lines compute these. -/

variable (V1 : Valuation τ sig (Elt Ideal))

theorem tail_dq : StableHlo.after (List.flatten [hostOps1]) V1 (Proc.devRef .tc main_v103) = dqOf (V1 (Proc.devRef .tc main_v93_0)) := by
  after_reads_simp
  rfl

theorem tail_dk : StableHlo.after (List.flatten [hostOps1]) V1 (Proc.devRef .tc main_v104) = dkOf (V1 (Proc.devRef .tc main_v93_1)) := by
  after_reads_simp
  rfl

theorem tail_dF : StableHlo.after (List.flatten [hostOps1]) V1 (Proc.devRef .tc main_v100)
    = dFOf (V1 (Proc.devRef .tc main_v93_0)) (V1 (Proc.devRef .tc main_v93_1)) := by
  after_reads_simp
  rfl

theorem tail_dv : StableHlo.after (List.flatten [hostOps1]) V1 (Proc.devRef .tc main_v93_2) = V1 (Proc.devRef .tc main_v93_2) := by
  after_reads_simp

end Cert.FoxBwd

end
-- ==== Proof.FoxBwd.Math.lean ====
/- The gradient of the forgetting attention over the real numbers: what both programs are shown to compute. -/
module

public import Mathlib.Data.EReal.Operations
public import Mathlib.Analysis.SpecialFunctions.Exp
public import Mathlib.Analysis.SpecialFunctions.Log.Basic
public import Mathlib.Algebra.BigOperators.Field
public import Mathlib.Tactic.Ring
public import Mathlib.Tactic.FieldSimp
public import Mathlib.Tactic.Linarith

@[expose] public section

noncomputable section

namespace Cert.FoxBwd.Math

/-- A sum of real numbers is their sum as extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp only [Finset.sum_empty, EReal.coe_zero]
  | insert a s ha ih => rw [Finset.sum_insert ha, Finset.sum_insert ha, ih, EReal.coe_add]

/-- The greatest of finitely many numbers, each real or minus infinity and one of them real, is real. -/
theorem fold_max_real {ι : Type*} [Fintype ι] (f : ι → EReal) (hf : ∀ i, f i ≠ ⊤) (i₀ : ι) (h₀ : f i₀ ≠ ⊥) :
    ∃ r : ℝ, Finset.univ.fold max (⊥ : EReal) f = (r : EReal) := by
  classical
  have htop : ∀ s : Finset ι, s.fold max (⊥ : EReal) f ≠ ⊤ := by
    intro s
    induction s using Finset.induction_on with
    | empty => rw [Finset.fold_empty]; exact bot_ne_top
    | insert a s ha ih =>
      rw [Finset.fold_insert ha]
      rcases max_choice (f a) (s.fold max ⊥ f) with h | h
      · rw [h]; exact hf a
      · rw [h]; exact ih
  have hle : f i₀ ≤ Finset.univ.fold max (⊥ : EReal) f :=
    (Finset.le_fold_max _).2 (Or.inr ⟨i₀, Finset.mem_univ _, le_rfl⟩)
  have hbot : Finset.univ.fold max (⊥ : EReal) f ≠ ⊥ := fun h => h₀ (le_bot_iff.1 (h ▸ hle))
  exact ⟨_, (EReal.coe_toReal (htop _) hbot).symm⟩

variable (q k v g : Fin 8 → Fin 4096 → Fin 64 → ℝ) (F M : Fin 8 → Fin 4096 → ℝ) (h : Fin 8)

/-- The logit of key `u` at query `t`. -/
def logit (t u : Fin 4096) : ℝ := (∑ d, q h t d * k h u d) * 0.125 + F h t - F h u

/-- Its exponential, scaled by the row's own number, where the key is not after the query. -/
def expo (t u : Fin 4096) : ℝ := if u ≤ t then Real.exp (logit q k F h t u - M h t) else 0

/-- The sum of a row's exponentials. -/
def rowSum (t : Fin 4096) : ℝ := ∑ u, expo q k F M h t u

theorem expo_nonneg (t u : Fin 4096) : 0 ≤ expo q k F M h t u := by
  unfold expo
  split
  · exact (Real.exp_pos _).le
  · exact le_rfl

theorem rowSum_pos (t : Fin 4096) : 0 < rowSum q k F M h t :=
  Finset.sum_pos' (fun u _ => expo_nonneg q k F M h t u) ⟨t, Finset.mem_univ _, by
    unfold expo; rw [if_pos le_rfl]; exact Real.exp_pos _⟩

/-- The attention weight of key `u` at query `t`. -/
def weight (t u : Fin 4096) : ℝ := expo q k F M h t u / rowSum q k F M h t

/-- The gradient of that weight. -/
def dweight (t u : Fin 4096) : ℝ := ∑ d, v h u d * g h t d

/-- What the row's normalisation takes off: the weights against their gradients. -/
def delta (t : Fin 4096) : ℝ := ∑ u, weight q k F M h t u * dweight v g h t u

/-- The gradient of the logit. -/
def dlogit (t u : Fin 4096) : ℝ := weight q k F M h t u * (dweight v g h t u - delta q k v g F M h t)

/-- The query gradient. -/
def dq (t : Fin 4096) (d : Fin 64) : ℝ := ∑ u, dlogit q k v g F M h t u * 0.125 * k h u d

/-- The key gradient. -/
def dk (u : Fin 4096) (d : Fin 64) : ℝ := ∑ t, dlogit q k v g F M h t u * 0.125 * q h t d

/-- The value gradient. -/
def dv (u : Fin 4096) (d : Fin 64) : ℝ := ∑ t, weight q k F M h t u * g h t d

/-- The gradient of the forget gates' running sum. -/
def dF (t : Fin 4096) : ℝ := (∑ u, dlogit q k v g F M h t u) - ∑ t', dlogit q k v g F M h t' t

/-- A weight is the exponential of the logit less the row's log-sum. -/
theorem weight_eq_exp {t u : Fin 4096} (hu : u ≤ t) :
    Real.exp (logit q k F h t u - (M h t + Real.log (rowSum q k F M h t))) = weight q k F M h t u := by
  unfold weight expo
  rw [if_pos hu, sub_add_eq_sub_sub, Real.exp_sub, Real.exp_log (rowSum_pos q k F M h t)]

theorem weight_after {t u : Fin 4096} (hu : ¬ u ≤ t) : weight q k F M h t u = 0 := by
  unfold weight expo
  rw [if_neg hu, zero_div]

theorem dlogit_after {t u : Fin 4096} (hu : ¬ u ≤ t) : dlogit q k v g F M h t u = 0 := by
  unfold dlogit
  rw [weight_after q k F M h hu, zero_mul]

/-- Delta is also the cotangent against the attention's output. -/
theorem delta_eq (t : Fin 4096) :
    ∑ d, g h t d * (∑ u, weight q k F M h t u * v h u d) = delta q k v g F M h t := by
  unfold delta dweight
  simp only [Finset.mul_sum]
  rw [Finset.sum_comm]
  exact Finset.sum_congr rfl fun u _ => Finset.sum_congr rfl fun d _ => by ring

/-- The gradient of a logit as differentiating the quotient gives it. -/
theorem dlogit_quotient (t u : Fin 4096) :
    (dweight v g h t u / rowSum q k F M h t
      + -(∑ u', dweight v g h t u' * (1 / (rowSum q k F M h t * rowSum q k F M h t)) * expo q k F M h t u'))
      * expo q k F M h t u = dlogit q k v g F M h t u := by
  have hl : rowSum q k F M h t ≠ 0 := (rowSum_pos q k F M h t).ne'
  have e : ∑ u', dweight v g h t u' * (1 / (rowSum q k F M h t * rowSum q k F M h t)) * expo q k F M h t u'
      = delta q k v g F M h t / rowSum q k F M h t := by
    unfold delta weight
    rw [Finset.sum_div]
    exact Finset.sum_congr rfl fun u' _ => by field_simp
  rw [e]
  unfold dlogit weight
  field_simp
  ring

end Cert.FoxBwd.Math

end
-- ==== Proof.FoxBwd.RefValue.lean ====
/- The reference's gradients at real arguments: the real numbers of `Math`. -/
module

public import proofs.«01_k».proof.Proof.FoxBwd.Math
public import proofs.«01_k».proof.Proof.FoxBwd.Consts
public import proofs.«01_k».proof.Proof.Gen.ReferenceIdeal.Read

@[expose] public section

set_option maxRecDepth 16384

noncomputable section

namespace Cert.FoxBwd

open Idealize.ShloMosaic Cert.ReferenceIdeal Cert.ReferenceIdeal.Gen Cert.ReferenceIdeal.Read
open Cert.FoxBwd.Math

variable (q k v g : Fin 8 → Fin 4096 → Fin 64 → ℝ) (F : Fin 8 → Fin 4096 → ℝ) (h : Fin 8)

/-- The masked logits. -/
theorem ref_logits (t u : Fin 4096) :
    val_main_v13 (F := Ideal) (real3 q) (real3 k) (real2 F) (ix3 h t u)
      = if u ≤ t then ((logit q k F h t u : ℝ) : EReal) else ⊥ := by
  pointwise [val_main_v13, val_main_v12, val_main_v11, val_main_v10, val_main_v9, val_main_v8, val_main_v7, val_main_v6,
    val_main_v5, val_main_v4, val_main_v3, val_main_v2, val_main_v1, val_main_v0, val_main_cst, val_main_cst_0,
    real3_apply, real2_apply]
  rw [causal_select (by norm_num), ofBits_bot, ofBits_eighth]
  unfold logit
  simp only [← EReal.coe_mul, coe_sum, ← EReal.coe_add, ← EReal.coe_sub]

/-- The greatest of a row's logits is a real number. -/
theorem ref_max_real (t : Fin 4096) :
    ∃ r : ℝ, val_main_v15 (F := Ideal) (real3 q) (real3 k) (real2 F) (ix2 h t) = (r : EReal) := by
  pointwise [val_main_v15, val_main_cst_2]
  simp only [ref_logits, ofBits_bot]
  refine fold_max_real _ (fun u => ?_) t ?_
  · split
    · exact EReal.coe_ne_top _
    · exact bot_ne_top
  · rw [if_pos le_rfl]; exact EReal.coe_ne_bot _

/-- The number each row of logits is scaled by. -/
def rowMax (h : Fin 8) (t : Fin 4096) : ℝ :=
  (val_main_v15 (F := Ideal) (real3 q) (real3 k) (real2 F) (ix2 h t)).toReal

theorem ref_max (t : Fin 4096) :
    val_main_v15 (F := Ideal) (real3 q) (real3 k) (real2 F) (ix2 h t) = ((rowMax q k F h t : ℝ) : EReal) := by
  obtain ⟨r, hr⟩ := ref_max_real q k F h t
  unfold rowMax
  rw [hr, EReal.toReal_coe]

theorem ref_expo (t u : Fin 4096) :
    val_main_v35 (F := Ideal) (real3 q) (real3 k) (real2 F) (ix3 h t u) = ((expo q k F (rowMax q k F) h t u : ℝ) : EReal) := by
  have e : idx_main_v32 (idx_main_v33 (ix3 h t u)) = ix2 h t := by
    funext a
    match a with
    | ⟨0, _⟩ => rfl
    | ⟨1, _⟩ => rfl
  rw [val_main_v35_apply, val_main_v34_apply, val_main_v33_apply, val_main_v32_apply, e, val_main_v22_apply, val_main_v21_apply,
    ref_logits, ref_max]
  show Ideal.exp ((if u ≤ t then ((logit q k F h t u : ℝ) : EReal) else ⊥)
    - max (Ideal.ofBits .f32 0xFF800000#32) ((rowMax q k F h t : ℝ) : EReal)) = _
  rw [ofBits_bot, max_eq_right bot_le]
  unfold expo
  split
  · rw [← EReal.coe_sub, Ideal.exp_coe]
  · rw [EReal.bot_sub, Ideal.exp_bot, EReal.coe_zero]

theorem ref_rowSum (t : Fin 4096) :
    val_main_v36 (F := Ideal) (real3 q) (real3 k) (real2 F) (ix2 h t) = ((rowSum q k F (rowMax q k F) h t : ℝ) : EReal) := by
  pointwise [val_main_v36, val_main_cst_10]
  simp only [ref_expo, coe_sum]
  rfl

theorem ref_weight (t u : Fin 4096) :
    val_main_v39 (F := Ideal) (real3 q) (real3 k) (real2 F) (ix3 h t u) = ((weight q k F (rowMax q k F) h t u : ℝ) : EReal) := by
  pointwise [val_main_v39, val_main_v38, val_main_v37]
  rw [ref_expo, ref_rowSum, Ideal.div_coe (rowSum_pos q k F (rowMax q k F) h t).ne', ← EReal.coe_mul, mul_one_div]
  rfl

theorem ref_dv (u : Fin 4096) (d : Fin 64) :
    val_main_v45 (F := Ideal) (real3 q) (real3 k) (real2 F) (real3 g) (ix3 h u d) = ((dv q k g F (rowMax q k F) h u d : ℝ) : EReal) := by
  pointwise [val_main_v45, val_main_v44]
  simp only [ref_weight, real3_apply, ← EReal.coe_mul, coe_sum]
  unfold dv
  exact congrArg _ (Finset.sum_congr rfl fun t _ => mul_comm _ _)

theorem ref_dweight (t u : Fin 4096) :
    val_main_v46 (F := Ideal) (real3 v) (real3 g) (ix3 h t u) = ((dweight v g h t u : ℝ) : EReal) := by
  pointwise [val_main_v46]
  simp only [real3_apply, ← EReal.coe_mul, coe_sum]
  unfold dweight
  exact congrArg _ (Finset.sum_congr rfl fun t _ => mul_comm _ _)

theorem ref_inv (t u : Fin 4096) :
    val_main_v47 (F := Ideal) (real3 q) (real3 k) (real2 F) (ix3 h t u)
      = ((1 / (rowSum q k F (rowMax q k F) h t * rowSum q k F (rowMax q k F) h t) : ℝ) : EReal) := by
  pointwise [val_main_v47, val_main_v42, val_main_v41, val_main_v40, val_main_v37, val_main_cst_11]
  have hl := (rowSum_pos q k F (rowMax q k F) h t).ne'
  rw [ref_rowSum, ← EReal.coe_mul, Ideal.div_coe (mul_ne_zero hl hl), one_mul]

theorem ref_dlogit (t u : Fin 4096) :
    val_main_v60 (F := Ideal) (real3 q) (real3 k) (real3 v) (real2 F) (real3 g) (ix3 h t u)
      = ((dlogit q k v g F (rowMax q k F) h t u : ℝ) : EReal) := by
  pointwise [val_main_v60, val_main_v59, val_main_v58, val_main_v57, val_main_v56, val_main_v55, val_main_v54, val_main_v53,
    val_main_v52, val_main_v51, val_main_v50, val_main_v49, val_main_v48, val_main_v37, val_main_v11, val_main_v10, val_main_v9,
    val_main_cst_12, val_main_cst_13, val_main_cst_14]
  simp only [ref_dweight, ref_inv, ref_expo, ref_rowSum]
  rw [causal_select (by norm_num)]
  by_cases hu : u ≤ t
  · rw [if_pos hu, Fin.sum_univ_one, Ideal.div_coe (rowSum_pos q k F (rowMax q k F) h t).ne']
    simp only [← EReal.coe_mul, coe_sum, ← EReal.coe_neg, ← EReal.coe_add]
    rw [← dlogit_quotient, mul_one_div]
  · rw [if_neg hu, dlogit_after q k v g F (rowMax q k F) h hu, EReal.coe_zero]

theorem ref_dq (t : Fin 4096) (d : Fin 64) :
    val_main_v72 (F := Ideal) (real3 q) (real3 k) (real3 v) (real2 F) (real3 g) (ix3 h t d)
      = ((dq q k v g F (rowMax q k F) h t d : ℝ) : EReal) := by
  pointwise [val_main_v72, val_main_v70, val_main_v69, val_main_cst_19]
  simp only [ref_dlogit, real3_apply, ofBits_eighth, ← EReal.coe_mul, coe_sum]
  rfl

theorem ref_dk (u : Fin 4096) (d : Fin 64) :
    val_main_v71 (F := Ideal) (real3 q) (real3 k) (real3 v) (real2 F) (real3 g) (ix3 h u d)
      = ((dk q k v g F (rowMax q k F) h u d : ℝ) : EReal) := by
  pointwise [val_main_v71, val_main_v70, val_main_v69, val_main_cst_19]
  simp only [ref_dlogit, real3_apply, ofBits_eighth, ← EReal.coe_mul, coe_sum]
  rfl

theorem ref_dF (t : Fin 4096) :
    val_main_v68 (F := Ideal) (real3 q) (real3 k) (real3 v) (real2 F) (real3 g) (ix2 h t)
      = ((dF q k v g F (rowMax q k F) h t : ℝ) : EReal) := by
  pointwise [val_main_v68, val_main_v67, val_main_v66, val_main_v65, val_main_v64, val_main_v63, val_main_v62, val_main_v61,
    val_main_cst_15, val_main_cst_16, val_main_cst_17, val_main_cst_18]
  simp only [ref_dlogit, Fin.sum_univ_one, ← EReal.coe_neg, coe_sum, zero_add, ← EReal.coe_add]
  unfold dF
  rw [Finset.sum_neg_distrib, neg_add_eq_sub]

end Cert.FoxBwd

end
-- ==== Proof.FoxBwd.HostStages.lean ====
/- The stages of the host lines before the kernel: each as a function of arrays, read at an index. -/
module

public import proofs.«01_k».proof.Proof.FoxBwd.RefValue
public import proofs.«01_k».proof.Proof.FoxBwd.TileValue
public import proofs.«01_k».proof.Proof.Gen.KernelIdeal.Frame
public import Idealize.ShloMosaic.Lib.StableHlo.ReadAt

@[expose] public section

set_option maxRecDepth 16384

noncomputable section

namespace Cert.FoxBwd

open Idealize.ShloMosaic Idealize.ShloMosaic.TcCoe Cert.KernelIdeal Cert.KernelIdeal.Gen
open Cert.FoxBwd.Math

variable (q k : Fin 8 → Fin 4096 → Fin 64 → ℝ) (F : Fin 8 → Fin 4096 → ℝ)

/-! The host lines' stages, each from the one before. -/

/-- Keys transposed in their blocks. -/
def ktOf (X : FVec Ideal S8x4096x128 .bf16) : FVec Ideal S8x16x128x256 .bf16 :=
  transpose S8x16x128x256 [0, 1, 3, 2] (shapeCast S8x16x256x128 X shapeCasts_S8x4096x128_S8x16x256x128)
    transposes_S8x16x256x128_S8x16x128x256_0_1_3_2

theorem ktOf_apply (X : FVec Ideal S8x4096x128 .bf16) (h : Fin 8) (j : Fin 16) (e : Fin 128) (u : Fin 256) :
    ktOf X (ix4 h j e u) = X (ix3 h (pair j u) e) := by
  pointwise [ktOf]
  exact congrArg (fun p => X (ix3 h p e)) (Fin.ext (by show j.val * 256 + u.val = 256 * j.val + u.val; omega))

/-- The masked logits. -/
def logitsOf (Q K : FVec Ideal S8x4096x64 .f32) (f : FVec Ideal S8x4096 .f32) : FVec Ideal S8x4096x4096 .f32 :=
  select (cmpi .sle (iotaInDim S8x4096x4096 32 2) (iotaInDim S8x4096x4096 32 1))
    (subf (addf (mulf (Host.dotGeneral dot_S8x4096x64_S8x4096x64_S8x4096x4096_2_2_1_1_0_0 none Q K)
        (broadcastInDim S8x4096x4096 ![] bcast_S_S8x4096x4096 (constant S_ .f32 0x3E000000#32)))
      (broadcastInDim S8x4096x4096 ![0, 1, 2] bcast_S8x4096x1_S8x4096x4096_0_1_2
        (broadcastInDim S8x4096x1 ![0, 1] bcast_S8x4096_S8x4096x1_0_1 f)))
      (broadcastInDim S8x4096x4096 ![0, 1, 2] bcast_S8x1x4096_S8x4096x4096_0_1_2
        (broadcastInDim S8x1x4096 ![0, 2] bcast_S8x4096_S8x1x4096_0_2 f)))
    (broadcastInDim S8x4096x4096 ![] bcast_S_S8x4096x4096 (constant S_ .f32 0xFF800000#32))

/-- Each row's greatest. -/
def maxOf (L : FVec Ideal S8x4096x4096 .f32) : FVec Ideal S8x4096 .f32 :=
  Host.reduce FloatOps.maximumf L (constant S_ .f32 0xFF800000#32) reducesTo_S8x4096x4096_S8x4096_d2 h_S_

/-- The exponentials of rows scaled by a number each. -/
def expOf (L : FVec Ideal S8x4096x4096 .f32) (X : FVec Ideal S8x4096 .f32) : FVec Ideal S8x4096x4096 .f32 :=
  Host.exp (subf L (broadcastInDim S8x4096x4096 ![0, 1, 2] bcast_S8x4096x1_S8x4096x4096_0_1_2
    (broadcastInDim S8x4096x1 ![0, 1] bcast_S8x4096_S8x4096x1_0_1 X)))

/-- The rows' sums. -/
def sumOf (E : FVec Ideal S8x4096x4096 .f32) : FVec Ideal S8x4096 .f32 :=
  Host.reduceAdd E (constant S_ .f32 0x00000000#32) reducesTo_S8x4096x4096_S8x4096_d2 h_S_

/-- The rows' log-sums. -/
def lseOf (X S : FVec Ideal S8x4096 .f32) : FVec Ideal S8x4096 .f32 :=
  shapeCast S8x4096 (addf (broadcastInDim S8x4096x1 ![0, 1] bcast_S8x4096_S8x4096x1_0_1 X)
    (Host.log (broadcastInDim S8x4096x1 ![0, 1] bcast_S8x4096_S8x4096x1_0_1 S))) shapeCasts_S8x4096x1_S8x4096

/-- The attention's output. -/
def outOf (E : FVec Ideal S8x4096x4096 .f32) (S : FVec Ideal S8x4096 .f32) (W : FVec Ideal S8x4096x64 .f32) : FVec Ideal S8x4096x64 .f32 :=
  Host.dotGeneral dot_S8x4096x4096_S8x4096x64_S8x4096x64_2_1_1_2_0_0 none
    (Host.divf E (broadcastInDim S8x4096x4096 ![0, 1, 2] bcast_S8x4096x1_S8x4096x4096_0_1_2
      (broadcastInDim S8x4096x1 ![0, 1] bcast_S8x4096_S8x4096x1_0_1 S))) W

/-- The output against its cotangent. -/
def deltaOf (G O : FVec Ideal S8x4096x64 .f32) : FVec Ideal S8x4096 .f32 :=
  Host.reduceAdd (mulf G O) (constant S_ .f32 0x00000000#32) reducesTo_S8x4096x64_S8x4096_d2 h_S_

/-- A number for each query, laid out in tiles. -/
def rowsOf (X : FVec Ideal S8x4096 .f32) : FVec Ideal S8x16x8x256 .f32 :=
  broadcastInDim S8x16x8x256 ![0, 1, 3] bcast_S8x16x256_S8x16x8x256_0_1_3 (shapeCast S8x16x256 X shapeCasts_S8x4096_S8x16x256)

theorem rowsOf_apply (X : FVec Ideal S8x4096 .f32) (h : Fin 8) (i : Fin 16) (r : Fin 8) (x : Fin 256) :
    rowsOf X (ix4 h i r x) = X (ix2 h (pair i x)) := by
  pointwise [rowsOf]
  exact congrArg (fun p => X (ix2 h p)) (Fin.ext (by show i.val * 256 + x.val = 256 * i.val + x.val; omega))

theorem logitsOf_apply (h : Fin 8) (t u : Fin 4096) :
    logitsOf (real3 q) (real3 k) (real2 F) (ix3 h t u) = if u ≤ t then ((logit q k F h t u : ℝ) : EReal) else ⊥ := by
  pointwise [logitsOf, real3_apply, real2_apply]
  rw [causal_select (by norm_num), ofBits_bot, ofBits_eighth]
  unfold logit
  simp only [← EReal.coe_mul, coe_sum, ← EReal.coe_add, ← EReal.coe_sub]

theorem maxOf_apply (L : FVec Ideal S8x4096x4096 .f32) (h : Fin 8) (t : Fin 4096) :
    maxOf L (ix2 h t) = Finset.univ.fold max (⊥ : EReal) (fun u : Fin 4096 => (L (ix3 h t u) : EReal)) := by
  pointwise [maxOf]
  rw [ofBits_bot]

theorem rowMax_apply (h : Fin 8) (t : Fin 4096) :
    maxOf (logitsOf (real3 q) (real3 k) (real2 F)) (ix2 h t) = ((rowMax q k F h t : ℝ) : EReal) := by
  rw [maxOf_apply, ← ref_max]
  pointwise [Cert.ReferenceIdeal.Read.val_main_v15, Cert.ReferenceIdeal.Read.val_main_cst_2]
  simp only [logitsOf_apply, ref_logits, ofBits_bot]

theorem expOf_apply (L : FVec Ideal S8x4096x4096 .f32) (X : FVec Ideal S8x4096 .f32) (h : Fin 8) (t u : Fin 4096) :
    expOf L X (ix3 h t u) = (Ideal.exp (L (ix3 h t u) - X (ix2 h t)) : EReal) := by
  pointwise [expOf]

theorem sumOf_apply (E : FVec Ideal S8x4096x4096 .f32) (h : Fin 8) (t : Fin 4096) :
    sumOf E (ix2 h t) = (∑ u : Fin 4096, E (ix3 h t u) : EReal) := by
  pointwise [sumOf]

theorem lseOf_apply (X S : FVec Ideal S8x4096 .f32) (h : Fin 8) (t : Fin 4096) :
    lseOf X S (ix2 h t) = (X (ix2 h t) + Ideal.log (S (ix2 h t)) : EReal) := by
  pointwise [lseOf]

theorem outOf_apply (E : FVec Ideal S8x4096x4096 .f32) (S : FVec Ideal S8x4096 .f32) (W : FVec Ideal S8x4096x64 .f32)
    (h : Fin 8) (t : Fin 4096) (d : Fin 64) :
    outOf E S W (ix3 h t d) = (∑ u : Fin 4096, Ideal.div (E (ix3 h t u)) (S (ix2 h t)) * W (ix3 h u d) : EReal) := by
  pointwise [outOf]

theorem deltaOf_apply (G O : FVec Ideal S8x4096x64 .f32) (h : Fin 8) (t : Fin 4096) :
    deltaOf G O (ix2 h t) = (∑ d : Fin 64, G (ix3 h t d) * O (ix3 h t d) : EReal) := by
  pointwise [deltaOf]

end Cert.FoxBwd

end
-- ==== Proof.FoxBwd.HostValue.lean ====
/- What the host lines before the kernel make of real arguments: the seven arrays the kernel's windows are taken from. -/
module

public import proofs.«01_k».proof.Proof.FoxBwd.HostStages
public import proofs.«01_k».proof.Proof.Gen.KernelIdeal.Frame
public import Idealize.ShloMosaic.Lib.StableHlo.ReadAt

@[expose] public section

set_option maxRecDepth 16384

noncomputable section

namespace Cert.FoxBwd

open Idealize.ShloMosaic Idealize.ShloMosaic.TcCoe Cert.KernelIdeal Cert.KernelIdeal.Gen
open Cert.FoxBwd.Math

/-! A lane's number compared with a constant. -/

theorem lane_eq (n : Fin 128) : ∀ e : Fin 128,
    IntOp.cmpi .eq (BitVec.ofNat 32 e.val) (BitVec.ofNat 32 n.val) = BitVec.ofBool (decide (e.val = n.val)) := by
  revert n; decide +kernel

theorem lane_lt (n : Fin 128) : ∀ e : Fin 128,
    IntOp.cmpi .slt (BitVec.ofNat 32 e.val) (BitVec.ofNat 32 n.val) = BitVec.ofBool (decide (e.val < n.val)) := by
  revert n; decide +kernel

theorem select_lane (p : Prop) [Decidable p] (a b : EReal) : Scalar.select (BitVec.ofBool (decide p)) a b = if p then a else b := by
  by_cases h : p
  · rw [decide_eq_true h, if_pos h]; rfl
  · rw [decide_eq_false h, if_neg h]; rfl

variable (q k v g : Fin 8 → Fin 4096 → Fin 64 → ℝ) (F : Fin 8 → Fin 4096 → ℝ)

/-- The lanes of the widened queries: the scaled query, then the forget sum, then ones. -/
def laneQ (h : Fin 8) (t : Fin 4096) (e : Fin 128) : ℝ :=
  if he : e.val < 64 then q h t ⟨e.val, he⟩ * 0.125 else if e.val = 64 then F h t else if e.val < 67 then 0 else if e.val < 70 then 1 else 0

/-- The lanes of the widened keys: the key, then ones, then the forget sum's negative. -/
def laneK (h : Fin 8) (u : Fin 4096) (e : Fin 128) : ℝ :=
  if he : e.val < 64 then k h u ⟨e.val, he⟩ else if e.val < 67 then 1 else if e.val = 67 then -F h u else 0

/-- The rows' exponentials. -/
theorem exp_rows (h : Fin 8) (t u : Fin 4096) :
    expOf (logitsOf (real3 q) (real3 k) (real2 F)) (maxOf (logitsOf (real3 q) (real3 k) (real2 F))) (ix3 h t u)
      = ((expo q k F (rowMax q k F) h t u : ℝ) : EReal) := by
  rw [expOf_apply, rowMax_apply, logitsOf_apply]
  unfold expo
  split
  · rw [← EReal.coe_sub, Ideal.exp_coe]
  · rw [EReal.bot_sub, Ideal.exp_bot, EReal.coe_zero]

/-- The rows' sums of exponentials. -/
theorem sum_rows (h : Fin 8) (t : Fin 4096) :
    sumOf (expOf (logitsOf (real3 q) (real3 k) (real2 F)) (maxOf (logitsOf (real3 q) (real3 k) (real2 F)))) (ix2 h t)
      = ((rowSum q k F (rowMax q k F) h t : ℝ) : EReal) := by
  rw [sumOf_apply]
  simp only [exp_rows q k F, coe_sum]
  rfl

variable (m : (ℓ : Loc nD τ sig) → Buf (Elt Ideal) ℓ) (c : Dev nD)

/-- The arguments of the program hold these arrays. -/
structure Holds : Prop where
  a0 : m (c, Proc.tc.devRef main_arg0) = real3 q
  a1 : m (c, Proc.tc.devRef main_arg1) = real3 k
  a2 : m (c, Proc.tc.devRef main_arg2) = real3 v
  a3 : m (c, Proc.tc.devRef main_arg3) = real2 F
  a4 : m (c, Proc.tc.devRef main_arg4) = real3 g

variable (H : Holds q k v g F m c)
include H

theorem host_v (h : Fin 8) (u : Fin 4096) (d : Fin 64) :
    (V m c main_v87 : FVec Ideal S8x4096x64 .bf16) (ix3 h u d) = ((v h u d : ℝ) : EReal) := by
  unfold V
  after_reads_at
  rw [H.a2]; rfl

theorem host_g (h : Fin 8) (u : Fin 4096) (d : Fin 64) :
    (V m c main_v88 : FVec Ideal S8x4096x64 .bf16) (ix3 h u d) = ((g h u d : ℝ) : EReal) := by
  unfold V
  after_reads_at
  rw [H.a4]; rfl

theorem host_q (h : Fin 8) (t : Fin 4096) (e : Fin 128) :
    (V m c main_v54 : FVec Ideal S8x4096x128 .bf16) (ix3 h t e) = ((laneQ q F h t e : ℝ) : EReal) := by
  unfold V
  after_reads_at
  rw [show IntOp.cmpi .slt (BitVec.ofNat 32 e.val) 64#32 = BitVec.ofBool (decide (e.val < 64)) from lane_lt 64 e,
    show IntOp.cmpi .eq (BitVec.ofNat 32 e.val) 64#32 = BitVec.ofBool (decide (e.val = 64)) from lane_eq 64 e,
    show IntOp.cmpi .eq (BitVec.ofNat 32 e.val) 65#32 = BitVec.ofBool (decide (e.val = 65)) from lane_eq 65 e,
    show IntOp.cmpi .eq (BitVec.ofNat 32 e.val) 66#32 = BitVec.ofBool (decide (e.val = 66)) from lane_eq 66 e,
    show IntOp.cmpi .slt (BitVec.ofNat 32 e.val) 70#32 = BitVec.ofBool (decide (e.val < 70)) from lane_lt 70 e]
  simp only [select_lane]
  rw [H.a3, real2_apply, ← EReal.coe_sub, sub_self, EReal.coe_zero, sub_zero]
  unfold laneQ
  by_cases he : e.val < 64
  · rw [if_pos he, dif_pos he, dif_pos he]
    after_reads_at
    rw [H.a0, real3_apply, ofBits_eighth, ← EReal.coe_mul]
  · rw [if_neg he, dif_neg he]
    by_cases h64 : e.val = 64
    · rw [if_pos h64, if_pos h64]
    · rw [if_neg h64, if_neg h64]
      by_cases h67 : e.val < 67
      · rw [if_pos h67, EReal.coe_zero]
        by_cases h65 : e.val = 65
        · rw [if_pos h65]
        · rw [if_neg h65, if_pos (by omega)]
      · rw [if_neg (by omega), if_neg (by omega), if_neg h67]
        split
        · exact EReal.coe_one.symm
        · exact EReal.coe_zero.symm

theorem host_k (h : Fin 8) (u : Fin 4096) (e : Fin 128) :
    (V m c main_v55 : FVec Ideal S8x4096x128 .bf16) (ix3 h u e) = ((laneK k F h u e : ℝ) : EReal) := by
  unfold V
  after_reads_at
  rw [show IntOp.cmpi .slt (BitVec.ofNat 32 e.val) 64#32 = BitVec.ofBool (decide (e.val < 64)) from lane_lt 64 e,
    show IntOp.cmpi .slt (BitVec.ofNat 32 e.val) 67#32 = BitVec.ofBool (decide (e.val < 67)) from lane_lt 67 e,
    show IntOp.cmpi .eq (BitVec.ofNat 32 e.val) 67#32 = BitVec.ofBool (decide (e.val = 67)) from lane_eq 67 e,
    show IntOp.cmpi .eq (BitVec.ofNat 32 e.val) 68#32 = BitVec.ofBool (decide (e.val = 68)) from lane_eq 68 e,
    show IntOp.cmpi .eq (BitVec.ofNat 32 e.val) 69#32 = BitVec.ofBool (decide (e.val = 69)) from lane_eq 69 e]
  simp only [select_lane]
  rw [H.a3, real2_apply, ← EReal.coe_sub, sub_self, EReal.coe_zero, sub_zero, neg_zero]
  unfold laneK
  by_cases he : e.val < 64
  · rw [if_pos he, dif_pos he, dif_pos he]
    after_reads_at
    rw [H.a1, real3_apply]
  · rw [if_neg he, dif_neg he]
    by_cases h67 : e.val < 67
    · rw [if_pos h67, if_pos h67, EReal.coe_one]
    · rw [if_neg h67, if_neg h67]
      by_cases h : e.val = 67
      · rw [if_pos h, if_pos h, EReal.coe_neg]
      · rw [if_neg h, if_neg h, EReal.coe_zero]
        split
        · rfl
        · split <;> rfl

theorem host_kt (h : Fin 8) (j : Fin 16) (e : Fin 128) (u : Fin 256) :
    (V m c main_v57 : FVec Ideal S8x16x128x256 .bf16) (ix4 h j e u) = ((laneK k F h (pair j u) e : ℝ) : EReal) := by
  have e1 : (V m c main_v57 : FVec Ideal S8x16x128x256 .bf16) = ktOf (V m c main_v55) := by
    unfold V
    after_reads_simp
    rfl
  rw [e1, ktOf_apply, host_k q k v g F m c H]

theorem host_ls (h : Fin 8) (i : Fin 16) (r : Fin 8) (x : Fin 256) :
    (V m c main_v90 : FVec Ideal S8x16x8x256 .f32) (ix4 h i r x)
      = ((rowMax q k F h (pair i x) + Real.log (rowSum q k F (rowMax q k F) h (pair i x)) : ℝ) : EReal) := by
  have e1 : (V m c main_v90 : FVec Ideal S8x16x8x256 .f32)
      = rowsOf (lseOf (maxOf (logitsOf (m (c, Proc.tc.devRef main_arg0)) (m (c, Proc.tc.devRef main_arg1)) (m (c, Proc.tc.devRef main_arg3))))
          (sumOf (expOf (logitsOf (m (c, Proc.tc.devRef main_arg0)) (m (c, Proc.tc.devRef main_arg1)) (m (c, Proc.tc.devRef main_arg3)))
            (maxOf (logitsOf (m (c, Proc.tc.devRef main_arg0)) (m (c, Proc.tc.devRef main_arg1)) (m (c, Proc.tc.devRef main_arg3))))))) := by
    unfold V
    after_reads_simp
    rfl
  rw [e1, H.a0, H.a1, H.a3, rowsOf_apply, lseOf_apply, rowMax_apply, sum_rows, Ideal.log_coe,
    if_neg (not_le.2 (rowSum_pos q k F (rowMax q k F) h (pair i x))), EReal.coe_add]

theorem host_delta (h : Fin 8) (i : Fin 16) (r : Fin 8) (x : Fin 256) :
    (V m c main_v92 : FVec Ideal S8x16x8x256 .f32) (ix4 h i r x)
      = ((delta q k v g F (rowMax q k F) h (pair i x) : ℝ) : EReal) := by
  have e1 : (V m c main_v92 : FVec Ideal S8x16x8x256 .f32)
      = rowsOf (deltaOf (m (c, Proc.tc.devRef main_arg4)) (outOf
          (expOf (logitsOf (m (c, Proc.tc.devRef main_arg0)) (m (c, Proc.tc.devRef main_arg1)) (m (c, Proc.tc.devRef main_arg3)))
            (maxOf (logitsOf (m (c, Proc.tc.devRef main_arg0)) (m (c, Proc.tc.devRef main_arg1)) (m (c, Proc.tc.devRef main_arg3)))))
          (sumOf (expOf (logitsOf (m (c, Proc.tc.devRef main_arg0)) (m (c, Proc.tc.devRef main_arg1)) (m (c, Proc.tc.devRef main_arg3)))
            (maxOf (logitsOf (m (c, Proc.tc.devRef main_arg0)) (m (c, Proc.tc.devRef main_arg1)) (m (c, Proc.tc.devRef main_arg3))))))
          (m (c, Proc.tc.devRef main_arg2)))) := by
    unfold V
    after_reads_simp
    rfl
  rw [e1, H.a0, H.a1, H.a2, H.a3, H.a4, rowsOf_apply, deltaOf_apply]
  simp only [outOf_apply, exp_rows q k F, sum_rows q k F, Ideal.div_coe (rowSum_pos q k F (rowMax q k F) h (pair i x)).ne', real3_apply,
    ← EReal.coe_mul, coe_sum, mul_one_div]
  rw [← delta_eq]
  rfl

end Cert.FoxBwd

end
-- ==== Proof.FoxBwd.PointValue.lean ====
/- What one grid point computes, in closed form over the extended reals: the gradients of its key block and of its value
   block as sums over all query tiles, and what it adds into the query gradient. -/
module

public import proofs.«01_k».proof.Proof.FoxBwd.TileValue

@[expose] public section

set_option maxRecDepth 16384

noncomputable section

namespace Cert.FoxBwd

open Idealize.ShloMosaic Cert.KernelIdeal Cert.KernelIdeal.Gen

variable {F : FTy → Type} [FloatOps F] [Named F]

theorem dk_accOf (A : Fin 4 → FVec F S256x128 .f32) (B : Fin 4 → FVec F S256x64 .f32) (h : Fin 4) :
    Acc.dk (accOf A B) h = A h := by
  match h with
  | 0 => rfl
  | 1 => rfl
  | 2 => rfl
  | 3 => rfl

theorem dv_accOf (A : Fin 4 → FVec F S256x128 .f32) (B : Fin 4 → FVec F S256x64 .f32) (h : Fin 4) :
    Acc.dv (accOf A B) h = B h := by
  match h with
  | 0 => rfl
  | 1 => rfl
  | 2 => rfl
  | 3 => rfl

/-- The tile on the diagonal and the later ones are all the tiles that count. -/
theorem sum_tiles (g : Fin 16 → EReal) (j : Fin 16) (hz : ∀ i, i < j → g i = 0) :
    g j + ∑ k ∈ Finset.range (15 - j.val), g (tileAt j.val k) = ∑ i : Fin 16, g i := by
  have e1 : ∑ i : Fin 16, g i = ∑ n ∈ Finset.range 16, g (Fin.ofNat 16 n) := by
    rw [← Fin.sum_univ_eq_sum_range (fun n => g (Fin.ofNat 16 n)) 16]
    refine Finset.sum_congr rfl fun i _ => congrArg g (Fin.ext ?_)
    show i.val = i.val % 16
    omega
  have e2 : 16 = j.val + (15 - j.val + 1) := by omega
  rw [e1, show Finset.range 16 = Finset.range (j.val + (15 - j.val + 1)) from congrArg Finset.range e2,
    Finset.sum_range_add]
  have e3 : ∑ n ∈ Finset.range j.val, g (Fin.ofNat 16 n) = 0 := by
    refine Finset.sum_eq_zero fun n hn => ?_
    have := Finset.mem_range.1 hn
    refine hz _ ?_
    show n % 16 < j.val
    omega
  rw [e3, zero_add, Finset.sum_range_succ', add_comm]
  · refine congrArg₂ (· + ·) (Finset.sum_congr rfl fun k _ => congrArg g (Fin.ext ?_)) (congrArg g (Fin.ext ?_))
    · show (j.val + 1 + k) % 16 = (j.val + (k + 1)) % 16
      omega
    · show j.val = (j.val + 0) % 16
      omega

section Point

variable (K : Vec Ideal S4x256x128 .bf16) (KT : Vec Ideal S4x1x128x256 .bf16) (V : Vec Ideal S4x256x64 .bf16)
  (Q : Vec Ideal S4x4096x128 .bf16) (DO : Vec Ideal S4x4096x64 .bf16) (LS DL : Vec Ideal S4x16x8x256 .f32)
  (h : Fin 4) (j : Fin 16)

theorem later_tile {k : ℕ} (hk : k < 15 - j.val) : j < tileAt j.val k := by
  show j.val < (j.val + 1 + k) % 16
  omega

theorem sweep_dk (a : Acc Ideal) (u : Fin 256) (e : Fin 128) : ∀ n, n ≤ 15 - j.val →
    Acc.dk (sweepAcc (keysOf K) (valsOf V) Q DO LS DL j.val a n) h (ix2 u e)
      = (Acc.dk a h (ix2 u e) + ∑ k ∈ Finset.range n, ∑ c : Fin 256,
          gd K V Q DO LS DL h j u (tileAt j.val k) c * Q (ix3 h (pair (tileAt j.val k) c) e) : EReal) := by
  intro n
  induction n with
  | zero => intro _; rw [Finset.range_zero, Finset.sum_empty, add_zero]; rfl
  | succ n ih =>
    intro hn
    rw [Finset.sum_range_succ, ← add_assoc, ← ih (by omega)]
    rw [show sweepAcc (keysOf K) (valsOf V) Q DO LS DL j.val a (n + 1) = accStep (keysOf K) (valsOf V) Q DO LS DL
      (sweepAcc (keysOf K) (valsOf V) Q DO LS DL j.val a n) (tileAt j.val n) from rfl]
    unfold accStep
    rw [dk_accOf, pay38_apply]
    simp only [tileDs_apply K V Q DO LS DL h j (later_tile j (k := n) (by omega)), pay9_at]

theorem sweep_dv (a : Acc Ideal) (u : Fin 256) (d : Fin 64) : ∀ n, n ≤ 15 - j.val →
    Acc.dv (sweepAcc (keysOf K) (valsOf V) Q DO LS DL j.val a n) h (ix2 u d)
      = (Acc.dv a h (ix2 u d) + ∑ k ∈ Finset.range n, ∑ c : Fin 256,
          wt K Q LS h j u (tileAt j.val k) c * DO (ix3 h (pair (tileAt j.val k) c) d) : EReal) := by
  intro n
  induction n with
  | zero => intro _; rw [Finset.range_zero, Finset.sum_empty, add_zero]; rfl
  | succ n ih =>
    intro hn
    rw [Finset.sum_range_succ, ← add_assoc, ← ih (by omega)]
    rw [show sweepAcc (keysOf K) (valsOf V) Q DO LS DL j.val a (n + 1) = accStep (keysOf K) (valsOf V) Q DO LS DL
      (sweepAcc (keysOf K) (valsOf V) Q DO LS DL j.val a n) (tileAt j.val n) from rfl]
    unfold accStep
    rw [dv_accOf, pay39_apply]
    simp only [tileP_apply K Q LS h j (later_tile j (k := n) (by omega)), pay13_at]

/-- The key block's gradient: the logit gradients against all the queries. -/
theorem point_dk (u : Fin 256) (e : Fin 128) :
    Acc.dk (pointAcc K V Q DO LS DL j (15 - j.val)) h (ix2 u e)
      = (∑ i : Fin 16, ∑ c : Fin 256, gd K V Q DO LS DL h j u i c * Q (ix3 h (pair i c) e) : EReal) := by
  unfold pointAcc
  rw [sweep_dk K V Q DO LS DL h j _ u e _ le_rfl]
  rw [← sum_tiles (fun i => ∑ c : Fin 256, gd K V Q DO LS DL h j u i c * Q (ix3 h (pair i c) e)) j ?_]
  · congr 1
    unfold diagAcc
    rw [dk_accOf, pay121_apply]
    simp only [diagDs_apply, pay94_at]
  · intro i hi
    refine Finset.sum_eq_zero fun c _ => ?_
    rw [gd_before K V Q DO LS DL h j hi, zero_mul]

/-- The value block's gradient: the weights against all the cotangents. -/
theorem point_dv (u : Fin 256) (d : Fin 64) :
    Acc.dv (pointAcc K V Q DO LS DL j (15 - j.val)) h (ix2 u d)
      = (∑ i : Fin 16, ∑ c : Fin 256, wt K Q LS h j u i c * DO (ix3 h (pair i c) d) : EReal) := by
  unfold pointAcc
  rw [sweep_dv K V Q DO LS DL h j _ u d _ le_rfl]
  rw [← sum_tiles (fun i => ∑ c : Fin 256, wt K Q LS h j u i c * DO (ix3 h (pair i c) d)) j ?_]
  · congr 1
    unfold diagAcc
    rw [dv_accOf, pay122_apply]
    simp only [diagP_apply, pay98_at]
  · intro i hi
    refine Finset.sum_eq_zero fun c _ => ?_
    rw [wt_before K Q LS h j hi, zero_mul]

theorem dqStep_apply (kt : Fin 4 → FVec Ideal S128x256 .bf16) (ds : Fin 4 → FVec Ideal S256x256 .bf16)
    (D : Vec Ideal S4x16x128x256 .f32) (t i : Fin 16) (e : Fin 128) (c : Fin 256) :
    dqStep kt ds D t (ix4 h i e c) = if i = t
      then (D (ix4 h i e c) + ∑ u : Fin 256, kt h (ix2 e u) * ds h (ix2 u c) : EReal) else D (ix4 h i e c) := by
  unfold dqStep putTile
  by_cases hi : i = t
  · subst hi
    rw [if_pos rfl]
    refine (if_pos rfl).trans ?_
    show k0_pay37 (kt h) (ds h) (dqBlk D h i) (ValueIdx.ix4 (0 : Fin 1) (0 : Fin 1) e c) = _
    rw [← ix4_eq_valueIdx (0 : Fin 1) (0 : Fin 1) e c, pay37_apply]
    congr 1
  · rw [if_neg hi]
    exact if_neg fun h' => hi (Fin.ext h')

theorem sweepDq_apply (kt : Fin 4 → FVec Ideal S128x256 .bf16) (ds : Fin 4 → Fin 16 → FVec Ideal S256x256 .bf16)
    (D : Vec Ideal S4x16x128x256 .f32) (i : Fin 16) (e : Fin 128) (c : Fin 256) : ∀ n, n ≤ 15 - j.val →
    sweepDq kt ds j.val D n (ix4 h i e c) = if j.val < i.val ∧ i.val ≤ j.val + n
      then (D (ix4 h i e c) + ∑ u : Fin 256, kt h (ix2 e u) * ds h i (ix2 u c) : EReal) else D (ix4 h i e c) := by
  intro n
  induction n with
  | zero => intro _; rw [if_neg (by omega)]; rfl
  | succ n ih =>
    intro hn
    show dqStep kt _ (sweepDq kt ds j.val D n) (tileAt j.val n) (ix4 h i e c) = _
    rw [dqStep_apply, ih (by omega)]
    have ht : (tileAt j.val n).val = j.val + 1 + n := by
      show (j.val + 1 + n) % 16 = _
      omega
    by_cases hi : i = tileAt j.val n
    · have hv : i.val = j.val + 1 + n := by rw [hi, ht]
      rw [if_pos hi, if_neg (by omega), if_pos (by omega), ← hi]
    · have hv : i.val ≠ j.val + 1 + n := fun h' => hi (Fin.ext (h'.trans ht.symm))
      rw [if_neg hi]
      by_cases h2 : j.val < i.val ∧ i.val ≤ j.val + n
      · rw [if_pos h2, if_pos (by omega)]
      · rw [if_neg h2, if_neg (by omega)]

/-- What a grid point adds into the query gradient: its keys against the logit gradients. -/
theorem point_dq (D : Vec Ideal S4x16x128x256 .f32) (i : Fin 16) (e : Fin 128) (c : Fin 256) :
    pointDq K KT V Q DO LS DL j D (15 - j.val) (ix4 h i e c)
      = (D (ix4 h i e c) + ∑ u : Fin 256, KT (ix4 h (0 : Fin 1) e u) * gd K V Q DO LS DL h j u i c : EReal) := by
  unfold pointDq
  rw [sweepDq_apply h j _ _ _ i e c _ le_rfl, dqStep_apply]
  by_cases h1 : j < i
  · have : j.val < i.val := h1
    rw [if_pos (by omega), if_neg (fun h' => absurd (h' ▸ h1) (lt_irrefl _))]
    simp only [keysTOf_at, tileDs_apply K V Q DO LS DL h j h1]
  · by_cases h2 : i = j
    · subst h2
      rw [if_neg (by omega), if_pos rfl]
      simp only [keysTOf_at, diagDs_apply]
    · have h3 : i < j := lt_of_le_of_ne (not_lt.1 h1) h2
      have : i.val < j.val := h3
      rw [if_neg (by omega), if_neg h2, Finset.sum_eq_zero, add_zero]
      intro u _
      rw [gd_before K V Q DO LS DL h j h3, mul_zero]

end Point

end Cert.FoxBwd

end
-- ==== Proof.FoxBwd.Blocks.lean ====
/- The blocks of the kernel's windows in their arrays. -/
module

public import proofs.«01_k».proof.Proof.FoxBwd.TileValue
public import proofs.«01_k».proof.Proof.Gen.KernelIdeal.Frame
public import Idealize.ShloMosaic.Lib.Pipeline.ValueKit

@[expose] public section

set_option maxRecDepth 16384

noncomputable section

namespace Cert.FoxBwd

open Idealize.ShloMosaic Idealize.ShloMosaic.TcCoe Cert.KernelIdeal Cert.KernelIdeal.Gen

/-- Head `h` of group `g`. -/
abbrev head (g : Fin 2) (h : Fin 4) : Fin 8 := ⟨4 * g.val + h.val, by omega⟩

/-- The group of heads a grid point works on. -/
abbrev groupOf (t : Fin grid0.N) : Fin 2 := ⟨t.val / 16, by have : t.val < 32 := t.isLt; omega⟩

/-- The key block a grid point works on. -/
abbrev blockOf (t : Fin grid0.N) : Fin 16 := ⟨t.val % 16, by omega⟩

theorem index_0 : ∀ t : Fin cfg0.N, win0_0.index t = ![t.val / 16, 0, 0] := (by decide +kernel : ∀ t : Fin grid0.N, _)
theorem index_1 : ∀ t : Fin cfg0.N, win0_1.index t = ![t.val / 16, t.val % 16, 0] := (by decide +kernel : ∀ t : Fin grid0.N, _)
theorem index_2 : ∀ t : Fin cfg0.N, win0_2.index t = ![t.val / 16, t.val % 16, 0, 0] := (by decide +kernel : ∀ t : Fin grid0.N, _)
theorem index_3 : ∀ t : Fin cfg0.N, win0_3.index t = ![t.val / 16, t.val % 16, 0] := (by decide +kernel : ∀ t : Fin grid0.N, _)
theorem index_4 : ∀ t : Fin cfg0.N, win0_4.index t = ![t.val / 16, 0, 0] := (by decide +kernel : ∀ t : Fin grid0.N, _)
theorem index_5 : ∀ t : Fin cfg0.N, win0_5.index t = ![t.val / 16, 0, 0, 0] := (by decide +kernel : ∀ t : Fin grid0.N, _)
theorem index_6 : ∀ t : Fin cfg0.N, win0_6.index t = ![t.val / 16, 0, 0, 0] := (by decide +kernel : ∀ t : Fin grid0.N, _)
theorem index_7 : ∀ t : Fin cfg0.N, win0_7.index t = ![t.val / 16, 0, 0, 0] := (by decide +kernel : ∀ t : Fin grid0.N, _)
theorem index_8 : ∀ t : Fin cfg0.N, win0_8.index t = ![t.val / 16, t.val % 16, 0] := (by decide +kernel : ∀ t : Fin grid0.N, _)
theorem index_9 : ∀ t : Fin cfg0.N, win0_9.index t = ![t.val / 16, t.val % 16, 0] := (by decide +kernel : ∀ t : Fin grid0.N, _)
/-! Where the elements of a block sit in its array. -/

theorem emb_q (t : Fin cfg0.N) (h : Fin 4) (x : Fin 4096) (e : Fin 128) :
    (win0_0.blk t).view.emb (ix3 h x e) = ix3 (head (groupOf t) h) x e := by
  blk_ext [index_0]

theorem emb_k (t : Fin cfg0.N) (h : Fin 4) (u : Fin 256) (e : Fin 128) :
    (win0_1.blk t).view.emb (ix3 h u e) = ix3 (head (groupOf t) h) (pair (blockOf t) u) e := by
  blk_ext [index_1]

theorem emb_kt (t : Fin cfg0.N) (h : Fin 4) (e : Fin 128) (u : Fin 256) :
    (win0_2.blk t).view.emb (ix4 h (0 : Fin 1) e u) = ix4 (head (groupOf t) h) (blockOf t) e u := by
  blk_ext [index_2]

theorem emb_v (t : Fin cfg0.N) (h : Fin 4) (u : Fin 256) (d : Fin 64) :
    (win0_3.blk t).view.emb (ix3 h u d) = ix3 (head (groupOf t) h) (pair (blockOf t) u) d := by
  blk_ext [index_3]

theorem emb_d (t : Fin cfg0.N) (h : Fin 4) (x : Fin 4096) (d : Fin 64) :
    (win0_4.blk t).view.emb (ix3 h x d) = ix3 (head (groupOf t) h) x d := by
  blk_ext [index_4]

theorem emb_ls (t : Fin cfg0.N) (h : Fin 4) (i : Fin 16) (x : Fin 256) :
    (win0_5.blk t).view.emb (ix4 h i (0 : Fin 8) x) = ix4 (head (groupOf t) h) i (0 : Fin 8) x := by
  blk_ext [index_5]

theorem emb_dl (t : Fin cfg0.N) (h : Fin 4) (i : Fin 16) (x : Fin 256) :
    (win0_6.blk t).view.emb (ix4 h i (0 : Fin 8) x) = ix4 (head (groupOf t) h) i (0 : Fin 8) x := by
  blk_ext [index_6]

theorem emb_dqt (t : Fin cfg0.N) (h : Fin 4) (i : Fin 16) (e : Fin 128) (x : Fin 256) :
    (win0_7.blk t).view.emb (ix4 h i e x) = ix4 (head (groupOf t) h) i e x := by
  blk_ext [index_7]

theorem emb_dk (t : Fin cfg0.N) (h : Fin 4) (u : Fin 256) (e : Fin 128) :
    (win0_8.blk t).view.emb (ix3 h u e) = ix3 (head (groupOf t) h) (pair (blockOf t) u) e := by
  blk_ext [index_8]

theorem emb_dv (t : Fin cfg0.N) (h : Fin 4) (u : Fin 256) (e : Fin 64) :
    (win0_9.blk t).view.emb (ix3 h u e) = ix3 (head (groupOf t) h) (pair (blockOf t) u) e := by
  blk_ext [index_9]

/-! A block of any array read at an index, -/

theorem read_q (t : Fin cfg0.N) (X : FVec Ideal S8x4096x128 .bf16) (h : Fin 4) (x : Fin 4096) (e : Fin 128) :
    ((win0_0.blk t).view.read (Elt Ideal) X : Vec Ideal S4x4096x128 .bf16) (ix3 h x e) = X (ix3 (head (groupOf t) h) x e) :=
  congrArg X (emb_q t h x e)

theorem read_k (t : Fin cfg0.N) (X : FVec Ideal S8x4096x128 .bf16) (h : Fin 4) (u : Fin 256) (e : Fin 128) :
    ((win0_1.blk t).view.read (Elt Ideal) X : Vec Ideal S4x256x128 .bf16) (ix3 h u e) = X (ix3 (head (groupOf t) h) (pair (blockOf t) u) e) :=
  congrArg X (emb_k t h u e)

theorem read_kt (t : Fin cfg0.N) (X : FVec Ideal S8x16x128x256 .bf16) (h : Fin 4) (e : Fin 128) (u : Fin 256) :
    ((win0_2.blk t).view.read (Elt Ideal) X : Vec Ideal S4x1x128x256 .bf16) (ix4 h (0 : Fin 1) e u) = X (ix4 (head (groupOf t) h) (blockOf t) e u) :=
  congrArg X (emb_kt t h e u)

theorem read_v (t : Fin cfg0.N) (X : FVec Ideal S8x4096x64 .bf16) (h : Fin 4) (u : Fin 256) (d : Fin 64) :
    ((win0_3.blk t).view.read (Elt Ideal) X : Vec Ideal S4x256x64 .bf16) (ix3 h u d) = X (ix3 (head (groupOf t) h) (pair (blockOf t) u) d) :=
  congrArg X (emb_v t h u d)

theorem read_d (t : Fin cfg0.N) (X : FVec Ideal S8x4096x64 .bf16) (h : Fin 4) (x : Fin 4096) (d : Fin 64) :
    ((win0_4.blk t).view.read (Elt Ideal) X : Vec Ideal S4x4096x64 .bf16) (ix3 h x d) = X (ix3 (head (groupOf t) h) x d) :=
  congrArg X (emb_d t h x d)

theorem read_ls (t : Fin cfg0.N) (X : FVec Ideal S8x16x8x256 .f32) (h : Fin 4) (i : Fin 16) (x : Fin 256) :
    ((win0_5.blk t).view.read (Elt Ideal) X : Vec Ideal S4x16x8x256 .f32) (ix4 h i (0 : Fin 8) x) = X (ix4 (head (groupOf t) h) i (0 : Fin 8) x) :=
  congrArg X (emb_ls t h i x)

theorem read_dl (t : Fin cfg0.N) (X : FVec Ideal S8x16x8x256 .f32) (h : Fin 4) (i : Fin 16) (x : Fin 256) :
    ((win0_6.blk t).view.read (Elt Ideal) X : Vec Ideal S4x16x8x256 .f32) (ix4 h i (0 : Fin 8) x) = X (ix4 (head (groupOf t) h) i (0 : Fin 8) x) :=
  congrArg X (emb_dl t h i x)

variable (m : (ℓ : Loc nD τ sig) → Buf (Elt Ideal) ℓ) (c : Dev nD)

/-! and the arrays the blocks are of. -/

theorem iblk_q (t : Fin cfg0.N) :
    (iblk m c 0 t : Vec Ideal S4x4096x128 .bf16) = (win0_0.blk t).view.read (Elt Ideal) (V m c main_v54) := by
  unfold iblk
  generalize V m c = W
  rfl

theorem iblk_k (t : Fin cfg0.N) :
    (iblk m c 1 t : Vec Ideal S4x256x128 .bf16) = (win0_1.blk t).view.read (Elt Ideal) (V m c main_v55) := by
  unfold iblk
  generalize V m c = W
  rfl

theorem iblk_kt (t : Fin cfg0.N) :
    (iblk m c 2 t : Vec Ideal S4x1x128x256 .bf16) = (win0_2.blk t).view.read (Elt Ideal) (V m c main_v57) := by
  unfold iblk
  generalize V m c = W
  rfl

theorem iblk_v (t : Fin cfg0.N) :
    (iblk m c 3 t : Vec Ideal S4x256x64 .bf16) = (win0_3.blk t).view.read (Elt Ideal) (V m c main_v87) := by
  unfold iblk
  generalize V m c = W
  rfl

theorem iblk_d (t : Fin cfg0.N) :
    (iblk m c 4 t : Vec Ideal S4x4096x64 .bf16) = (win0_4.blk t).view.read (Elt Ideal) (V m c main_v88) := by
  unfold iblk
  generalize V m c = W
  rfl

theorem iblk_ls (t : Fin cfg0.N) :
    (iblk m c 5 t : Vec Ideal S4x16x8x256 .f32) = (win0_5.blk t).view.read (Elt Ideal) (V m c main_v90) := by
  unfold iblk
  generalize V m c = W
  rfl

theorem iblk_dl (t : Fin cfg0.N) :
    (iblk m c 6 t : Vec Ideal S4x16x8x256 .f32) = (win0_6.blk t).view.read (Elt Ideal) (V m c main_v92) := by
  unfold iblk
  generalize V m c = W
  rfl

end Cert.FoxBwd

end
-- ==== Proof.FoxBwd.ArrayValue.lean ====
/- The three arrays the backward kernel leaves, in closed form over the extended reals, from the arrays its windows are
   taken from. -/
module

public import proofs.«01_k».proof.Proof.FoxBwd.PointValue
public import proofs.«01_k».proof.Proof.FoxBwd.Run
public import proofs.«01_k».proof.Proof.FoxBwd.Blocks

@[expose] public section

set_option maxRecDepth 16384

noncomputable section

namespace Cert.FoxBwd

open Idealize.ShloMosaic Idealize.ShloMosaic.TcCoe Cert.KernelIdeal Cert.KernelIdeal.Gen

theorem coord_1 : ∀ t : Fin cfg0.N, ((grid0.coords t) 1).val = t.val % 16 := (by decide +kernel : ∀ t : Fin grid0.N, _)

section Arrays

variable (QA KA : FVec Ideal S8x4096x128 .bf16) (VA DA : FVec Ideal S8x4096x64 .bf16) (LS DL : FVec Ideal S8x16x8x256 .f32)
  (H : Fin 8)

/-- The weight of key `u` of block `j` for query `c` of tile `i`, from the whole arrays. -/
def wtA (j : Fin 16) (u : Fin 256) (i : Fin 16) (c : Fin 256) : EReal :=
  Ideal.exp ((if 256 * j.val + u.val ≤ 256 * i.val + c.val
    then (∑ e : Fin 128, KA (ix3 H (pair j u) e) * QA (ix3 H (pair i c) e) : EReal) else ⊥) - LS (ix4 H i (0 : Fin 8) c))

/-- The gradient of the logit of key `u` of block `j` at query `c` of tile `i`, from the whole arrays. -/
def gdA (j : Fin 16) (u : Fin 256) (i : Fin 16) (c : Fin 256) : EReal :=
  wtA QA KA LS H j u i c
    * ((∑ d : Fin 64, VA (ix3 H (pair j u) d) * DA (ix3 H (pair i c) d)) - DL (ix4 H i (0 : Fin 8) c))

end Arrays

variable (m : (ℓ : Loc nD τ sig) → Buf (Elt Ideal) ℓ) (c : Dev nD)

/-- The arrays the kernel's windows are taken from. -/
abbrev qArr : FVec Ideal S8x4096x128 .bf16 := V m c main_v54
abbrev kArr : FVec Ideal S8x4096x128 .bf16 := V m c main_v55
abbrev ktArr : FVec Ideal S8x16x128x256 .bf16 := V m c main_v57
abbrev vArr : FVec Ideal S8x4096x64 .bf16 := V m c main_v87
abbrev dArr : FVec Ideal S8x4096x64 .bf16 := V m c main_v88
abbrev lsArr : FVec Ideal S8x16x8x256 .f32 := V m c main_v90
abbrev dlArr : FVec Ideal S8x16x8x256 .f32 := V m c main_v92

/-! The blocks, read. -/

theorem blk_q (t : Fin cfg0.N) (h : Fin 4) (x : Fin 4096) (e : Fin 128) :
    (iblk m c 0 t : Vec Ideal S4x4096x128 .bf16) (ix3 h x e) = qArr m c (ix3 (head (groupOf t) h) x e) := by
  rw [iblk_q, read_q]

theorem blk_k (t : Fin cfg0.N) (h : Fin 4) (u : Fin 256) (e : Fin 128) :
    (iblk m c 1 t : Vec Ideal S4x256x128 .bf16) (ix3 h u e) = kArr m c (ix3 (head (groupOf t) h) (pair (blockOf t) u) e) := by
  rw [iblk_k, read_k]

theorem blk_kt (t : Fin cfg0.N) (h : Fin 4) (e : Fin 128) (u : Fin 256) :
    (iblk m c 2 t : Vec Ideal S4x1x128x256 .bf16) (ix4 h (0 : Fin 1) e u) = ktArr m c (ix4 (head (groupOf t) h) (blockOf t) e u) := by
  rw [iblk_kt, read_kt]

theorem blk_v (t : Fin cfg0.N) (h : Fin 4) (u : Fin 256) (d : Fin 64) :
    (iblk m c 3 t : Vec Ideal S4x256x64 .bf16) (ix3 h u d) = vArr m c (ix3 (head (groupOf t) h) (pair (blockOf t) u) d) := by
  rw [iblk_v, read_v]

theorem blk_d (t : Fin cfg0.N) (h : Fin 4) (x : Fin 4096) (d : Fin 64) :
    (iblk m c 4 t : Vec Ideal S4x4096x64 .bf16) (ix3 h x d) = dArr m c (ix3 (head (groupOf t) h) x d) := by
  rw [iblk_d, read_d]

theorem blk_ls (t : Fin cfg0.N) (h : Fin 4) (i : Fin 16) (x : Fin 256) :
    (iblk m c 5 t : Vec Ideal S4x16x8x256 .f32) (ix4 h i (0 : Fin 8) x) = lsArr m c (ix4 (head (groupOf t) h) i (0 : Fin 8) x) := by
  rw [iblk_ls, read_ls]

theorem blk_dl (t : Fin cfg0.N) (h : Fin 4) (i : Fin 16) (x : Fin 256) :
    (iblk m c 6 t : Vec Ideal S4x16x8x256 .f32) (ix4 h i (0 : Fin 8) x) = dlArr m c (ix4 (head (groupOf t) h) i (0 : Fin 8) x) := by
  rw [iblk_dl, read_dl]

theorem wt_blk (t : Fin cfg0.N) (h : Fin 4) (u : Fin 256) (i : Fin 16) (x : Fin 256) :
    wt (iblk m c 1 t) (iblk m c 0 t) (iblk m c 5 t) h (blockOf t) u i x
      = wtA (qArr m c) (kArr m c) (lsArr m c) (head (groupOf t) h) (blockOf t) u i x := by
  unfold wt wtA
  simp only [blk_q, blk_k, blk_ls]

theorem gd_blk (t : Fin cfg0.N) (h : Fin 4) (u : Fin 256) (i : Fin 16) (x : Fin 256) :
    gd (iblk m c 1 t) (iblk m c 3 t) (iblk m c 0 t) (iblk m c 4 t) (iblk m c 5 t) (iblk m c 6 t) h (blockOf t) u i x
      = gdA (qArr m c) (kArr m c) (vArr m c) (dArr m c) (lsArr m c) (dlArr m c) (head (groupOf t) h) (blockOf t) u i x := by
  unfold gd gdA
  simp only [wt_blk, blk_v, blk_d, blk_dl]

theorem diagTile_eq (t : Fin cfg0.N) : diagTile (grid0.coords t) = blockOf t := Fin.ext (coord_1 t)

/-- The query gradient after a point: the blocks up to its own. -/
theorem dqAt_value (h : Fin 4) (i : Fin 16) (e : Fin 128) (x : Fin 256) : ∀ (t : Fin cfg0.N),
    dqAt m c t.val t.isLt (ix4 h i e x) = (∑ j ∈ Finset.univ.filter (fun j : Fin 16 => j.val ≤ t.val % 16), ∑ u : Fin 256,
      ktArr m c (ix4 (head (groupOf t) h) j e u)
        * gdA (qArr m c) (kArr m c) (vArr m c) (dArr m c) (lsArr m c) (dlArr m c) (head (groupOf t) h) j u i x : EReal) := by
  have step : ∀ (t : Fin cfg0.N) (D : Vec Ideal S4x16x128x256 .f32), ptDq m c t D (ix4 h i e x) = (D (ix4 h i e x) + ∑ u : Fin 256,
      ktArr m c (ix4 (head (groupOf t) h) (blockOf t) e u)
        * gdA (qArr m c) (kArr m c) (vArr m c) (dArr m c) (lsArr m c) (dlArr m c) (head (groupOf t) h) (blockOf t) u i x : EReal) := by
    intro t D
    unfold ptDq
    rw [diagTile_eq, coord_1, point_dq]
    simp only [gd_blk, blk_kt]
  intro ⟨n, hn⟩
  induction n with
  | zero =>
    rw [dqAt_first m c ⟨0, hn⟩ rfl, step, pay73_apply, zero_add]
    rw [show Finset.univ.filter (fun j : Fin 16 => j.val ≤ 0 % 16) = {0} from by decide, Finset.sum_singleton]
    rfl
  | succ n ih =>
    by_cases h0 : (n + 1) % 16 = 0
    · rw [dqAt_first m c ⟨n + 1, hn⟩ h0, step, pay73_apply, zero_add]
      rw [show Finset.univ.filter (fun j : Fin 16 => j.val ≤ (n + 1) % 16) = {blockOf ⟨n + 1, hn⟩} from by
        ext j; simp only [Finset.mem_filter, Finset.mem_univ, true_and, Finset.mem_singleton, Fin.ext_iff]; omega,
        Finset.sum_singleton]
    · rw [dqAt_later m c ⟨n + 1, hn⟩ h0, step]
      have hg : groupOf ⟨n + 1, hn⟩ = groupOf ⟨n, Nat.lt_of_succ_lt hn⟩ := Fin.ext (by show (n + 1) / 16 = n / 16; omega)
      rw [show Finset.univ.filter (fun j : Fin 16 => j.val ≤ (n + 1) % 16)
        = insert (blockOf ⟨n + 1, hn⟩) (Finset.univ.filter (fun j : Fin 16 => j.val ≤ n % 16)) from by
          ext j; simp only [Finset.mem_filter, Finset.mem_univ, true_and, Finset.mem_insert, Fin.ext_iff]; omega,
        Finset.sum_insert (by simp only [Finset.mem_filter, Finset.mem_univ, true_and]; omega), hg, add_comm]
      exact congrArg₂ (· + ·) rfl (ih (Nat.lt_of_succ_lt hn))

end Cert.FoxBwd

end
-- ==== Proof.FoxBwd.FinalValue.lean ====
/- The three arrays the backward kernel leaves, in closed form from the arrays its windows are taken from. -/
module

public import proofs.«01_k».proof.Proof.FoxBwd.ArrayValue

@[expose] public section

set_option maxRecDepth 16384

noncomputable section

namespace Cert.FoxBwd

open Idealize.ShloMosaic Idealize.ShloMosaic.TcCoe Cert.KernelIdeal Cert.KernelIdeal.Gen

theorem forall_ix3 {a b c : ℕ} {P : (⟨3, ![a, b, c]⟩ : Shape).Idx → Prop} (hP : ∀ i j k, P (ix3 i j k)) (y) : P y := by
  refine (congrArg P (?_ : y = ix3 (y 0) (y 1) (y 2))).mpr (hP _ _ _)
  funext n
  match n with
  | ⟨0, _⟩ => rfl
  | ⟨1, _⟩ => rfl
  | ⟨2, _⟩ => rfl

theorem forall_ix4 {a b c d : ℕ} {P : (⟨4, ![a, b, c, d]⟩ : Shape).Idx → Prop} (hP : ∀ i j k l, P (ix4 i j k l)) (y) : P y := by
  refine (congrArg P (?_ : y = ix4 (y 0) (y 1) (y 2) (y 3))).mpr (hP _ _ _ _)
  funext n
  match n with
  | ⟨0, _⟩ => rfl
  | ⟨1, _⟩ => rfl
  | ⟨2, _⟩ => rfl
  | ⟨3, _⟩ => rfl

/-- The block and the place in it of a key. -/
abbrev keyBlock (u : Fin 4096) : Fin 16 := ⟨u.val / 256, by omega⟩
abbrev keyPlace (u : Fin 4096) : Fin 256 := ⟨u.val % 256, by omega⟩

theorem keyBlock_pair (j : Fin 16) (u : Fin 256) : keyBlock (pair j u) = j := Fin.ext (by show (256 * j.val + u.val) / 256 = j.val; omega)
theorem keyPlace_pair (j : Fin 16) (u : Fin 256) : keyPlace (pair j u) = u := Fin.ext (by show (256 * j.val + u.val) % 256 = u.val; omega)

variable (m : (ℓ : Loc nD τ sig) → Buf (Elt Ideal) ℓ) (c : Dev nD)

/-- The query gradient, transposed in tiles. -/
def dqtArr : FVec Ideal S8x16x128x256 .f32 := fun y => ∑ j : Fin 16, ∑ u : Fin 256, ktArr m c (ix4 (y 0) j (y 2) u)
    * gdA (qArr m c) (kArr m c) (vArr m c) (dArr m c) (lsArr m c) (dlArr m c) (y 0) j u (y 1) (y 3)

/-- The key gradient, in the widened lanes. -/
def dkArr : FVec Ideal S8x4096x128 .f32 := fun y => ∑ i : Fin 16, ∑ x : Fin 256,
    gdA (qArr m c) (kArr m c) (vArr m c) (dArr m c) (lsArr m c) (dlArr m c) (y 0) (keyBlock (y 1)) (keyPlace (y 1)) i x
      * qArr m c (ix3 (y 0) (pair i x) (y 2))

/-- The value gradient. -/
def dvArr : FVec Ideal S8x4096x64 .f32 := fun y => ∑ i : Fin 16, ∑ x : Fin 256,
    wtA (qArr m c) (kArr m c) (lsArr m c) (y 0) (keyBlock (y 1)) (keyPlace (y 1)) i x * dArr m c (ix3 (y 0) (pair i x) (y 2))

theorem block_dq (t : Fin cfg0.N) (ht : t.val % 16 = 15) (h : Fin 4) (i : Fin 16) (e : Fin 128) (x : Fin 256) :
    dqAt m c t.val t.isLt (ix4 h i e x) = dqtArr m c ((win0_7.blk t).view.emb (ix4 h i e x)) := by
  rw [emb_dqt, dqAt_value, ht, Finset.filter_true_of_mem (fun j _ => by omega)]
  rfl

theorem block_dk (t : Fin cfg0.N) (h : Fin 4) (u : Fin 256) (e : Fin 128) :
    (stack (ptAcc m c t).dk : Vec Ideal S4x256x128 .f32) (ix3 h u e) = (dkArr m c ((win0_8.blk t).view.emb (ix3 h u e)) : EReal) := by
  rw [emb_dk]
  show (ptAcc m c t).dk h (ix2 u e) = ∑ i : Fin 16, ∑ x : Fin 256, gdA _ _ _ _ _ _ (head (groupOf t) h) (keyBlock (pair (blockOf t) u))
    (keyPlace (pair (blockOf t) u)) i x * qArr m c (ix3 (head (groupOf t) h) (pair i x) e)
  rw [keyBlock_pair, keyPlace_pair]
  unfold ptAcc
  rw [diagTile_eq, coord_1, point_dk]
  simp only [gd_blk, blk_q]

theorem block_dv (t : Fin cfg0.N) (h : Fin 4) (u : Fin 256) (d : Fin 64) :
    (stack (ptAcc m c t).dv : Vec Ideal S4x256x64 .f32) (ix3 h u d) = (dvArr m c ((win0_9.blk t).view.emb (ix3 h u d)) : EReal) := by
  rw [emb_dv]
  show (ptAcc m c t).dv h (ix2 u d) = ∑ i : Fin 16, ∑ x : Fin 256, wtA _ _ _ (head (groupOf t) h) (keyBlock (pair (blockOf t) u))
    (keyPlace (pair (blockOf t) u)) i x * dArr m c (ix3 (head (groupOf t) h) (pair i x) d)
  rw [keyBlock_pair, keyPlace_pair]
  unfold ptAcc
  rw [diagTile_eq, coord_1, point_dv]
  simp only [wt_blk, blk_d]

theorem final_dq : (dats m 0 c).arrAt 7 cfg0.N = dqtArr m c :=
  (dats m 0 c).arrAt_eq_of_covers 7 _ (by decide +kernel) fun t hf y => by
    show (dats m 0 c).after 7 t y = dqtArr m c ((win0_7.blk t).view.emb y)
    rw [after_7]
    exact forall_ix4 (P := fun y => dqAt m c t.val t.isLt y = dqtArr m c ((win0_7.blk t).view.emb y))
      (block_dq m c t ((flush0_7 t).1 hf)) y

theorem final_dk : (dats m 0 c).arrAt 8 cfg0.N = dkArr m c :=
  (dats m 0 c).arrAt_eq_of_covers 8 _ (by decide +kernel) fun t hf y => by
    show (dats m 0 c).after 8 t y = dkArr m c ((win0_8.blk t).view.emb y)
    rw [after_8]
    exact forall_ix3 (P := fun y => (stack (ptAcc m c t).dk : Vec Ideal S4x256x128 .f32) y = (dkArr m c ((win0_8.blk t).view.emb y) : EReal))
      (block_dk m c t) y

theorem final_dv : (dats m 0 c).arrAt 9 cfg0.N = dvArr m c :=
  (dats m 0 c).arrAt_eq_of_covers 9 _ (by decide +kernel) fun t hf y => by
    show (dats m 0 c).after 9 t y = dvArr m c ((win0_9.blk t).view.emb y)
    rw [after_9]
    exact forall_ix3 (P := fun y => (stack (ptAcc m c t).dv : Vec Ideal S4x256x64 .f32) y = (dvArr m c ((win0_9.blk t).view.emb y) : EReal))
      (block_dv m c t) y

end Cert.FoxBwd

end
-- ==== Proof.FoxBwd.RealValue.lean ====
/- The arrays the kernel leaves, at real arguments: the real numbers of `Math`. -/
module

public import proofs.«01_k».proof.Proof.FoxBwd.HostValue
public import proofs.«01_k».proof.Proof.FoxBwd.FinalValue
public import Mathlib.Algebra.BigOperators.Fin
public import Mathlib.Logic.Equiv.Fin.Basic

@[expose] public section

set_option maxRecDepth 16384

noncomputable section

namespace Cert.FoxBwd

open Idealize.ShloMosaic Idealize.ShloMosaic.TcCoe Cert.KernelIdeal Cert.KernelIdeal.Gen
open Cert.FoxBwd.Math

/-- A sum over tiles and places is a sum over positions. -/
theorem sum_pairs (f : Fin 4096 → ℝ) : ∑ i : Fin 16, ∑ x : Fin 256, f (pair i x) = ∑ t, f t := by
  rw [← Fintype.sum_prod_type']
  refine Fintype.sum_equiv (finProdFinEquiv (m := 16) (n := 256)) _ _ fun p => congrArg f (Fin.ext ?_)
  show 256 * p.1.val + p.2.val = p.2.val + 256 * p.1.val
  omega

variable (q k v g : Fin 8 → Fin 4096 → Fin 64 → ℝ) (F : Fin 8 → Fin 4096 → ℝ)

/-- The widened key against the widened query is the logit. -/
theorem lane_sum (h : Fin 8) (t u : Fin 4096) : ∑ e : Fin 128, laneK k F h u e * laneQ q F h t e = logit q k F h t u := by
  rw [show (∑ e : Fin 128, laneK k F h u e * laneQ q F h t e) = ∑ e : Fin (64 + 64), laneK k F h u e * laneQ q F h t e from rfl,
    Fin.sum_univ_add]
  have e1 : ∀ d : Fin 64, laneK k F h u (Fin.castAdd 64 d) * laneQ q F h t (Fin.castAdd 64 d) = q h t d * k h u d * 0.125 := by
    intro d
    unfold laneK laneQ
    have hd : (Fin.castAdd 64 d).val < 64 := d.isLt
    rw [dif_pos hd, dif_pos hd]
    show k h u d * (q h t d * 0.125) = _
    ring
  have e2 : ∀ d : Fin 64, laneK k F h u (Fin.natAdd 64 d) * laneQ q F h t (Fin.natAdd 64 d)
      = (if d = (0 : Fin 64) then F h t else 0) + (if d = (3 : Fin 64) then -F h u else 0) := by
    intro d
    have hv : (Fin.natAdd 64 d).val = 64 + d.val := rfl
    have h0 : d = (0 : Fin 64) ↔ d.val = 0 := Fin.ext_iff
    have h3 : d = (3 : Fin 64) ↔ d.val = 3 := Fin.ext_iff
    unfold laneK laneQ
    rw [dif_neg (by omega), dif_neg (by omega)]
    simp only [hv, h0, h3]
    by_cases c0 : d.val = 0
    · rw [if_pos (by omega), if_pos (by omega), if_pos c0, if_neg (by omega), one_mul, add_zero]
    · by_cases c3 : d.val = 3
      · rw [if_neg (by omega), if_pos (by omega), if_neg (by omega), if_neg (by omega), if_pos (by omega), if_neg c0, if_pos c3, mul_one,
          zero_add]
      · rw [if_neg c0, if_neg c3, add_zero]
        by_cases c : 64 + d.val < 67
        · rw [if_neg (show ¬(64 + d.val = 64) by omega), if_pos c, if_pos c, mul_zero]
        · rw [if_neg c, if_neg (show ¬(64 + d.val = 67) by omega), zero_mul]
  simp only [e1, e2, Finset.sum_add_distrib, Finset.sum_ite_eq', Finset.mem_univ, if_true, ← Finset.sum_mul]
  unfold logit
  ring

variable (m : (ℓ : Loc nD τ sig) → Buf (Elt Ideal) ℓ) (c : Dev nD)
variable (H : Holds q k v g F m c)
include H

theorem real_wt (h : Fin 8) (j : Fin 16) (u : Fin 256) (i : Fin 16) (x : Fin 256) :
    wtA (qArr m c) (kArr m c) (lsArr m c) h j u i x = ((weight q k F (rowMax q k F) h (pair i x) (pair j u) : ℝ) : EReal) := by
  unfold wtA
  simp only [host_q q k v g F m c H, host_k q k v g F m c H, host_ls q k v g F m c H, ← EReal.coe_mul, coe_sum, lane_sum]
  by_cases hle : pair j u ≤ pair i x
  · rw [if_pos (show 256 * j.val + u.val ≤ 256 * i.val + x.val from hle), ← EReal.coe_sub, Ideal.exp_coe, weight_eq_exp q k F _ h hle]
  · rw [if_neg (show ¬(256 * j.val + u.val ≤ 256 * i.val + x.val) from hle), EReal.bot_sub, Ideal.exp_bot, weight_after q k F _ h hle,
      EReal.coe_zero]

theorem real_gd (h : Fin 8) (j : Fin 16) (u : Fin 256) (i : Fin 16) (x : Fin 256) :
    gdA (qArr m c) (kArr m c) (vArr m c) (dArr m c) (lsArr m c) (dlArr m c) h j u i x
      = ((dlogit q k v g F (rowMax q k F) h (pair i x) (pair j u) : ℝ) : EReal) := by
  unfold gdA
  rw [real_wt q k v g F m c H]
  simp only [host_v q k v g F m c H, host_g q k v g F m c H, host_delta q k v g F m c H, ← EReal.coe_mul, coe_sum, ← EReal.coe_sub]
  rfl

theorem real_dqt (h : Fin 8) (i : Fin 16) (e : Fin 128) (x : Fin 256) :
    dqtArr m c (ix4 h i e x)
      = ((∑ u, laneK k F h u e * dlogit q k v g F (rowMax q k F) h (pair i x) u : ℝ) : EReal) := by
  show (∑ j : Fin 16, ∑ u : Fin 256, ktArr m c (ix4 h j e u)
    * gdA (qArr m c) (kArr m c) (vArr m c) (dArr m c) (lsArr m c) (dlArr m c) h j u i x) = _
  simp only [real_gd q k v g F m c H, host_kt q k v g F m c H, ← EReal.coe_mul, coe_sum]
  rw [sum_pairs fun u => laneK k F h u e * dlogit q k v g F (rowMax q k F) h (pair i x) u]

theorem real_dk (h : Fin 8) (u : Fin 4096) (e : Fin 128) :
    dkArr m c (ix3 h u e) = ((∑ t, dlogit q k v g F (rowMax q k F) h t u * laneQ q F h t e : ℝ) : EReal) := by
  show (∑ i : Fin 16, ∑ x : Fin 256, gdA (qArr m c) (kArr m c) (vArr m c) (dArr m c) (lsArr m c) (dlArr m c) h (keyBlock u) (keyPlace u) i x
      * qArr m c (ix3 h (pair i x) e)) = _
  have hu : pair (keyBlock u) (keyPlace u) = u := Fin.ext (by show 256 * (u.val / 256) + u.val % 256 = u.val; omega)
  simp only [real_gd q k v g F m c H, host_q q k v g F m c H, hu, ← EReal.coe_mul, coe_sum]
  rw [sum_pairs fun t => dlogit q k v g F (rowMax q k F) h t u * laneQ q F h t e]

theorem real_dv (h : Fin 8) (u : Fin 4096) (d : Fin 64) :
    dvArr m c (ix3 h u d) = ((dv q k g F (rowMax q k F) h u d : ℝ) : EReal) := by
  show (∑ i : Fin 16, ∑ x : Fin 256, wtA (qArr m c) (kArr m c) (lsArr m c) h (keyBlock u) (keyPlace u) i x
      * dArr m c (ix3 h (pair i x) d)) = _
  have hu : pair (keyBlock u) (keyPlace u) = u := Fin.ext (by show 256 * (u.val / 256) + u.val % 256 = u.val; omega)
  simp only [real_wt q k v g F m c H, host_g q k v g F m c H, hu, ← EReal.coe_mul, coe_sum]
  rw [sum_pairs fun t => weight q k F (rowMax q k F) h t u * g h t d]
  rfl

end Cert.FoxBwd

end
-- ==== Proof.FoxBwd.TailValue.lean ====
/- The results of the program at real arguments, and its run to them. -/
module

public import proofs.«01_k».proof.Proof.FoxBwd.TailStages
public import proofs.«01_k».proof.Proof.FoxBwd.RealValue

@[expose] public section

set_option maxRecDepth 16384

noncomputable section

namespace Cert.FoxBwd

open Idealize.ShloMosaic Idealize.ShloMosaic.TcCoe Idealize.SL.Sem Cert.KernelIdeal Cert.KernelIdeal.Gen
open Cert.FoxBwd.Math

theorem arr_injective : Function.Injective (Pipeline.arrRef (sig := sig) spec0) := by decide +kernel

section Run

variable (m : (ℓ : Loc nD τ sig) → Buf (Elt Ideal) ℓ) (ρ : Dev nD → PrngReg)

/-- The arrays as the host lines after the kernel find them. -/
def V1 (c : Dev nD) : Valuation τ sig (Elt Ideal) := Pipeline.withArrays (cfgs 0).spec c (V0 m c) fun w => (dats m 0 c).arrAt w (cfgs 0).N

theorem V1_dq (c : Dev nD) : V1 m c (Proc.devRef .tc main_v93_0) = dqtArr m c :=
  (Pipeline.withArrays_arr spec0 arr_injective c (V0 m c) (fun w => (dats m 0 c).arrAt w cfg0.N) 7).trans (final_dq m c)

theorem V1_dk (c : Dev nD) : V1 m c (Proc.devRef .tc main_v93_1) = dkArr m c :=
  (Pipeline.withArrays_arr spec0 arr_injective c (V0 m c) (fun w => (dats m 0 c).arrAt w cfg0.N) 8).trans (final_dk m c)

theorem run_values : θ_run defs (onTc (τ := τ) (main (F := Ideal))) ⟨m, fun _ => 0, ρ⟩ (fun r => ∀ c : Dev nD,
      r.2.mem ((c.tc : Thread nD τ).loc main_v103) = dqOf (dqtArr m c)
      ∧ r.2.mem ((c.tc : Thread nD τ).loc main_v104) = dkOf (dkArr m c)
      ∧ r.2.mem ((c.tc : Thread nD τ).loc main_v93_2) = dvArr m c
      ∧ r.2.mem ((c.tc : Thread nD τ).loc main_v100) = dFOf (dqtArr m c) (dkArr m c)) := by
  refine (θ_run defs _ _).mono (fun r h c => ?_) (run_whole (F := Ideal) m ρ)
  refine ⟨?_, ?_, ?_, ?_⟩
  · refine ((h.1 c).2 main_v103 (Pipeline.mem_restRefs_of main_v103 (by decide) (by decide))).trans ?_
    exact (tail_dq (V1 m c)).trans (congrArg dqOf (V1_dq m c))
  · refine ((h.1 c).2 main_v104 (Pipeline.mem_restRefs_of main_v104 (by decide) (by decide))).trans ?_
    exact (tail_dk (V1 m c)).trans (congrArg dkOf (V1_dk m c))
  · exact ((h.1 c).1 9).trans (final_dv m c)
  · refine ((h.1 c).2 main_v100 (Pipeline.mem_restRefs_of main_v100 (by decide) (by decide))).trans ?_
    exact (tail_dF (V1 m c)).trans (congrArg₂ dFOf (V1_dq m c) (V1_dk m c))

end Run

variable (q k v g : Fin 8 → Fin 4096 → Fin 64 → ℝ) (F : Fin 8 → Fin 4096 → ℝ)
variable (m : (ℓ : Loc nD τ sig) → Buf (Elt Ideal) ℓ) (c : Dev nD)
variable (H : Holds q k v g F m c)
include H

theorem result_dq (h : Fin 8) (t : Fin 4096) (d : Fin 64) :
    dqOf (dqtArr m c) (ix3 h t d) = ((dq q k v g F (rowMax q k F) h t d : ℝ) : EReal) := by
  rw [dqOf_apply, real_dqt q k v g F m c H, pair_tile, ← EReal.coe_mul, Finset.sum_mul]
  refine congrArg _ (Finset.sum_congr rfl fun u _ => ?_)
  unfold laneK
  rw [dif_pos d.isLt]
  ring

theorem result_dk (h : Fin 8) (u : Fin 4096) (d : Fin 64) :
    dkOf (dkArr m c) (ix3 h u d) = ((dk q k v g F (rowMax q k F) h u d : ℝ) : EReal) := by
  rw [dkOf_apply, real_dk q k v g F m c H]
  refine congrArg _ (Finset.sum_congr rfl fun t _ => ?_)
  unfold laneQ
  rw [dif_pos d.isLt]
  ring

theorem result_dF (h : Fin 8) (t : Fin 4096) :
    dFOf (dqtArr m c) (dkArr m c) (ix2 h t) = ((dF q k v g F (rowMax q k F) h t : ℝ) : EReal) := by
  rw [dFOf_apply, real_dqt q k v g F m c H, real_dk q k v g F m c H, pair_tile, ← EReal.coe_sub]
  refine congrArg _ (congrArg₂ _ (Finset.sum_congr rfl fun u _ => ?_) (Finset.sum_congr rfl fun t' _ => ?_))
  · rw [show laneK k F h u 64 = 1 from by unfold laneK; rw [dif_neg (by decide), if_pos (by decide)], one_mul]
  · rw [show laneQ q F h t' 67 = 1 from by
      unfold laneQ; rw [dif_neg (by decide), if_neg (by decide), if_neg (by decide), if_pos (by decide)], mul_one]

end Cert.FoxBwd

end
-- ==== Proof.FoxBwd.FiniteArgs.lean ====
/- What the precondition says: every element of every argument is a real number. -/
module

public import proofs.«01_k».proof.Proof.FoxBwd.Consts
public import proofs.«01_k».proof.Proof.Gen.Pre_finite
public import Idealize.ShloMosaic.Lib.ReduceAll

@[expose] public section

noncomputable section

namespace Cert.FoxBwd

open Idealize.ShloMosaic Cert.Pre_finite Cert.Pre_finite.Facts

theorem ofBits_top : Ideal.ofBits .f32 0x7F800000#32 = (⊤ : EReal) := by
  simp [Ideal.ofBits, Ideal.ieee]

/-- A number of magnitude below infinity is real. -/
theorem real_of_abs_lt (x : EReal) (h : max x (-x) < ⊤) : ∃ r : ℝ, x = (r : EReal) := by
  induction x using EReal.rec with
  | bot => exact absurd (lt_of_le_of_lt (le_max_right _ _) h) (by rw [EReal.neg_bot]; exact lt_irrefl _)
  | coe r => exact ⟨r, rfl⟩
  | top => exact absurd (lt_of_le_of_lt (le_max_left _ _) h) (lt_irrefl _)

/-- One array's part of the precondition. -/
theorem real_of_cmp {s : Shape} (x : FVec Ideal s .f32) (hb : S_.BroadcastsInDim s (![] : Fin 0 → Fin s.rank)) (i : s.Idx)
    (h : cmpf .olt (Host.absf x) (broadcastInDim s ![] hb (constant S_ .f32 0x7F800000#32)) i = 1#1) :
    ∃ r : ℝ, x i = (r : EReal) := by
  refine real_of_abs_lt (x i) ?_
  have h' : BitVec.ofBool (decide (max (x i) (-x i) < Ideal.ofBits .f32 0x7F800000#32)) = 1#1 := h
  rw [ofBits_top] at h'
  by_contra hn
  rw [decide_eq_false hn] at h'
  exact absurd h' (by decide)

instance : Subsingleton S_.Idx := ⟨fun a b => funext fun i => i.elim0⟩

variable [Facts] (x0 x1 x2 : FVec Ideal S8x4096x64 .f32) (x3 : FVec Ideal S8x4096 .f32) (x4 : FVec Ideal S8x4096x64 .f32)

/-- The arguments are arrays of real numbers. -/
theorem real_args (h : fn x0 x1 x2 x3 x4 = fun _ => 1#1) :
    ∃ (q k v : Fin 8 → Fin 4096 → Fin 64 → ℝ) (F : Fin 8 → Fin 4096 → ℝ) (g : Fin 8 → Fin 4096 → Fin 64 → ℝ),
      x0 = real3 q ∧ x1 = real3 k ∧ x2 = real3 v ∧ x3 = real2 F ∧ x4 = real3 g := by
  have h0 := congrFun h (Shape.Idx.first h_S_)
  dsimp only [fn, fn_part1] at h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  choose f0 g0 using fun i => real_of_cmp x0 bcast_S_S8x4096x64 i (Host.reduce_andi_all _ _ _ _ _ e0 i)
  choose f1 g1 using fun i => real_of_cmp x1 bcast_S_S8x4096x64 i (Host.reduce_andi_all _ _ _ _ _ e1 i)
  choose f2 g2 using fun i => real_of_cmp x2 bcast_S_S8x4096x64 i (Host.reduce_andi_all _ _ _ _ _ e2 i)
  choose f3 g3 using fun i => real_of_cmp x3 bcast_S_S8x4096 i (Host.reduce_andi_all _ _ _ _ _ e3 i)
  choose f4 g4 using fun i => real_of_cmp x4 bcast_S_S8x4096x64 i (Host.reduce_andi_all _ _ _ _ _ e4 i)
  have r3 : ∀ (x : FVec Ideal S8x4096x64 .f32) (f : S8x4096x64.Idx → ℝ), (∀ i, x i = (f i : EReal)) →
      x = real3 (fun a b c => f (ix3 a b c)) := by
    intro x f hx
    funext i
    refine (hx i).trans (congrArg (fun j => ((f j : ℝ) : EReal)) (?_ : i = ix3 (i 0) (i 1) (i 2)))
    funext a
    match a with
    | ⟨0, _⟩ => rfl
    | ⟨1, _⟩ => rfl
    | ⟨2, _⟩ => rfl
  have r2 : x3 = real2 (fun a b => f3 (ix2 a b)) := by
    funext i
    refine (g3 i).trans (congrArg (fun j => ((f3 j : ℝ) : EReal)) (?_ : i = ix2 (i 0) (i 1)))
    funext a
    match a with
    | ⟨0, _⟩ => rfl
    | ⟨1, _⟩ => rfl
  exact ⟨_, _, _, _, _, r3 x0 f0 g0, r3 x1 f1 g1, r3 x2 f2 g2, r2, r3 x4 f4 g4⟩

end Cert.FoxBwd

end
-- ==== Proof.FoxBwd.Equal.lean ====
/- The two programs end with equal results on finite arguments. -/
module

public import proofs.«01_k».proof.Defs
public import proofs.«01_k».proof.Proof.FoxBwd.TailValue
public import proofs.«01_k».proof.Proof.FoxBwd.RefValue
public import proofs.«01_k».proof.Proof.FoxBwd.FiniteArgs
public import proofs.«01_k».proof.Proof.Gen.ReferenceIdeal.Run
public import Idealize.ShloMosaic.Lib.Quiescent

@[expose] public section

set_option maxRecDepth 16384

noncomputable section

namespace Cert.FoxBwd

open Idealize.ShloMosaic Idealize.ShloMosaic.TcCoe Idealize.SL.Sem Cert.FoxBwd.Math

theorem forall_ix2 {a b : ℕ} {P : (⟨2, ![a, b]⟩ : Shape).Idx → Prop} (hP : ∀ i j, P (ix2 i j)) (y) : P y := by
  refine (congrArg P (?_ : y = ix2 (y 0) (y 1))).mpr (hP _ _)
  funext n
  match n with
  | ⟨0, _⟩ => rfl
  | ⟨1, _⟩ => rfl

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The arguments of the reference hold these arrays. -/
structure RefHolds (q k v g : Fin 8 → Fin 4096 → Fin 64 → ℝ) (F : Fin 8 → Fin 4096 → ℝ) (c : Dev Cert.ReferenceIdeal.nD) : Prop where
  a0 : m' ((c.tc : Thread Cert.ReferenceIdeal.nD Cert.ReferenceIdeal.τ).loc Cert.ReferenceIdeal.main_arg0) = real3 q
  a1 : m' ((c.tc : Thread Cert.ReferenceIdeal.nD Cert.ReferenceIdeal.τ).loc Cert.ReferenceIdeal.main_arg1) = real3 k
  a2 : m' ((c.tc : Thread Cert.ReferenceIdeal.nD Cert.ReferenceIdeal.τ).loc Cert.ReferenceIdeal.main_arg2) = real3 v
  a3 : m' ((c.tc : Thread Cert.ReferenceIdeal.nD Cert.ReferenceIdeal.τ).loc Cert.ReferenceIdeal.main_arg3) = real2 F
  a4 : m' ((c.tc : Thread Cert.ReferenceIdeal.nD Cert.ReferenceIdeal.τ).loc Cert.ReferenceIdeal.main_arg4) = real3 g

section Results

variable (q k v g : Fin 8 → Fin 4096 → Fin 64 → ℝ) (F : Fin 8 → Fin 4096 → ℝ)
variable {c : Dev Cert.KernelIdeal.nD} (H : Holds q k v g F m c) {c' : Dev Cert.ReferenceIdeal.nD} (H' : RefHolds m' q k v g F c')
include H H'

theorem equal_dq : Cert.ReferenceIdeal.Value.res_main_v72 m' c' = dqOf (dqtArr m c) := by
  rw [Cert.ReferenceIdeal.Read.val_main_v72_eq, H'.a0, H'.a1, H'.a2, H'.a3, H'.a4]
  exact funext (forall_ix3 fun h t d => (ref_dq q k v g F h t d).trans (result_dq q k v g F m c H h t d).symm)

theorem equal_dk : Cert.ReferenceIdeal.Value.res_main_v71 m' c' = dkOf (dkArr m c) := by
  rw [Cert.ReferenceIdeal.Read.val_main_v71_eq, H'.a0, H'.a1, H'.a2, H'.a3, H'.a4]
  exact funext (forall_ix3 fun h t d => (ref_dk q k v g F h t d).trans (result_dk q k v g F m c H h t d).symm)

theorem equal_dv : Cert.ReferenceIdeal.Value.res_main_v45 m' c' = dvArr m c := by
  rw [Cert.ReferenceIdeal.Read.val_main_v45_eq, H'.a0, H'.a1, H'.a3, H'.a4]
  exact funext (forall_ix3 fun h t d => (ref_dv q k g F h t d).trans (real_dv q k v g F m c H h t d).symm)

theorem equal_dF : Cert.ReferenceIdeal.Value.res_main_v68 m' c' = dFOf (dqtArr m c) (dkArr m c) := by
  rw [Cert.ReferenceIdeal.Read.val_main_v68_eq, H'.a0, H'.a1, H'.a2, H'.a3, H'.a4]
  exact funext (forall_ix2 fun h t => (ref_dF q k v g F h t).trans (result_dF q k v g F m c H h t).symm)

end Results

/-- The frame of the reference. -/
theorem frame_reference (ρ : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ⟩ (fun r => (∀ c : Dev Cert.ReferenceIdeal.nD,
      r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))
      ∧ r.2.sem = fun _ => 0) :=
  (θ_run _ _ _).mono (fun r h => ⟨fun c => (h c).2.2.2.2, sem_eq_zero_of_no_sems (by decide) r.2⟩) (Cert.ReferenceIdeal.Value.run m' ρ)

/-- Both programs run to equal results. -/
theorem algebraic : Cert.algebraic_KernelIdeal_ReferenceIdeal_pre_finite := by
  intro m g m' g' hpre hagree
  have hx : ∀ c : Dev Cert.KernelIdeal.nD, Cert.ReferenceIdeal.Value.res_main_v72 m' c = dqOf (dqtArr m c)
      ∧ Cert.ReferenceIdeal.Value.res_main_v71 m' c = dkOf (dkArr m c) ∧ Cert.ReferenceIdeal.Value.res_main_v45 m' c = dvArr m c
      ∧ Cert.ReferenceIdeal.Value.res_main_v68 m' c = dFOf (dqtArr m c) (dkArr m c) := by
    intro c
    obtain ⟨q, k, v, F, ct, e0, e1, e2, e3, e4⟩ := real_args _ _ _ _ _ (hpre c)
    have H : Holds q k v ct F m c := ⟨e0, e1, e2, e3, e4⟩
    obtain ⟨a0, a1, a2, a3, a4⟩ := hagree c
    have H' : RefHolds m' q k v ct F c := ⟨a0.trans e0, a1.trans e1, a2.trans e2, a3.trans e3, a4.trans e4⟩
    exact ⟨equal_dq m m' q k v ct F H H', equal_dk m m' q k v ct F H H', equal_dv m m' q k v ct F H H', equal_dF m m' q k v ct F H H'⟩
  refine ⟨fun c => dqOf (dqtArr m c), fun c => dkOf (dkArr m c), fun c => dvArr m c, fun c => dFOf (dqtArr m c) (dkArr m c), ?_, ?_⟩
  · exact (θ_run _ _ _).mono (fun r h c => ⟨(h.1 c).1, (h.1 c).2.1, (h.1 c).2.2.1, (h.1 c).2.2.2, h.2.1 c⟩)
      (θ_run_and (run_values m g) (frame m g))
  · exact (θ_run _ _ _).mono (fun r h c => ⟨(h c).1.trans (hx c).1, (h c).2.1.trans (hx c).2.1, (h c).2.2.1.trans (hx c).2.2.1,
      (h c).2.2.2.1.trans (hx c).2.2.2, (h c).2.2.2.2⟩) (Cert.ReferenceIdeal.Value.run m' g')

end Cert.FoxBwd

end
-- ==== Proof.GradX.Norm.lean ====
/- The gradient through a row's norm: the kernel's form and the plain gradient's form agree on all extended reals. -/
module

public import proofs.«01_k».proof.Proof.FoxBwd.Consts
public import proofs.«01_k».proof.Proof.FoxBwd.Math

@[expose] public section

noncomputable section

namespace Cert.GradX

open Idealize.ShloMosaic Cert.FoxBwd.Math

theorem ofBits_width : Ideal.ofBits .f32 0x44800000#32 = ((1024 : ℝ) : EReal) := by
  simp [Ideal.ofBits, Ideal.ieee, -EReal.coe_mul]; norm_num

theorem ofBits_eps : Ideal.ofBits .f32 0x358637BD#32 = ((8796093 / 8796093022208 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

/-- The mean square of a row, with the small number that keeps it off zero. -/
def rowSquare (X : Fin 1024 → EReal) : EReal :=
  Ideal.div (∑ k, X k * X k) (Ideal.ofBits .f32 0x44800000#32) + Ideal.ofBits .f32 0x358637BD#32

/-- What the norm multiplies a row by. -/
def rowScale (X : Fin 1024 → EReal) : EReal := Ideal.rsqrt (rowSquare X)

/-- The kernel's form: the row `X`, the cotangent `DH` of its projection's operand, the gain `G`, the residual line's cotangent `O`. -/
def rowGrad (X DH G : Fin 1024 → EReal) (O : EReal) (d : Fin 1024) : EReal :=
  O + rowScale X * (DH d * G d - (X d * rowScale X)
    * Ideal.div (∑ k, DH k * G k * (X k * rowScale X)) (Ideal.ofBits .f32 0x44800000#32))

/-- Half the derivative by the row's mean square, over the row's width. -/
def plainTail (X DH G : Fin 1024 → EReal) : EReal :=
  Ideal.div ((∑ k, X k * (DH k * G k)) * (Ideal.ofBits .f32 0xBF000000#32 * Ideal.div (rowScale X) (rowSquare X)))
    (Ideal.ofBits .f32 0x44800000#32)

/-- The plain gradient's form. -/
def plainGrad (X DH G : Fin 1024 → EReal) (O : EReal) (d : Fin 1024) : EReal :=
  O + DH d * G d * rowScale X + X d * plainTail X DH G + plainTail X DH G * X d

theorem div_width (a : EReal) : Ideal.div a (Ideal.ofBits .f32 0x44800000#32) = a * ((1 / 1024 : ℝ) : EReal) := by
  rw [ofBits_width, Ideal.div_coe (by norm_num)]

/-! A row of real numbers: its scale is a positive real number, by which products distribute. -/

section RealRow

variable (x : Fin 1024 → ℝ)

/-- The row's mean square as a real number. -/
def square : ℝ := (∑ k, x k * x k) * (1 / 1024) + 8796093 / 8796093022208

theorem square_pos : 0 < square x := by
  have h : 0 ≤ ∑ k, x k * x k := Finset.sum_nonneg fun k _ => mul_self_nonneg _
  unfold square
  positivity

theorem rowSquare_real : rowSquare (fun k => (x k : EReal)) = (square x : EReal) := by
  unfold rowSquare square
  simp only [← EReal.coe_mul, coe_sum]
  rw [div_width, ofBits_eps, ← EReal.coe_mul, ← EReal.coe_add]

/-- The row's scale as a real number. -/
def scale : ℝ := (Real.sqrt (square x))⁻¹

theorem rowScale_real : rowScale (fun k => (x k : EReal)) = (scale x : EReal) := by
  unfold rowScale
  rw [rowSquare_real]
  show (if square x < 0 then (⊥ : EReal) else if square x = 0 then ⊤ else (((Real.sqrt (square x))⁻¹ : ℝ) : EReal)) = _
  rw [if_neg (not_lt.2 (square_pos x).le), if_neg (square_pos x).ne']
  rfl

theorem scale_sq : 1 / square x = scale x * scale x := by
  unfold scale
  rw [← mul_inv, Real.mul_self_sqrt (square_pos x).le, one_div]

theorem scale_nonneg : 0 ≤ scale x := inv_nonneg.2 (Real.sqrt_nonneg _)

theorem coe_mul_sum {ι : Type*} (s : Finset ι) (r : ℝ) (hr : 0 ≤ r) (f : ι → EReal) : ∑ k ∈ s, (r : EReal) * f k = r * ∑ k ∈ s, f k := by
  classical
  induction s using Finset.induction_on with
  | empty => simp only [Finset.sum_empty, mul_zero]
  | insert a s ha ih =>
    rw [Finset.sum_insert ha, Finset.sum_insert ha, ih, EReal.left_distrib_of_nonneg_of_ne_top (EReal.coe_nonneg.2 hr) (EReal.coe_ne_top r)]

theorem add_self (y : EReal) : y + y = ((2 : ℝ) : EReal) * y := by
  induction y using EReal.rec with
  | bot => rw [EReal.coe_mul_bot_of_pos (by norm_num)]; rfl
  | coe r => rw [← EReal.coe_add, ← EReal.coe_mul, two_mul]
  | top => rw [EReal.coe_mul_top_of_pos (by norm_num)]; rfl

variable (DH G : Fin 1024 → EReal) (O : EReal) (d : Fin 1024)

theorem grad_eq_real : rowGrad (fun k => (x k : EReal)) DH G O d = plainGrad (fun k => (x k : EReal)) DH G O d := by
  unfold rowGrad plainGrad plainTail
  rw [rowScale_real, rowSquare_real, Ideal.div_coe (square_pos x).ne', ofBits_neg_half, div_width, div_width]
  generalize hS : ∑ k, (x k : EReal) * (DH k * G k) = S
  generalize DH d * G d = B
  have e : ∑ k, DH k * G k * ((x k : EReal) * (scale x : EReal)) = (scale x : EReal) * S := by
    rw [← hS, ← coe_mul_sum _ _ (scale_nonneg x)]
    refine Finset.sum_congr rfl fun k _ => ?_
    rw [← mul_assoc, mul_comm (DH k * G k), mul_comm]
  -- the coefficient of the row's sum
  have e1 : (scale x : EReal) * -((x d : EReal) * (scale x : EReal) * ((scale x : EReal) * S * ((1 / 1024 : ℝ) : EReal)))
      = ((2 : ℝ) : EReal) * (((x d * (-(1 / 2) * (scale x * (scale x * scale x))) * (1 / 1024) : ℝ) : EReal) * S) := by
    rw [← EReal.neg_mul, ← EReal.neg_mul, ← EReal.coe_neg, mul_comm (scale x * S : EReal), ← mul_assoc, ← mul_assoc, ← mul_assoc, ← mul_assoc, ← mul_assoc]
    simp only [← EReal.coe_mul]
    refine congrArg (fun r : ℝ => (r : EReal) * S) ?_
    ring
  have e2 : (x d : EReal) * (S * (((-(1 / 2) : ℝ) : EReal) * ((scale x : EReal) * ((1 / square x : ℝ) : EReal))) * ((1 / 1024 : ℝ) : EReal))
      = ((x d * (-(1 / 2) * (scale x * (scale x * scale x))) * (1 / 1024) : ℝ) : EReal) * S := by
    rw [scale_sq, mul_comm S, mul_assoc, mul_comm S]
    simp only [← mul_assoc, ← EReal.coe_mul]
  rw [e, sub_eq_add_neg, EReal.left_distrib_of_nonneg_of_ne_top (EReal.coe_nonneg.2 (scale_nonneg x)) (EReal.coe_ne_top _), e1,
    mul_comm _ (x d : EReal), e2, mul_comm B, ← add_self, add_assoc, add_assoc]

end RealRow

/-! A row with an infinite element: its scale is zero, and neither form adds to the residual line's cotangent. -/

theorem square_nonneg (y : EReal) : 0 ≤ y * y := by
  induction y using EReal.rec with
  | bot => rw [EReal.bot_mul_bot]; exact le_top
  | coe r => rw [← EReal.coe_mul]; exact EReal.coe_nonneg.2 (mul_self_nonneg r)
  | top => rw [EReal.top_mul_top]; exact le_top

variable (X DH G : Fin 1024 → EReal) (O : EReal) (d : Fin 1024)

theorem rowSquare_top (k : Fin 1024) (h : X k * X k = ⊤) : rowSquare X = ⊤ := by
  have e : ∑ k, X k * X k = ⊤ :=
    top_le_iff.1 (h ▸ Finset.single_le_sum (f := fun k => X k * X k) (fun k _ => square_nonneg (X k)) (Finset.mem_univ k))
  unfold rowSquare
  rw [e, div_width, EReal.top_mul_coe_of_pos (by norm_num), ofBits_eps, EReal.top_add_coe]

theorem grad_eq_top (k : Fin 1024) (h : X k * X k = ⊤) : rowGrad X DH G O d = plainGrad X DH G O d := by
  have e : rowScale X = 0 := by
    unfold rowScale
    rw [rowSquare_top X k h]
    rfl
  unfold rowGrad plainGrad plainTail
  rw [rowSquare_top X k h, e, div_width, div_width]
  have e1 : Ideal.div 0 ⊤ = 0 := by
    unfold Ideal.div
    rw [if_neg EReal.top_ne_zero, zero_mul]
  rw [e1]
  simp only [mul_zero, zero_mul, add_zero]

/-- The kernel's form and the plain gradient's form agree. -/
theorem grad_eq : rowGrad X DH G O d = plainGrad X DH G O d := by
  by_cases h : ∃ k, X k * X k = ⊤
  · obtain ⟨k, hk⟩ := h
    exact grad_eq_top X DH G O d k hk
  · have hr : ∀ k, ∃ r : ℝ, X k = (r : EReal) := by
      intro k
      by_contra hn
      refine h ⟨k, ?_⟩
      generalize X k = y at hn
      induction y using EReal.rec with
      | bot => exact EReal.bot_mul_bot
      | coe r => exact absurd ⟨r, rfl⟩ hn
      | top => exact EReal.top_mul_top
    choose x hx using hr
    obtain rfl : X = fun k => (x k : EReal) := funext hx
    exact grad_eq_real x DH G O d

end Cert.GradX

end
-- ==== Proof.GradX.Step.lean ====
/- What one grid point of the gradient of x computes: its rows' gradients, and what its rows add to the gradient of the gain. -/
module

public import proofs.«01_k».proof.Proof.GradX.Norm
public import proofs.«01_k».proof.Proof.Gen.Kernel2Ideal.Value
public import Idealize.ShloMosaic.Lib.Pipeline.ReadBack
public import Idealize.ShloMosaic.Lib.Pipeline.ValueKit
public import Idealize.ShloMosaic.Lib.Pointwise
public import Idealize.ShloMosaic.Lib.IdealHost

@[expose] public section

set_option maxRecDepth 16384

noncomputable section

namespace Cert.GradX

open Idealize.ShloMosaic Idealize.ShloMosaic.TcCoe Cert.Kernel2Ideal Cert.Kernel2Ideal.Gen

/-! The stored values, read at an element. -/

theorem pay6_apply (x0 x1 x2 x3 x4 x5 : Vec Ideal S256x512 .bf16) (x6 : Vec Ideal S256x128 .bf16)
    (w0 w1 w2 w3 w4 w5 : Vec Ideal S1024x512 .bf16) (w6 : Vec Ideal S1024x128 .bf16) (p : Fin 256) (d : Fin 1024) :
    k0_pay6 (k0_pay4 x6 w6 x0 w0 x1 w1 x2 w2) (k0_pay5 x3 w3) x4 w4 x5 w5 (ix2 p d)
      = ((∑ k : Fin 128, x6 (ix2 p k) * w6 (ix2 d k)) + (∑ k : Fin 512, x0 (ix2 p k) * w0 (ix2 d k))
        + (∑ k : Fin 512, x1 (ix2 p k) * w1 (ix2 d k)) + (∑ k : Fin 512, x2 (ix2 p k) * w2 (ix2 d k))
        + (∑ k : Fin 512, x3 (ix2 p k) * w3 (ix2 d k)) + (∑ k : Fin 512, x4 (ix2 p k) * w4 (ix2 d k))
        + (∑ k : Fin 512, x5 (ix2 p k) * w5 (ix2 d k)) : EReal) := by
  pointwise [k0_pay6, k0_pay5, k0_pay4]

theorem pay7_apply (x : Vec Ideal S256x1024 .f32) (p : Fin 256) :
    k0_pay7 x (ix2 p 0) = rowScale (fun k => x (ix2 p k)) := by
  unfold rowScale rowSquare
  pointwise [k0_pay7]

theorem pay8_apply (x : Vec Ideal S256x1024 .f32) (p : Fin 256) (d : Fin 1024) :
    k0_pay8 x (ix2 p d) = (x (ix2 p d) * rowScale (fun k => x (ix2 p k)) : EReal) := by
  unfold rowScale rowSquare
  pointwise [k0_pay8, k0_pay7]

variable (v25 v30 : FVec Ideal S256x1024 .f32) (v32 v38 : Vec Ideal S256x512 .bf16) (v34 v40 : Vec Ideal S1024x512 .bf16)

theorem pay9_apply (x : Vec Ideal S256x1024 .f32) (g : Vec Ideal S1x1024 .f32) (o : Vec Ideal S256x1024 .f32) (p : Fin 256) (d : Fin 1024) :
    k0_pay1 (k0_pay9 v25 v30 v32 v34 v38 v40 x g) o (ix2 p d)
      = rowGrad (fun k => x (ix2 p k)) (fun k => k0_pay6 v25 v30 v32 v34 v38 v40 (ix2 p k)) (fun k => g (ix2 0 k)) (o (ix2 p d)) d := by
  unfold rowGrad
  have e7 := pay7_apply x p
  have e8 := pay8_apply x p
  unfold k0_pay9
  generalize k0_pay6 v25 v30 v32 v34 v38 v40 = D
  generalize k0_pay8 x = A at e8
  generalize k0_pay7 x = R at e7
  simp only [← e8, ← e7]
  have e : ∀ k, A (ix2 p k) = (x (ix2 p k) * R (ix2 p 0) : EReal) := fun k => by rw [e8, e7]
  simp only [← e]
  pointwise [k0_pay1]

theorem pay10_apply (x : Vec Ideal S256x1024 .f32) (p : Fin 256) (d : Fin 1024) :
    k0_pay10 v25 v30 v32 v34 v38 v40 x (ix2 p d)
      = (k0_pay6 v25 v30 v32 v34 v38 v40 (ix2 p d) * (x (ix2 p d) * rowScale (fun k => x (ix2 p k))) : EReal) := by
  rw [← pay8_apply x p d]
  rfl

theorem pay2_apply (y : FVec Ideal S256x1024 .f32) (a : Vec Ideal S1x1024 .f32) (d : Fin 1024) :
    k0_pay2 y a (ix2 0 d) = (a (ix2 0 d) + ∑ p : Fin 256, y (ix2 p d) : EReal) := by
  pointwise [k0_pay2]

theorem pay3_apply (y : S1x1024.Idx) : k0_pay3 (F := Ideal) y = (0 : EReal) := by
  unfold k0_pay3
  exact Ideal.ofBits_zero_f32

/-- Columns `off` to `off + n` of the widened weight. -/
theorem ld_piece (w : Vec Ideal S1024x3200 .bf16) (off n : ℕ) (inb : _) (d : Fin 1024) (k : Fin n) (h : off + k.val < 3200) :
    View.ld w (Rect.unit (s := S1024x3200) ![0, off] ![1024, n] inb) (ix2 d k) = w (ix2 d ⟨off + k.val, h⟩) := by
  refine congrArg w (?_ : (Rect.unit (s := S1024x3200) ![0, off] ![1024, n] inb).emb (ix2 d k) = _)
  funext a
  match a with
  | ⟨0, _⟩ => exact Fin.ext (by show 0 + 1 * d.val = d.val; omega)
  | ⟨1, _⟩ => exact Fin.ext (by show off + 1 * k.val = off + k.val; omega)

/-- The cotangent of the projection's operand in a block of rows: lanes, then six pieces of columns. -/
def dhOf (x0 x1 x2 x3 x4 x5 : Vec Ideal S256x512 .bf16) (x6 : Vec Ideal S256x128 .bf16) (w : Vec Ideal S1024x3200 .bf16)
    (p : Fin 256) (d : Fin 1024) : EReal :=
  (∑ k : Fin 128, x6 (ix2 p k) * w (ix2 d ⟨3072 + k.val, by omega⟩)) + (∑ k : Fin 512, x0 (ix2 p k) * w (ix2 d ⟨0 + k.val, by omega⟩))
    + (∑ k : Fin 512, x1 (ix2 p k) * w (ix2 d ⟨512 + k.val, by omega⟩)) + (∑ k : Fin 512, x2 (ix2 p k) * w (ix2 d ⟨1024 + k.val, by omega⟩))
    + (∑ k : Fin 512, x3 (ix2 p k) * w (ix2 d ⟨1536 + k.val, by omega⟩)) + (∑ k : Fin 512, x4 (ix2 p k) * w (ix2 d ⟨2048 + k.val, by omega⟩))
    + (∑ k : Fin 512, x5 (ix2 p k) * w (ix2 d ⟨2560 + k.val, by omega⟩))

theorem dh_apply (x0 x1 x2 x3 x4 x5 : Vec Ideal S256x512 .bf16) (x6 : Vec Ideal S256x128 .bf16) (w : Vec Ideal S1024x3200 .bf16)
    (p : Fin 256) (d : Fin 1024) :
    k0_pay6 (k0_pay4 x6 (View.ld w (Rect.unit (s := S1024x3200) ![0, 3072] ![1024, 128] inb_S1024x3200_S1024x128_0_3072))
        x0 (View.ld w (Rect.unit (s := S1024x3200) ![0, 0] ![1024, 512] inb_S1024x3200_S1024x512_0_0))
        x1 (View.ld w (Rect.unit (s := S1024x3200) ![0, 512] ![1024, 512] inb_S1024x3200_S1024x512_0_512))
        x2 (View.ld w (Rect.unit (s := S1024x3200) ![0, 1024] ![1024, 512] inb_S1024x3200_S1024x512_0_1024)))
      (k0_pay5 x3 (View.ld w (Rect.unit (s := S1024x3200) ![0, 1536] ![1024, 512] inb_S1024x3200_S1024x512_0_1536)))
      x4 (View.ld w (Rect.unit (s := S1024x3200) ![0, 2048] ![1024, 512] inb_S1024x3200_S1024x512_0_2048))
      x5 (View.ld w (Rect.unit (s := S1024x3200) ![0, 2560] ![1024, 512] inb_S1024x3200_S1024x512_0_2560)) (ix2 p d)
      = dhOf x0 x1 x2 x3 x4 x5 x6 w p d := by
  refine (pay6_apply _ _ _ _ _ _ _ _ _ _ _ _ _ _ p d).trans ?_
  unfold dhOf
  refine congrArg₂ (· + ·) (congrArg₂ (· + ·) (congrArg₂ (· + ·) (congrArg₂ (· + ·) (congrArg₂ (· + ·) (congrArg₂ (· + ·) ?_ ?_) ?_) ?_) ?_) ?_) ?_
  all_goals
    refine Finset.sum_congr rfl fun k _ => congrArg₂ (· * ·) rfl ?_
    exact ld_piece w _ _ _ d k _

variable (m : (ℓ : Loc nD τ sig) → Buf (Elt Ideal) ℓ) (c : Dev nD)

/-- The cotangent of the projection's operand at a grid point. -/
abbrev dhAt (t : Fin cfg0.N) (p : Fin 256) (d : Fin 1024) : EReal :=
  dhOf (iblk m c 0 t) (iblk m c 1 t) (iblk m c 2 t) (iblk m c 3 t) (iblk m c 4 t) (iblk m c 5 t) (iblk m c 6 t) (iblk m c 7 t) p d

/-- The rows of x at a grid point. -/
abbrev xAt (t : Fin cfg0.N) : Vec Ideal S256x1024 .f32 := iblk m c 8 t

/-- The gain. -/
abbrev gAt (t : Fin cfg0.N) : Vec Ideal S1x1024 .f32 := iblk m c 9 t

/-- The rows of the residual line's cotangent at a grid point. -/
abbrev oAt (t : Fin cfg0.N) : Vec Ideal S256x1024 .f32 := iblk m c 10 t

/-- What a grid point's rows add to the gain's gradient. -/
def gainAt (t : Fin cfg0.N) (d : Fin 1024) : EReal :=
  ∑ p : Fin 256, dhAt m c t p d * (xAt m c t (ix2 p d) * rowScale (fun k => xAt m c t (ix2 p k)))

/-- The rows' gradient at a grid point. -/
theorem outs_x (t : Fin cfg0.N) (p : Fin 256) (d : Fin 1024) :
    ((outsAt0 m c t.val t.isLt).1 : Vec Ideal S256x1024 .f32) (ix2 p d)
      = rowGrad (fun k => xAt m c t (ix2 p k)) (fun k => dhAt m c t p k) (fun k => gAt m c t (ix2 0 k)) (oAt m c t (ix2 p d)) d := by
  simp only [dhAt, ← dh_apply]
  by_cases h0 : t.val % 16 = 0
  · rw [outsAt0_A m c t h0]
    dsimp only
    frame_open
    simp (disch := decide) only [↓ View.readCov_skip, ↓ View.readCov_cons_toLoadRect, ↓ View.readCov_fill]
    frame_out
    exact pay9_apply _ _ _ _ _ _ _ _ _ p d
  · rw [outsAt0_B m c t h0]
    dsimp only
    frame_open
    simp (disch := decide) only [↓ View.readCov_skip, ↓ View.readCov_cons_toLoadRect, ↓ View.readCov_fill]
    frame_out
    exact pay9_apply _ _ _ _ _ _ _ _ _ p d

theorem gain_first (t : Fin cfg0.N) (h0 : t.val % 16 = 0) (d : Fin 1024) :
    ((outsAt0 m c t.val t.isLt).2 : Vec Ideal S1x1024 .f32) (ix2 0 d) = gainAt m c t d := by
  unfold gainAt
  simp only [dhAt, ← dh_apply]
  rw [outsAt0_A m c t h0]
  dsimp only
  frame_open
  simp (disch := decide) only [↓ View.readCov_skip, ↓ View.readCov_cons_toLoadRect, ↓ View.readCov_fill]
  frame_out
  refine (pay2_apply _ _ d).trans ?_
  rw [pay3_apply, zero_add]
  exact Finset.sum_congr rfl fun p _ => pay10_apply _ _ _ _ _ _ _ p d

theorem gain_later (t : Fin cfg0.N) (h0 : ¬t.val % 16 = 0) (d : Fin 1024) :
    ((outsAt0 m c t.val t.isLt).2 : Vec Ideal S1x1024 .f32) (ix2 0 d)
      = ((outsAt0 m c (t.val - 1) (Nat.lt_of_le_of_lt (Nat.sub_le _ _) t.isLt)).2 : Vec Ideal S1x1024 .f32) (ix2 0 d) + gainAt m c t d := by
  unfold gainAt
  simp only [dhAt, ← dh_apply]
  rw [outsAt0_B m c t h0]
  dsimp only
  frame_open
  simp (disch := decide) only [↓ View.readCov_skip, ↓ View.readCov_cons_toLoadRect, ↓ View.readCov_fill]
  frame_out
  refine (pay2_apply _ _ d).trans ?_
  exact congrArg₂ (· + ·) rfl (Finset.sum_congr rfl fun p _ => pay10_apply _ _ _ _ _ _ _ p d)

end Cert.GradX

end
-- ==== Proof.GradX.Columns.lean ====
/- A sum over the projection's 3080 columns, taken as the kernel takes it: the forget gates' eight in 128 lanes, then six
   pieces of 512 columns. -/
module

public import Mathlib.Data.EReal.Operations
public import Mathlib.Algebra.BigOperators.Fin

@[expose] public section

noncomputable section

namespace Cert.GradX

theorem sum_split (a b n : ℕ) (f : ℕ → EReal) :
    ∑ k : Fin (a + b), f (n + k.val) = ∑ k : Fin a, f (n + k.val) + ∑ k : Fin b, f (n + a + k.val) := by
  rw [Fin.sum_univ_add]
  simp only [Fin.val_castAdd, Fin.val_natAdd, add_assoc]

theorem sum_lanes (f : ℕ → EReal) (L : Fin 128 → EReal) (h : ∀ k : Fin 128, k.val < 8 → L k = f (2048 + k.val))
    (h0 : ∀ k : Fin 128, 8 ≤ k.val → L k = 0) : ∑ k, L k = ∑ k : Fin 8, f (2048 + k.val) := by
  have e : ∑ k, L k = ∑ k : Fin (8 + 120), L (Fin.cast rfl k) := rfl
  rw [e, Fin.sum_univ_add, Finset.sum_eq_zero (s := Finset.univ (α := Fin 120)), add_zero]
  · exact Finset.sum_congr rfl fun k _ => h _ k.isLt
  · intro k _
    exact h0 _ (by show 8 ≤ 8 + k.val; omega)

theorem sum_columns (f : ℕ → EReal) :
    ∑ n : Fin 3080, f n.val = ∑ k : Fin 8, f (2048 + k.val) + ∑ k : Fin 512, f (0 + k.val) + ∑ k : Fin 512, f (512 + k.val)
      + ∑ k : Fin 512, f (1024 + k.val) + ∑ k : Fin 512, f (1536 + k.val) + ∑ k : Fin 512, f (2056 + k.val)
      + ∑ k : Fin 512, f (2568 + k.val) := by
  have e : ∑ n : Fin 3080, f n.val = ∑ n : Fin (512 + (512 + (512 + (512 + (8 + (512 + 512)))))), f (0 + n.val) :=
    Finset.sum_congr rfl fun n _ => by rw [Nat.zero_add]
  rw [e, sum_split, sum_split, sum_split, sum_split, sum_split, sum_split]
  abel

end Cert.GradX

end
-- ==== Proof.GradX.Arrays.lean ====
/- The operands of the gradient of x, and its two results in closed form from the arguments. -/
module

public import proofs.«01_k».proof.Proof.GradX.Step
public import proofs.«01_k».proof.Proof.GradX.Columns
public import Idealize.ShloMosaic.Lib.StableHlo.ReadAt

@[expose] public section

set_option maxRecDepth 16384

noncomputable section

namespace Cert.GradX

open Idealize.ShloMosaic Idealize.ShloMosaic.TcCoe Cert.Kernel2Ideal Cert.Kernel2Ideal.Gen

/-- The row a block's row is in its array. -/
def row (t : Fin cfg0.N) (p : Fin 256) : Fin 4096 :=
  ⟨256 * t.val + p.val, by have h : t.val < 16 := lt_of_lt_of_eq t.isLt N_0; omega⟩

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![t.val, 0] := (by decide +kernel : ∀ t : Fin grid0.N, _)
theorem index_6 : ∀ t : Fin cfg0.N, win0_6.index t = ![t.val, 0] := (by decide +kernel : ∀ t : Fin grid0.N, _)
theorem index_8 : ∀ t : Fin cfg0.N, win0_8.index t = ![t.val, 0] := (by decide +kernel : ∀ t : Fin grid0.N, _)
theorem index_10 : ∀ t : Fin cfg0.N, win0_10.index t = ![t.val, 0] := (by decide +kernel : ∀ t : Fin grid0.N, _)
theorem index_11 : ∀ t : Fin cfg0.N, win0_11.index t = ![t.val, 0] := (by decide +kernel : ∀ t : Fin grid0.N, _)
theorem index_7 : ∀ t : Fin cfg0.N, win0_7.index t = ![0, 0] := (by decide +kernel : ∀ t : Fin grid0.N, _)
theorem index_9 : ∀ t : Fin cfg0.N, win0_9.index t = ![0, 0] := (by decide +kernel : ∀ t : Fin grid0.N, _)
theorem index_12 : ∀ t : Fin cfg0.N, win0_12.index t = ![0, 0] := (by decide +kernel : ∀ t : Fin grid0.N, _)

theorem emb_0 (t : Fin cfg0.N) (p : Fin 256) (j : Fin 512) : (win0_0.blk t).view.emb (ix2 p j) = ix2 (row t p) j := by
  blk_ext [index_0, row]

theorem emb_1 (t : Fin cfg0.N) (p : Fin 256) (j : Fin 512) : (win0_1.blk t).view.emb (ix2 p j) = ix2 (row t p) j := by
  blk_ext [index_1, row]

theorem emb_2 (t : Fin cfg0.N) (p : Fin 256) (j : Fin 512) : (win0_2.blk t).view.emb (ix2 p j) = ix2 (row t p) j := by
  blk_ext [index_2, row]

theorem emb_3 (t : Fin cfg0.N) (p : Fin 256) (j : Fin 512) : (win0_3.blk t).view.emb (ix2 p j) = ix2 (row t p) j := by
  blk_ext [index_3, row]

theorem emb_4 (t : Fin cfg0.N) (p : Fin 256) (j : Fin 512) : (win0_4.blk t).view.emb (ix2 p j) = ix2 (row t p) j := by
  blk_ext [index_4, row]

theorem emb_5 (t : Fin cfg0.N) (p : Fin 256) (j : Fin 512) : (win0_5.blk t).view.emb (ix2 p j) = ix2 (row t p) j := by
  blk_ext [index_5, row]

theorem emb_6 (t : Fin cfg0.N) (p : Fin 256) (j : Fin 128) : (win0_6.blk t).view.emb (ix2 p j) = ix2 (row t p) j := by
  blk_ext [index_6, row]

theorem emb_8 (t : Fin cfg0.N) (p : Fin 256) (j : Fin 1024) : (win0_8.blk t).view.emb (ix2 p j) = ix2 (row t p) j := by
  blk_ext [index_8, row]

theorem emb_10 (t : Fin cfg0.N) (p : Fin 256) (j : Fin 1024) : (win0_10.blk t).view.emb (ix2 p j) = ix2 (row t p) j := by
  blk_ext [index_10, row]

theorem emb_11 (t : Fin cfg0.N) (p : Fin 256) (j : Fin 1024) : (win0_11.blk t).view.emb (ix2 p j) = ix2 (row t p) j := by
  blk_ext [index_11, row]

theorem emb_7 (t : Fin cfg0.N) (p : Fin 1024) (j : Fin 3200) : (win0_7.blk t).view.emb (ix2 p j) = ix2 p j := by
  blk_ext [index_7]

theorem emb_9 (t : Fin cfg0.N) (p : Fin 1) (j : Fin 1024) : (win0_9.blk t).view.emb (ix2 p j) = ix2 p j := by
  blk_ext [index_9]

theorem emb_12 (t : Fin cfg0.N) (p : Fin 1) (j : Fin 1024) : (win0_12.blk t).view.emb (ix2 p j) = ix2 p j := by
  blk_ext [index_12]

variable (m : (ℓ : Loc nD τ sig) → Buf (Elt Ideal) ℓ) (c : Dev nD)

/-- The rows of x. -/
abbrev xOf : FVec Ideal S4096x1024 .f32 := m (c, Proc.tc.devRef main_arg0)

/-- The norm's gain. -/
abbrev gOf : FVec Ideal S1x1024 .f32 := m (c, Proc.tc.devRef main_arg1)

/-- The projection's weight. -/
abbrev wOf : FVec Ideal S1024x3080 .f32 := m (c, Proc.tc.devRef main_arg2)

/-- The projection's cotangent. -/
abbrev cotOf : FVec Ideal S4096x3080 .f32 := m (c, Proc.tc.devRef main_arg3)

/-- The residual line's cotangent. -/
abbrev resOf : FVec Ideal S4096x1024 .f32 := m (c, Proc.tc.devRef main_arg4)

theorem blk_0 (t : Fin cfg0.N) (p : Fin 256) (j : Fin 512) :
    (iblk m c 0 t : Vec Ideal S256x512 .bf16) (ix2 p j) = (V m c main_v5 : FVec Ideal S4096x512 .bf16) (ix2 (row t p) j) := by
  unfold iblk
  generalize V m c = W
  exact congrArg (W main_v5) (emb_0 t p j)

theorem blk_1 (t : Fin cfg0.N) (p : Fin 256) (j : Fin 512) :
    (iblk m c 1 t : Vec Ideal S256x512 .bf16) (ix2 p j) = (V m c main_v6 : FVec Ideal S4096x512 .bf16) (ix2 (row t p) j) := by
  unfold iblk
  generalize V m c = W
  exact congrArg (W main_v6) (emb_1 t p j)

theorem blk_2 (t : Fin cfg0.N) (p : Fin 256) (j : Fin 512) :
    (iblk m c 2 t : Vec Ideal S256x512 .bf16) (ix2 p j) = (V m c main_v7 : FVec Ideal S4096x512 .bf16) (ix2 (row t p) j) := by
  unfold iblk
  generalize V m c = W
  exact congrArg (W main_v7) (emb_2 t p j)

theorem blk_3 (t : Fin cfg0.N) (p : Fin 256) (j : Fin 512) :
    (iblk m c 3 t : Vec Ideal S256x512 .bf16) (ix2 p j) = (V m c main_v8 : FVec Ideal S4096x512 .bf16) (ix2 (row t p) j) := by
  unfold iblk
  generalize V m c = W
  exact congrArg (W main_v8) (emb_3 t p j)

theorem blk_4 (t : Fin cfg0.N) (p : Fin 256) (j : Fin 512) :
    (iblk m c 4 t : Vec Ideal S256x512 .bf16) (ix2 p j) = (V m c main_v9 : FVec Ideal S4096x512 .bf16) (ix2 (row t p) j) := by
  unfold iblk
  generalize V m c = W
  exact congrArg (W main_v9) (emb_4 t p j)

theorem blk_5 (t : Fin cfg0.N) (p : Fin 256) (j : Fin 512) :
    (iblk m c 5 t : Vec Ideal S256x512 .bf16) (ix2 p j) = (V m c main_v10 : FVec Ideal S4096x512 .bf16) (ix2 (row t p) j) := by
  unfold iblk
  generalize V m c = W
  exact congrArg (W main_v10) (emb_5 t p j)

theorem blk_6 (t : Fin cfg0.N) (p : Fin 256) (j : Fin 128) :
    (iblk m c 6 t : Vec Ideal S256x128 .bf16) (ix2 p j) = (V m c main_v4 : FVec Ideal S4096x128 .bf16) (ix2 (row t p) j) := by
  unfold iblk
  generalize V m c = W
  exact congrArg (W main_v4) (emb_6 t p j)

theorem blk_8 (t : Fin cfg0.N) (p : Fin 256) (j : Fin 1024) :
    (iblk m c 8 t : Vec Ideal S256x1024 .f32) (ix2 p j) = xOf m c (ix2 (row t p) j) := by
  unfold iblk
  refine Eq.trans ?_ (congrFun (V_main_arg0 m c) (ix2 (row t p) j))
  generalize V m c = W
  exact congrArg (W main_arg0) (emb_8 t p j)

theorem blk_10 (t : Fin cfg0.N) (p : Fin 256) (j : Fin 1024) :
    (iblk m c 10 t : Vec Ideal S256x1024 .f32) (ix2 p j) = resOf m c (ix2 (row t p) j) := by
  unfold iblk
  refine Eq.trans ?_ (congrFun (V_main_arg4 m c) (ix2 (row t p) j))
  generalize V m c = W
  exact congrArg (W main_arg4) (emb_10 t p j)

theorem blk_7 (t : Fin cfg0.N) (p : Fin 1024) (j : Fin 3200) :
    (iblk m c 7 t : Vec Ideal S1024x3200 .bf16) (ix2 p j) = (V m c main_v16 : FVec Ideal S1024x3200 .bf16) (ix2 p j) := by
  unfold iblk
  generalize V m c = W
  exact congrArg (W main_v16) (emb_7 t p j)

theorem blk_9 (t : Fin cfg0.N) (p : Fin 1) (j : Fin 1024) :
    (iblk m c 9 t : Vec Ideal S1x1024 .f32) (ix2 p j) = gOf m c (ix2 p j) := by
  unfold iblk
  refine Eq.trans ?_ (congrFun (V_main_arg1 m c) (ix2 p j))
  generalize V m c = W
  exact congrArg (W main_arg1) (emb_9 t p j)

theorem host_0 (x : Fin 4096) (j : Fin 512) :
    (V m c main_v5 : FVec Ideal S4096x512 .bf16) (ix2 x j) = cotOf m c (ix2 x ⟨0 + j.val, by omega⟩) := by
  unfold V
  after_reads_at

theorem host_1 (x : Fin 4096) (j : Fin 512) :
    (V m c main_v6 : FVec Ideal S4096x512 .bf16) (ix2 x j) = cotOf m c (ix2 x ⟨512 + j.val, by omega⟩) := by
  unfold V
  after_reads_at

theorem host_2 (x : Fin 4096) (j : Fin 512) :
    (V m c main_v7 : FVec Ideal S4096x512 .bf16) (ix2 x j) = cotOf m c (ix2 x ⟨1024 + j.val, by omega⟩) := by
  unfold V
  after_reads_at

theorem host_3 (x : Fin 4096) (j : Fin 512) :
    (V m c main_v8 : FVec Ideal S4096x512 .bf16) (ix2 x j) = cotOf m c (ix2 x ⟨1536 + j.val, by omega⟩) := by
  unfold V
  after_reads_at

theorem host_4 (x : Fin 4096) (j : Fin 512) :
    (V m c main_v9 : FVec Ideal S4096x512 .bf16) (ix2 x j) = cotOf m c (ix2 x ⟨2056 + j.val, by omega⟩) := by
  unfold V
  after_reads_at

theorem host_5 (x : Fin 4096) (j : Fin 512) :
    (V m c main_v10 : FVec Ideal S4096x512 .bf16) (ix2 x j) = cotOf m c (ix2 x ⟨2568 + j.val, by omega⟩) := by
  unfold V
  after_reads_at

theorem host_6 (x : Fin 4096) (j : Fin 128) (hj : j.val < 8) :
    (V m c main_v4 : FVec Ideal S4096x128 .bf16) (ix2 x j) = cotOf m c (ix2 x ⟨2048 + j.val, by omega⟩) := by
  unfold V
  after_reads_at
  rw [dif_pos hj]
  after_reads_at

theorem host_6_zero (x : Fin 4096) (j : Fin 128) (hj : 8 ≤ j.val) :
    (V m c main_v4 : FVec Ideal S4096x128 .bf16) (ix2 x j) = (0 : EReal) := by
  unfold V
  after_reads_at
  rw [dif_neg (not_lt.2 hj)]
  after_reads_at

theorem host_w_low (r : Fin 1024) (j : Fin 3200) (hj : j.val < 2048) :
    (V m c main_v16 : FVec Ideal S1024x3200 .bf16) (ix2 r j) = wOf m c (ix2 r ⟨j.val, by omega⟩) := by
  unfold V
  after_reads_at
  rw [dif_pos hj]
  after_reads_at

theorem host_w_high (r : Fin 1024) (j : Fin 3200) (hj : 2048 ≤ j.val) (hj' : j.val < 3072) :
    (V m c main_v16 : FVec Ideal S1024x3200 .bf16) (ix2 r j) = wOf m c (ix2 r ⟨j.val + 8, by omega⟩) := by
  unfold V
  after_reads_at
  rw [dif_neg (not_lt.2 hj), dif_pos (by omega)]
  after_reads_at
  exact congrArg (fun q => wOf m c (ix2 r q)) (Fin.ext (by show 2056 + (j.val - 2048) = j.val + 8; omega))

theorem host_w_lane (r : Fin 1024) (j : Fin 3200) (hj : 3072 ≤ j.val) (hj' : j.val < 3080) :
    (V m c main_v16 : FVec Ideal S1024x3200 .bf16) (ix2 r j) = wOf m c (ix2 r ⟨j.val - 1024, by omega⟩) := by
  unfold V
  after_reads_at
  rw [dif_neg (by omega), dif_neg (by omega), dif_pos (by omega)]
  after_reads_at
  exact congrArg (fun q => wOf m c (ix2 r q)) (Fin.ext (by show 2048 + (j.val - 2048 - 1024) = j.val - 1024; omega))

/-- The cotangent of the projection's operand. -/
def dhArr (x : Fin 4096) (d : Fin 1024) : EReal := ∑ n : Fin 3080, cotOf m c (ix2 x n) * wOf m c (ix2 d n)

/-- One column's product, zero past the last column. -/
def colProd (x : Fin 4096) (d : Fin 1024) (n : ℕ) : EReal :=
  if h : n < 3080 then cotOf m c (ix2 x ⟨n, h⟩) * wOf m c (ix2 d ⟨n, h⟩) else 0

theorem colProd_of (x : Fin 4096) (d : Fin 1024) (n a b : ℕ) (ha : a < 3080) (hb : b < 3080) (ea : a = n) (eb : b = n) :
    cotOf m c (ix2 x ⟨a, ha⟩) * wOf m c (ix2 d ⟨b, hb⟩) = colProd m c x d n := by
  subst ea
  subst eb
  unfold colProd
  rw [dif_pos ha]

theorem dhAt_eq (t : Fin cfg0.N) (p : Fin 256) (d : Fin 1024) : dhAt m c t p d = dhArr m c (row t p) d := by
  have e : dhArr m c (row t p) d = ∑ n : Fin 3080, colProd m c (row t p) d n.val :=
    Finset.sum_congr rfl fun n _ => colProd_of m c _ _ _ _ _ n.isLt n.isLt rfl rfl
  rw [e, sum_columns]
  unfold dhAt dhOf
  refine congrArg₂ (· + ·) (congrArg₂ (· + ·) (congrArg₂ (· + ·) (congrArg₂ (· + ·) (congrArg₂ (· + ·) (congrArg₂ (· + ·) ?_ ?_) ?_) ?_) ?_) ?_) ?_
  · refine sum_lanes _ _ (fun k hk => ?_) (fun k hk => ?_)
    · rw [blk_6, blk_7, host_6 m c _ _ hk, host_w_lane m c _ _ (by show 3072 ≤ 3072 + k.val; omega) (by show 3072 + k.val < 3080; omega)]
      exact colProd_of m c _ _ _ _ _ _ _ rfl (by show 3072 + k.val - 1024 = _; omega)
    · rw [blk_6, host_6_zero m c _ _ hk, zero_mul]
  · refine Finset.sum_congr rfl fun k _ => ?_
    rw [blk_0, blk_7, host_0, host_w_low m c _ _ (by show 0 + k.val < 2048; omega)]
    exact colProd_of m c _ _ _ _ _ _ _ rfl rfl
  · refine Finset.sum_congr rfl fun k _ => ?_
    rw [blk_1, blk_7, host_1, host_w_low m c _ _ (by show 512 + k.val < 2048; omega)]
    exact colProd_of m c _ _ _ _ _ _ _ rfl rfl
  · refine Finset.sum_congr rfl fun k _ => ?_
    rw [blk_2, blk_7, host_2, host_w_low m c _ _ (by show 1024 + k.val < 2048; omega)]
    exact colProd_of m c _ _ _ _ _ _ _ rfl rfl
  · refine Finset.sum_congr rfl fun k _ => ?_
    rw [blk_3, blk_7, host_3, host_w_low m c _ _ (by show 1536 + k.val < 2048; omega)]
    exact colProd_of m c _ _ _ _ _ _ _ rfl rfl
  · refine Finset.sum_congr rfl fun k _ => ?_
    rw [blk_4, blk_7, host_4, host_w_high m c _ _ (by show 2048 ≤ 2048 + k.val; omega) (by show 2048 + k.val < 3072; omega)]
    exact colProd_of m c _ _ _ _ _ _ _ rfl (by show 2048 + k.val + 8 = _; omega)
  · refine Finset.sum_congr rfl fun k _ => ?_
    rw [blk_5, blk_7, host_5, host_w_high m c _ _ (by show 2048 ≤ 2560 + k.val; omega) (by show 2560 + k.val < 3072; omega)]
    exact colProd_of m c _ _ _ _ _ _ _ rfl (by show 2560 + k.val + 8 = _; omega)

/-- The gradient of x. -/
def gradArr : FVec Ideal S4096x1024 .f32 := fun y =>
  rowGrad (fun k => xOf m c (ix2 (y 0) k)) (fun k => dhArr m c (y 0) k) (fun k => gOf m c (ix2 0 k)) (resOf m c y) (y 1)

theorem block_x (t : Fin cfg0.N) (p : Fin 256) (d : Fin 1024) :
    ((outsAt0 m c t.val t.isLt).1 : Vec Ideal S256x1024 .f32) (ix2 p d) = gradArr m c ((win0_11.blk t).view.emb (ix2 p d)) := by
  rw [emb_11, outs_x]
  show _ = rowGrad (fun k => xOf m c (ix2 (row t p) k)) (fun k => dhArr m c (row t p) k) (fun k => gOf m c (ix2 0 k)) (resOf m c (ix2 (row t p) d)) d
  simp only [dhAt_eq, xAt, gAt, oAt, blk_8, blk_9, blk_10]

theorem forall_ix2 {a b : ℕ} {P : (⟨2, ![a, b]⟩ : Shape).Idx → Prop} (hP : ∀ i j, P (ix2 i j)) (y) : P y := by
  refine (congrArg P (?_ : y = ix2 (y 0) (y 1))).mpr (hP _ _)
  funext n
  match n with
  | ⟨0, _⟩ => rfl
  | ⟨1, _⟩ => rfl

theorem final_x : (dats m 0 c).arrAt 11 cfg0.N = gradArr m c :=
  (dats m 0 c).arrAt_eq_of_covers 11 _ (by decide +kernel) fun t hf y => by
    show (dats m 0 c).after 11 t y = gradArr m c ((win0_11.blk t).view.emb y)
    rw [after0_11]
    exact forall_ix2 (P := fun y => ((outsAt0 m c t.val t.isLt).1 : Vec Ideal S256x1024 .f32) y = (gradArr m c ((win0_11.blk t).view.emb y) : EReal))
      (block_x m c t) y

/-- What one row adds to the gain's gradient. -/
def gainRow (x : Fin 4096) (d : Fin 1024) : EReal :=
  dhArr m c x d * (xOf m c (ix2 x d) * rowScale (fun k => xOf m c (ix2 x k)))

/-- The gradient of the gain. -/
def gainArr : FVec Ideal S1x1024 .f32 := fun y => ∑ x : Fin 4096, gainRow m c x (y 1)

theorem gainAt_eq (t : Fin cfg0.N) (d : Fin 1024) : gainAt m c t d = ∑ p : Fin 256, gainRow m c (row t p) d := by
  unfold gainAt gainRow
  simp only [dhAt_eq, xAt, blk_8]

theorem gain_last (t : Fin cfg0.N) (ht : t.val + 1 = cfg0.N) (y : S1x1024.Idx) :
    (outsAt0 m c t.val t.isLt).2 y = (0 + ∑ p : Fin cfg0.N, gainAt m c p (y 1) : EReal) := by
  have hN : cfg0.N = 16 := N_0
  have hy : ∀ i : S1x1024.Idx, i = ix2 (0 : Fin 1) (i 1) := fun i => by
    funext a
    match a with
    | ⟨0, _⟩ => exact Fin.ext (by have h : (i 0).val < 1 := (i 0).isLt; show (i 0).val = 0; omega)
    | ⟨1, _⟩ => rfl
  refine Pipeline.eq_sum_fin_of_reset_step_apply_last (M := EReal) (fun n h => (outsAt0 m c n h).2) 16 (fun _ => (0 : EReal))
    (fun p y => gainAt m c p (y 1)) ?_ ?_ (le_of_eq hN) t ht y
  · intro t h i
    rw [zero_add, hy i]
    exact gain_first m c t h _
  · intro t h i
    rw [hy i]
    exact gain_later m c t h _

theorem block_g (t : Fin cfg0.N) (ht : t.val + 1 = cfg0.N) (p : Fin 1) (d : Fin 1024) :
    ((outsAt0 m c t.val t.isLt).2 : Vec Ideal S1x1024 .f32) (ix2 p d) = (gainArr m c ((win0_12.blk t).view.emb (ix2 p d)) : EReal) := by
  have hN : cfg0.N = 16 := N_0
  rw [emb_12]
  refine (gain_last m c t ht _).trans ?_
  rw [zero_add]
  show ∑ p : Fin cfg0.N, gainAt m c p d = ∑ x : Fin 4096, gainRow m c x d
  simp only [gainAt_eq]
  refine Fin.sum_mul_add_congr (f := fun x : Fin 4096 => gainRow m c x d) (fun p k hl => ?_) (by rw [hN])
  exact congrArg (fun q => gainRow m c q d) (Fin.ext (by show 256 * p.val + k.val = _; rw [Nat.mul_comm]))

theorem final_g : (dats m 0 c).arrAt 12 cfg0.N = gainArr m c :=
  (dats m 0 c).arrAt_eq_of_covers 12 _ (by decide +kernel) fun t hf y => by
    have hN : cfg0.N = 16 := N_0
    have ht : t.val % 16 = 15 := (flush0_12 t).1 hf
    have hlt : t.val < cfg0.N := t.isLt
    show (dats m 0 c).after 12 t y = gainArr m c ((win0_12.blk t).view.emb y)
    rw [after0_12]
    exact forall_ix2 (P := fun y => ((outsAt0 m c t.val t.isLt).2 : Vec Ideal S1x1024 .f32) y = (gainArr m c ((win0_12.blk t).view.emb y) : EReal))
      (block_g m c t (by omega)) y

end Cert.GradX

end
-- ==== Proof.GradX.RefValue.lean ====
/- The plain gradient of x and of the gain, read at an element. -/
module

public import proofs.«01_k».proof.Proof.GradX.Norm
public import proofs.«01_k».proof.Proof.Gen.Reference2Ideal.Read

@[expose] public section

set_option maxRecDepth 16384

noncomputable section

namespace Cert.GradX

open Idealize.ShloMosaic Cert.Reference2Ideal Cert.Reference2Ideal.Gen Cert.Reference2Ideal.Read

variable (x o : FVec Ideal S4096x1024 .f32) (g : FVec Ideal S1x1024 .f32) (w : FVec Ideal S1024x3080 .f32) (q : FVec Ideal S4096x3080 .f32)
variable (s : Fin 4096) (d : Fin 1024)

theorem ref_square : val_main_v6 (F := Ideal) x (ix2 s 0) = rowSquare (fun k => x (ix2 s k)) := by
  unfold rowSquare
  pointwise [val_main_v6, val_main_v5, val_main_v4, val_main_v3, val_main_v2, val_main_v1, val_main_v0, val_main_cst, val_main_cst_0, val_main_cst_1]

theorem ref_scale : val_main_v7 (F := Ideal) x (ix2 s 0) = rowScale (fun k => x (ix2 s k)) := by
  unfold rowScale
  rw [← ref_square]
  rfl

theorem ref_dh : val_main_v16 (F := Ideal) w q (ix2 s d) = (∑ n : Fin 3080, q (ix2 s n) * w (ix2 d n) : EReal) := by
  pointwise [val_main_v16]

theorem ref_tail : val_main_v32 (F := Ideal) x g w q (ix2 s d)
    = plainTail (fun k => x (ix2 s k)) (fun k => ∑ n : Fin 3080, q (ix2 s n) * w (ix2 k n)) (fun k => g (ix2 0 k)) := by
  unfold plainTail
  simp only [← ref_square, ← ref_scale, ← ref_dh]
  pointwise [val_main_v32, val_main_v31, val_main_v30, val_main_v29, val_main_v28, val_main_v24, val_main_v23, val_main_v22, val_main_v21,
    val_main_v20, val_main_v10, val_main_v9, val_main_v8, val_main_cst_2, val_main_cst_4, val_main_cst_5, val_main_cst_6]
  exact Fin.sum_univ_one _

theorem ref_x : val_main_v36 (F := Ideal) x g w q o (ix2 s d)
    = plainGrad (fun k => x (ix2 s k)) (fun k => ∑ n : Fin 3080, q (ix2 s n) * w (ix2 k n)) (fun k => g (ix2 0 k)) (o (ix2 s d)) d := by
  unfold plainGrad
  rw [← ref_tail x g w q s d, ← ref_scale]
  dsimp only
  rw [← ref_dh]
  pointwise [val_main_v36, val_main_v35, val_main_v34, val_main_v33, val_main_v27, val_main_v26, val_main_v25, val_main_v21, val_main_v20]

theorem ref_gain : val_main_v19 (F := Ideal) x w q (ix2 0 d)
    = (∑ s : Fin 4096, (∑ n : Fin 3080, q (ix2 s n) * w (ix2 d n)) * (x (ix2 s d) * rowScale (fun k => x (ix2 s k))) : EReal) := by
  simp only [← ref_scale, ← ref_dh]
  pointwise [val_main_v19, val_main_v18, val_main_v17, val_main_v12, val_main_v11, val_main_cst_3]
  exact Finset.sum_congr rfl fun _ _ => mul_comm _ _

end Cert.GradX

end
-- ==== Proof.GradX.Equal.lean ====
/- The kernel of the gradient of x and the gradient of the plain norm and projection end with equal results. -/
module

public import proofs.«01_k».proof.Defs
public import proofs.«01_k».proof.Proof.GradX.Arrays
public import proofs.«01_k».proof.Proof.GradX.RefValue
public import proofs.«01_k».proof.Proof.Gen.Reference2Ideal.Run
public import Idealize.ShloMosaic.Lib.Quiescent

@[expose] public section

set_option maxRecDepth 16384

noncomputable section

namespace Cert.GradX

open Idealize.ShloMosaic Idealize.ShloMosaic.TcCoe Idealize.SL.Sem

/-- The frame of the reference. -/
theorem frame_reference (m' : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal))) ⟨m', fun _ => 0, ρ⟩ (fun r => (∀ c : Dev Cert.Reference2Ideal.nD,
      r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))
      ∧ r.2.sem = fun _ => 0) :=
  (θ_run _ _ _).mono (fun r h => ⟨fun c => (h c).2.2, sem_eq_zero_of_no_sems (by decide) r.2⟩) (Cert.Reference2Ideal.Value.run m' ρ)

variable (m : (ℓ : Loc Cert.Kernel2Ideal.nD Cert.Kernel2Ideal.τ Cert.Kernel2Ideal.sig) → Buf (Elt Ideal) ℓ) (c : Dev Cert.Kernel2Ideal.nD)

/-- The reference's gradient of x is the kernel's. -/
theorem equal_x : Cert.Reference2Ideal.Read.val_main_v36 (F := Ideal) (xOf m c) (gOf m c) (wOf m c) (cotOf m c) (resOf m c) = gradArr m c :=
  funext (forall_ix2 fun s d => (ref_x (xOf m c) (resOf m c) (gOf m c) (wOf m c) (cotOf m c) s d).trans (grad_eq _ _ _ _ _).symm)

/-- The reference's gradient of the gain is the kernel's. -/
theorem equal_gain : Cert.Reference2Ideal.Read.val_main_v19 (F := Ideal) (xOf m c) (wOf m c) (cotOf m c) = gainArr m c := by
  refine funext (forall_ix2 fun p d => ?_)
  obtain rfl : p = 0 := Subsingleton.elim _ _
  exact ref_gain (xOf m c) (wOf m c) (cotOf m c) d

/-- Both programs run to equal results. -/
theorem algebraic : Cert.algebraic_Kernel2Ideal_Reference2Ideal := by
  intro m g m' g' _ hagree
  refine ⟨fun c => gradArr m c, fun c => gainArr m c, ?_, ?_⟩
  · exact (θ_run _ _ _).mono (fun r h c => ⟨(h c).1.trans (final_x m c), (h c).2.1.trans (final_g m c), (h c).2.2⟩)
      (Cert.Kernel2Ideal.Value.run_blocks m g)
  · refine (θ_run _ _ _).mono (fun r h c => ⟨(h c).1.trans ?_, (h c).2.1.trans ?_, (h c).2.2⟩) (Cert.Reference2Ideal.Value.run m' g')
    · obtain ⟨a0, a1, a2, a3, a4⟩ := hagree c
      rw [Cert.Reference2Ideal.Read.val_main_v36_eq, a0, a1, a2, a3, a4]
      exact equal_x m c
    · obtain ⟨a0, a1, a2, a3, a4⟩ := hagree c
      refine (Cert.Reference2Ideal.Read.val_main_v19_eq (F := Ideal) _ _ _).trans ?_
      rw [a0, a2, a3]
      exact equal_gain m c

end Cert.GradX

end
-- ==== Proof.GradW.Step.lean ====
/- What one grid point of the weight gradient's kernel adds to its accumulator: the block of activations, transposed,
   times the block of widened cotangents. -/
module

public import proofs.«01_k».proof.Proof.Gen.Kernel3Ideal.Value
public import Idealize.ShloMosaic.Lib.Pipeline.ReadBack
public import Idealize.ShloMosaic.Lib.Pipeline.ValueKit
public import Idealize.ShloMosaic.Lib.Pointwise
public import Idealize.ShloMosaic.Lib.IdealHost

@[expose] public section

set_option maxRecDepth 16384

noncomputable section

namespace Cert.GradW

open Idealize.ShloMosaic Idealize.ShloMosaic.TcCoe Cert.Kernel3Ideal Cert.Kernel3Ideal.Gen

/-! The stored values, read at an element. -/

theorem pay12_apply (x : Vec Ideal S512x1024 .bf16) (a : Vec Ideal S1024x512 .f32) (p : Vec Ideal S512x512 .bf16) (r : Fin 1024) (j : Fin 512) :
    k0_pay12 x a p (ix2 r j) = (a (ix2 r j) + ∑ k : Fin 512, x (ix2 k r) * p (ix2 k j) : EReal) := by
  pointwise [k0_pay12, k0_pay11]

theorem pay13_apply (x : Vec Ideal S512x1024 .bf16) (a : Vec Ideal S1024x512 .f32) (p : Vec Ideal S512x512 .bf16) (r : Fin 1024) (j : Fin 512) :
    k0_pay13 x a p (ix2 r j) = (a (ix2 r j) + ∑ k : Fin 512, x (ix2 k r) * p (ix2 k j) : EReal) := by
  pointwise [k0_pay13, k0_pay11]

theorem pay14_apply (x : Vec Ideal S512x1024 .bf16) (a : Vec Ideal S1024x512 .f32) (p : Vec Ideal S512x512 .bf16) (r : Fin 1024) (j : Fin 512) :
    k0_pay14 x a p (ix2 r j) = (a (ix2 r j) + ∑ k : Fin 512, x (ix2 k r) * p (ix2 k j) : EReal) := by
  pointwise [k0_pay14, k0_pay11]

theorem pay15_apply (x : Vec Ideal S512x1024 .bf16) (a : Vec Ideal S1024x512 .f32) (p : Vec Ideal S512x512 .bf16) (r : Fin 1024) (j : Fin 512) :
    k0_pay15 (k0_pay11 x) a p (ix2 r j) = (a (ix2 r j) + ∑ k : Fin 512, x (ix2 k r) * p (ix2 k j) : EReal) := by
  pointwise [k0_pay15, k0_pay11]

theorem pay16_apply (x : Vec Ideal S512x1024 .bf16) (a : Vec Ideal S1024x512 .f32) (p : Vec Ideal S512x512 .bf16) (r : Fin 1024) (j : Fin 512) :
    k0_pay16 (k0_pay11 x) a p (ix2 r j) = (a (ix2 r j) + ∑ k : Fin 512, x (ix2 k r) * p (ix2 k j) : EReal) := by
  pointwise [k0_pay16, k0_pay11]

theorem pay17_apply (x : Vec Ideal S512x1024 .bf16) (a : Vec Ideal S1024x512 .f32) (p : Vec Ideal S512x512 .bf16) (r : Fin 1024) (j : Fin 512) :
    k0_pay17 (k0_pay11 x) a p (ix2 r j) = (a (ix2 r j) + ∑ k : Fin 512, x (ix2 k r) * p (ix2 k j) : EReal) := by
  pointwise [k0_pay17, k0_pay11]

theorem pay18_apply (x : Vec Ideal S512x1024 .bf16) (a : Vec Ideal S1024x128 .f32) (p : Vec Ideal S512x128 .bf16) (r : Fin 1024) (j : Fin 128) :
    k0_pay1 (k0_pay18 (k0_pay11 x) a p) (ix2 r j) = (a (ix2 r j) + ∑ k : Fin 512, x (ix2 k r) * p (ix2 k j) : EReal) := by
  pointwise [k0_pay1, k0_pay18, k0_pay11]

theorem pay10_apply (y : S1024x3200.Idx) : k0_pay10 (F := Ideal) y = (0 : EReal) := by
  unfold k0_pay10
  exact Ideal.ofBits_zero_f32

variable (x0 : Vec Ideal S512x1024 .bf16) (x1 x2 x3 x4 x5 x6 : Vec Ideal S512x512 .bf16) (x7 : Vec Ideal S512x128 .bf16)

/-- The widened cotangents of a block of rows: six pieces of 512 columns, then 128 lanes. -/
def wide (k : Fin 512) (n : ℕ) : EReal :=
  if h : n < 512 then x1 (ix2 k ⟨n, h⟩)
  else if h : n < 1024 then x2 (ix2 k ⟨n - 512, by omega⟩)
  else if h : n < 1536 then x3 (ix2 k ⟨n - 1024, by omega⟩)
  else if h : n < 2048 then x4 (ix2 k ⟨n - 1536, by omega⟩)
  else if h : n < 2560 then x5 (ix2 k ⟨n - 2048, by omega⟩)
  else if h : n < 3072 then x6 (ix2 k ⟨n - 2560, by omega⟩)
  else x7 (ix2 k ⟨(n - 3072) % 128, Nat.mod_lt _ (by decide)⟩)

theorem wide_1 (k : Fin 512) (j : Fin 512) : wide x1 x2 x3 x4 x5 x6 x7 k (0 + j.val) = x1 (ix2 k j) := by
  unfold wide
  rw [dif_pos (by omega)]
  exact congrArg (fun q => x1 (ix2 k q)) (Fin.ext (by show 0 + j.val = j.val; omega))

theorem wide_2 (k : Fin 512) (j : Fin 512) : wide x1 x2 x3 x4 x5 x6 x7 k (512 + j.val) = x2 (ix2 k j) := by
  unfold wide
  rw [dif_neg (by omega)]
  rw [dif_pos (by omega)]
  exact congrArg (fun q => x2 (ix2 k q)) (Fin.ext (by show 512 + j.val - 512 = j.val; omega))

theorem wide_3 (k : Fin 512) (j : Fin 512) : wide x1 x2 x3 x4 x5 x6 x7 k (1024 + j.val) = x3 (ix2 k j) := by
  unfold wide
  rw [dif_neg (by omega)]
  rw [dif_neg (by omega)]
  rw [dif_pos (by omega)]
  exact congrArg (fun q => x3 (ix2 k q)) (Fin.ext (by show 1024 + j.val - 1024 = j.val; omega))

theorem wide_4 (k : Fin 512) (j : Fin 512) : wide x1 x2 x3 x4 x5 x6 x7 k (1536 + j.val) = x4 (ix2 k j) := by
  unfold wide
  rw [dif_neg (by omega)]
  rw [dif_neg (by omega)]
  rw [dif_neg (by omega)]
  rw [dif_pos (by omega)]
  exact congrArg (fun q => x4 (ix2 k q)) (Fin.ext (by show 1536 + j.val - 1536 = j.val; omega))

theorem wide_5 (k : Fin 512) (j : Fin 512) : wide x1 x2 x3 x4 x5 x6 x7 k (2048 + j.val) = x5 (ix2 k j) := by
  unfold wide
  rw [dif_neg (by omega)]
  rw [dif_neg (by omega)]
  rw [dif_neg (by omega)]
  rw [dif_neg (by omega)]
  rw [dif_pos (by omega)]
  exact congrArg (fun q => x5 (ix2 k q)) (Fin.ext (by show 2048 + j.val - 2048 = j.val; omega))

theorem wide_6 (k : Fin 512) (j : Fin 512) : wide x1 x2 x3 x4 x5 x6 x7 k (2560 + j.val) = x6 (ix2 k j) := by
  unfold wide
  rw [dif_neg (by omega)]
  rw [dif_neg (by omega)]
  rw [dif_neg (by omega)]
  rw [dif_neg (by omega)]
  rw [dif_neg (by omega)]
  rw [dif_pos (by omega)]
  exact congrArg (fun q => x6 (ix2 k q)) (Fin.ext (by show 2560 + j.val - 2560 = j.val; omega))

theorem wide_7 (k : Fin 512) (j : Fin 128) : wide x1 x2 x3 x4 x5 x6 x7 k (3072 + j.val) = x7 (ix2 k j) := by
  unfold wide
  rw [dif_neg (by omega)]
  rw [dif_neg (by omega)]
  rw [dif_neg (by omega)]
  rw [dif_neg (by omega)]
  rw [dif_neg (by omega)]
  rw [dif_neg (by omega)]
  exact congrArg (fun q => x7 (ix2 k q)) (Fin.ext (by show (3072 + j.val - 3072) % 128 = j.val; omega))

/-- What the block adds at an element of the accumulator. -/
def part (y : S1024x3200.Idx) : EReal := ∑ k : Fin 512, x0 (ix2 k (y 0)) * wide x1 x2 x3 x4 x5 x6 x7 k (y 1).val

/-- The accumulator after the block. -/
def step (acc : Vec Ideal S1024x3200 .f32) : Vec Ideal S1024x3200 .f32 := fun y => (acc y + part x0 x1 x2 x3 x4 x5 x6 x7 y : EReal)

/-- The stores of one grid point into the accumulator, the last first. -/
def stores (acc : Vec Ideal S1024x3200 .f32) : List (View.Piece (Elt Ideal) S1024x3200 .f32) :=
  [⟨Rect.unit ![0, 3072] ![1024, 128] inb_S1024x3200_S1024x128_0_3072, k0_pay1 (k0_pay18 (k0_pay11 x0) (View.ld acc (Rect.unit ![0, 3072] ![1024, 128] inb_S1024x3200_S1024x128_0_3072)) x7)⟩,
   ⟨Rect.unit ![0, 2560] ![1024, 512] inb_S1024x3200_S1024x512_0_2560, k0_pay17 (k0_pay11 x0) (View.ld acc (Rect.unit ![0, 2560] ![1024, 512] inb_S1024x3200_S1024x512_0_2560)) x6⟩,
   ⟨Rect.unit ![0, 2048] ![1024, 512] inb_S1024x3200_S1024x512_0_2048, k0_pay16 (k0_pay11 x0) (View.ld acc (Rect.unit ![0, 2048] ![1024, 512] inb_S1024x3200_S1024x512_0_2048)) x5⟩,
   ⟨Rect.unit ![0, 1536] ![1024, 512] inb_S1024x3200_S1024x512_0_1536, k0_pay15 (k0_pay11 x0) (View.ld acc (Rect.unit ![0, 1536] ![1024, 512] inb_S1024x3200_S1024x512_0_1536)) x4⟩,
   ⟨Rect.unit ![0, 1024] ![1024, 512] inb_S1024x3200_S1024x512_0_1024, k0_pay14 x0 (View.ld acc (Rect.unit ![0, 1024] ![1024, 512] inb_S1024x3200_S1024x512_0_1024)) x3⟩,
   ⟨Rect.unit ![0, 512] ![1024, 512] inb_S1024x3200_S1024x512_0_512, k0_pay13 x0 (View.ld acc (Rect.unit ![0, 512] ![1024, 512] inb_S1024x3200_S1024x512_0_512)) x2⟩,
   ⟨Rect.unit ![0, 0] ![1024, 512] inb_S1024x3200_S1024x512_0_0, k0_pay12 x0 (View.ld acc (Rect.unit ![0, 0] ![1024, 512] inb_S1024x3200_S1024x512_0_0)) x1⟩]

theorem stores_blocks (acc : Vec Ideal S1024x3200 .f32) :
    View.PiecesOf (step x0 x1 x2 x3 x4 x5 x6 x7 acc) (stores x0 x1 x2 x3 x4 x5 x6 x7 acc) := by
  refine ⟨?_, ?_, ?_, ?_, ?_, ?_, ?_, trivial⟩
  · intro z
    obtain ⟨r, j, rfl⟩ : ∃ (r : Fin 1024) (j : Fin 128), z = (ix2 r j : S1024x128.Idx) := ⟨z 0, z 1, eq_ix2 (n0 := 1024) (n1 := 128) z⟩
    refine (pay18_apply x0 _ x7 r j).trans ?_
    have e0 : ((Rect.unit (s := S1024x3200) ![0, 3072] ![1024, 128] inb_S1024x3200_S1024x128_0_3072).emb (ix2 r j : S1024x128.Idx)) 0 = r := Fin.ext (by
      show 0 + 1 * r.val = r.val; omega)
    have e1 : (((Rect.unit (s := S1024x3200) ![0, 3072] ![1024, 128] inb_S1024x3200_S1024x128_0_3072).emb (ix2 r j : S1024x128.Idx)) 1).val = 3072 + j.val := by
      show 3072 + 1 * j.val = 3072 + j.val; omega
    refine congrArg (fun q : EReal => acc _ + q) ?_
    unfold part
    rw [e0, e1]
    exact Finset.sum_congr rfl fun k _ => by rw [wide_7]
  · intro z
    obtain ⟨r, j, rfl⟩ : ∃ (r : Fin 1024) (j : Fin 512), z = (ix2 r j : S1024x512.Idx) := ⟨z 0, z 1, eq_ix2 (n0 := 1024) (n1 := 512) z⟩
    refine (pay17_apply x0 _ x6 r j).trans ?_
    have e0 : ((Rect.unit (s := S1024x3200) ![0, 2560] ![1024, 512] inb_S1024x3200_S1024x512_0_2560).emb (ix2 r j : S1024x512.Idx)) 0 = r := Fin.ext (by
      show 0 + 1 * r.val = r.val; omega)
    have e1 : (((Rect.unit (s := S1024x3200) ![0, 2560] ![1024, 512] inb_S1024x3200_S1024x512_0_2560).emb (ix2 r j : S1024x512.Idx)) 1).val = 2560 + j.val := by
      show 2560 + 1 * j.val = 2560 + j.val; omega
    refine congrArg (fun q : EReal => acc _ + q) ?_
    unfold part
    rw [e0, e1]
    exact Finset.sum_congr rfl fun k _ => by rw [wide_6]
  · intro z
    obtain ⟨r, j, rfl⟩ : ∃ (r : Fin 1024) (j : Fin 512), z = (ix2 r j : S1024x512.Idx) := ⟨z 0, z 1, eq_ix2 (n0 := 1024) (n1 := 512) z⟩
    refine (pay16_apply x0 _ x5 r j).trans ?_
    have e0 : ((Rect.unit (s := S1024x3200) ![0, 2048] ![1024, 512] inb_S1024x3200_S1024x512_0_2048).emb (ix2 r j : S1024x512.Idx)) 0 = r := Fin.ext (by
      show 0 + 1 * r.val = r.val; omega)
    have e1 : (((Rect.unit (s := S1024x3200) ![0, 2048] ![1024, 512] inb_S1024x3200_S1024x512_0_2048).emb (ix2 r j : S1024x512.Idx)) 1).val = 2048 + j.val := by
      show 2048 + 1 * j.val = 2048 + j.val; omega
    refine congrArg (fun q : EReal => acc _ + q) ?_
    unfold part
    rw [e0, e1]
    exact Finset.sum_congr rfl fun k _ => by rw [wide_5]
  · intro z
    obtain ⟨r, j, rfl⟩ : ∃ (r : Fin 1024) (j : Fin 512), z = (ix2 r j : S1024x512.Idx) := ⟨z 0, z 1, eq_ix2 (n0 := 1024) (n1 := 512) z⟩
    refine (pay15_apply x0 _ x4 r j).trans ?_
    have e0 : ((Rect.unit (s := S1024x3200) ![0, 1536] ![1024, 512] inb_S1024x3200_S1024x512_0_1536).emb (ix2 r j : S1024x512.Idx)) 0 = r := Fin.ext (by
      show 0 + 1 * r.val = r.val; omega)
    have e1 : (((Rect.unit (s := S1024x3200) ![0, 1536] ![1024, 512] inb_S1024x3200_S1024x512_0_1536).emb (ix2 r j : S1024x512.Idx)) 1).val = 1536 + j.val := by
      show 1536 + 1 * j.val = 1536 + j.val; omega
    refine congrArg (fun q : EReal => acc _ + q) ?_
    unfold part
    rw [e0, e1]
    exact Finset.sum_congr rfl fun k _ => by rw [wide_4]
  · intro z
    obtain ⟨r, j, rfl⟩ : ∃ (r : Fin 1024) (j : Fin 512), z = (ix2 r j : S1024x512.Idx) := ⟨z 0, z 1, eq_ix2 (n0 := 1024) (n1 := 512) z⟩
    refine (pay14_apply x0 _ x3 r j).trans ?_
    have e0 : ((Rect.unit (s := S1024x3200) ![0, 1024] ![1024, 512] inb_S1024x3200_S1024x512_0_1024).emb (ix2 r j : S1024x512.Idx)) 0 = r := Fin.ext (by
      show 0 + 1 * r.val = r.val; omega)
    have e1 : (((Rect.unit (s := S1024x3200) ![0, 1024] ![1024, 512] inb_S1024x3200_S1024x512_0_1024).emb (ix2 r j : S1024x512.Idx)) 1).val = 1024 + j.val := by
      show 1024 + 1 * j.val = 1024 + j.val; omega
    refine congrArg (fun q : EReal => acc _ + q) ?_
    unfold part
    rw [e0, e1]
    exact Finset.sum_congr rfl fun k _ => by rw [wide_3]
  · intro z
    obtain ⟨r, j, rfl⟩ : ∃ (r : Fin 1024) (j : Fin 512), z = (ix2 r j : S1024x512.Idx) := ⟨z 0, z 1, eq_ix2 (n0 := 1024) (n1 := 512) z⟩
    refine (pay13_apply x0 _ x2 r j).trans ?_
    have e0 : ((Rect.unit (s := S1024x3200) ![0, 512] ![1024, 512] inb_S1024x3200_S1024x512_0_512).emb (ix2 r j : S1024x512.Idx)) 0 = r := Fin.ext (by
      show 0 + 1 * r.val = r.val; omega)
    have e1 : (((Rect.unit (s := S1024x3200) ![0, 512] ![1024, 512] inb_S1024x3200_S1024x512_0_512).emb (ix2 r j : S1024x512.Idx)) 1).val = 512 + j.val := by
      show 512 + 1 * j.val = 512 + j.val; omega
    refine congrArg (fun q : EReal => acc _ + q) ?_
    unfold part
    rw [e0, e1]
    exact Finset.sum_congr rfl fun k _ => by rw [wide_2]
  · intro z
    obtain ⟨r, j, rfl⟩ : ∃ (r : Fin 1024) (j : Fin 512), z = (ix2 r j : S1024x512.Idx) := ⟨z 0, z 1, eq_ix2 (n0 := 1024) (n1 := 512) z⟩
    refine (pay12_apply x0 _ x1 r j).trans ?_
    have e0 : ((Rect.unit (s := S1024x3200) ![0, 0] ![1024, 512] inb_S1024x3200_S1024x512_0_0).emb (ix2 r j : S1024x512.Idx)) 0 = r := Fin.ext (by
      show 0 + 1 * r.val = r.val; omega)
    have e1 : (((Rect.unit (s := S1024x3200) ![0, 0] ![1024, 512] inb_S1024x3200_S1024x512_0_0).emb (ix2 r j : S1024x512.Idx)) 1).val = 0 + j.val := by
      show 0 + 1 * j.val = 0 + j.val; omega
    refine congrArg (fun q : EReal => acc _ + q) ?_
    unfold part
    rw [e0, e1]
    exact Finset.sum_congr rfl fun k _ => by rw [wide_1]

theorem stores_cover (acc : Vec Ideal S1024x3200 .f32) (y : S1024x3200.Idx) :
    ∃ p ∈ stores x0 x1 x2 x3 x4 x5 x6 x7 acc, y ∈ p.1.set :=
  View.cover_of_tiledBy (stores x0 x1 x2 x3 x4 x5 x6 x7 acc) ![1024, 128] (by sl_kernel_rfl) y

theorem canon_stores (acc : Vec Ideal S1024x3200 .f32) (L : List (View.Piece (Elt Ideal) S1024x3200 .f32)) :
    View.canon (stores x0 x1 x2 x3 x4 x5 x6 x7 acc ++ L) = step x0 x1 x2 x3 x4 x5 x6 x7 acc :=
  funext fun y => View.canon_append_of_piecesOf _ L _ (stores_blocks x0 x1 x2 x3 x4 x5 x6 x7 acc) y
    (stores_cover x0 x1 x2 x3 x4 x5 x6 x7 acc y)

variable (m : (ℓ : Loc nD τ sig) → Buf (Elt Ideal) ℓ)

/-- The accumulator after a grid point, from what it held before. -/
def stepAt (c : Dev nD) (t : Fin cfg0.N) (acc : Vec Ideal S1024x3200 .f32) : Vec Ideal S1024x3200 .f32 :=
  step (iblk m c 0 t) (iblk m c 1 t) (iblk m c 2 t) (iblk m c 3 t) (iblk m c 4 t) (iblk m c 5 t) (iblk m c 6 t) (iblk m c 7 t) acc

theorem first (c : Dev nD) (t : Fin cfg0.N) (h0 : t.val % 8 = 0) (h1 : ¬t.val % 8 = 7) :
    (outsAt0 m c t.val t.isLt).2 = stepAt m c t (k0_pay10 (F := Ideal)) := by
  rw [outsAt0_A m c t h0 h1]
  dsimp only
  frame_open
  simp (disch := decide) only [↓ View.readCov_skip, ↓ View.readCov_cons_toLoadRect, ↓ View.readCov_fill]
  frame_out
  exact canon_stores _ _ _ _ _ _ _ _ _ [_]

theorem middle (c : Dev nD) (t : Fin cfg0.N) (h0 : ¬t.val % 8 = 0) (h1 : ¬t.val % 8 = 7) (hp : t.val - 1 < cfg0.N) :
    (outsAt0 m c t.val t.isLt).2 = stepAt m c t (outsAt0 m c (t.val - 1) hp).2 := by
  rw [outsAt0_B m c t h0 h1]
  dsimp only
  frame_open
  simp (disch := decide) only [↓ View.readCov_skip, ↓ View.readCov_cons_toLoadRect, ↓ View.readCov_fill]
  frame_out
  simp only [read_unread_whole]
  exact canon_stores _ _ _ _ _ _ _ _ _ []

theorem last (c : Dev nD) (t : Fin cfg0.N) (h0 : ¬t.val % 8 = 0) (h1 : t.val % 8 = 7) (hp : t.val - 1 < cfg0.N) :
    (outsAt0 m c t.val t.isLt).2 = stepAt m c t (outsAt0 m c (t.val - 1) hp).2 := by
  rw [outsAt0_C m c t h0 h1]
  dsimp only
  frame_open
  simp (disch := decide) only [↓ View.readCov_skip, ↓ View.readCov_cons_toLoadRect, ↓ View.readCov_fill]
  frame_out
  simp only [read_unread_whole]
  exact canon_stores _ _ _ _ _ _ _ _ _ []

end Cert.GradW

end
-- ==== Proof.GradW.Chunks.lean ====
/- What the weight gradient's last grid point stores: the eight devices' chunks of the accumulator's columns. -/
module

public import proofs.«01_k».proof.Proof.GradW.Step

@[expose] public section

noncomputable section

namespace Cert.GradW

open Idealize.ShloMosaic Idealize.ShloMosaic.TcCoe Cert.Kernel3Ideal Cert.Kernel3Ideal.Gen

theorem chunk0_apply (v : Vec Ideal S1024x385 .f32) (r : Fin 1024) (j : Fin 385) :
    k0_pay5 v (ix3 (0 : Fin 1) r j) = v (ix2 r j) := by
  pointwise [k0_pay5]

theorem chunk1_apply (v : Vec Ideal S1024x385 .f32) (r : Fin 1024) (j : Fin 385) :
    k0_pay6 v (ix3 (0 : Fin 1) r j) = v (ix2 r j) := by
  pointwise [k0_pay6]

theorem chunk2_apply (v : Vec Ideal S1024x385 .f32) (r : Fin 1024) (j : Fin 385) :
    k0_pay7 v (ix3 (0 : Fin 1) r j) = v (ix2 r j) := by
  pointwise [k0_pay7]

theorem chunk3_apply (v : Vec Ideal S1024x385 .f32) (r : Fin 1024) (j : Fin 385) :
    k0_pay8 v (ix3 (0 : Fin 1) r j) = v (ix2 r j) := by
  pointwise [k0_pay8]

theorem chunk4_apply (v : Vec Ideal S1024x385 .f32) (r : Fin 1024) (j : Fin 385) :
    k0_pay9 v (ix3 (0 : Fin 1) r j) = v (ix2 r j) := by
  pointwise [k0_pay9]

theorem chunk6_apply (v : Vec Ideal S1024x385 .f32) (r : Fin 1024) (j : Fin 385) :
    k0_pay3 v (ix3 (0 : Fin 1) r j) = v (ix2 r j) := by
  pointwise [k0_pay3]

theorem chunk7_apply (v : Vec Ideal S1024x385 .f32) (r : Fin 1024) (j : Fin 385) :
    k0_pay4 v (ix3 (0 : Fin 1) r j) = v (ix2 r j) := by
  pointwise [k0_pay4]

theorem chunk5_apply (u : Vec Ideal S1024x123 .f32) (v : Vec Ideal S1024x8 .f32) (w : Vec Ideal S1024x254 .f32) (r : Fin 1024) (j : Fin 385) :
    k0_pay2 u v w (ix3 (0 : Fin 1) r j) = if h : j.val < 123 then u (ix2 r ⟨j.val, h⟩) else if h : j.val - 123 < 8 then v (ix2 r ⟨j.val - 123, by omega⟩)
      else w (ix2 r ⟨j.val - 123 - 8, by omega⟩) := by
  pointwise [k0_pay2]

/-- Where a column of the gradient lies in the accumulator: the forget gate's eight columns come last there. -/
def colOf (n : ℕ) : ℕ := if n < 2048 then n else if n < 2056 then n + 1024 else n - 8

theorem colOf_lt (n : ℕ) (h : n < 3080) : colOf n < 3200 := by
  unfold colOf
  by_cases h1 : n < 2048
  · rw [if_pos h1]; omega
  · rw [if_neg h1]
    by_cases h2 : n < 2056
    · rw [if_pos h2]; omega
    · rw [if_neg h2]; omega

theorem colOf_low (n : ℕ) (h : n < 2048) : colOf n = n := if_pos h

theorem colOf_mid (n : ℕ) (h : ¬n < 2048) (h' : n < 2056) : colOf n = n + 1024 := (if_neg h).trans (if_pos h')

theorem colOf_high (n : ℕ) (h : ¬n < 2048) (h' : ¬n < 2056) : colOf n = n - 8 := (if_neg h).trans (if_neg h')

theorem chunk_lt (d : Fin 8) (j : Fin 385) : 385 * d.val + j.val < 3080 := by have := d.isLt; have := j.isLt; omega

/-- The chunks of an accumulator. -/
def outOf (S : Vec Ideal S1024x3200 .f32) : Vec Ideal S8x1024x385 .bf16 := fun y =>
  S (ix2 (y 1 : Fin 1024) (⟨colOf (385 * (y 0 : Fin 8).val + (y 2 : Fin 385).val), colOf_lt _ (chunk_lt (y 0) (y 2))⟩ : Fin 3200))

theorem outOf_at (S : Vec Ideal S1024x3200 .f32) (y : S8x1024x385.Idx) (q : S1024x3200.Idx) (d r j col : ℕ)
    (h0 : (y 0 : Fin 8).val = d) (h1 : (y 1 : Fin 1024).val = r) (h2 : (y 2 : Fin 385).val = j)
    (q0 : (q 0 : Fin 1024).val = r) (q1 : (q 1 : Fin 3200).val = col) (hc : colOf (385 * d + j) = col) : S q = outOf S y := by
  subst h0 h1 h2
  unfold outOf
  refine congrArg S ?_
  refine (eq_ix2 (n0 := 1024) (n1 := 3200) q).trans ?_
  exact congrArg₂ (ix2 (n0 := 1024) (n1 := 3200)) (Fin.ext q0) (Fin.ext (q1.trans hc.symm))

/-- The stores of the last grid point into the output, the last first. -/
def outStores (S : Vec Ideal S1024x3200 .f32) : List (View.Piece (Elt Ideal) S8x1024x385 .bf16) :=
  [⟨Rect.unit (s := S8x1024x385) ![7, 0, 0] ![1, 1024, 385] inb_S8x1024x385_S1x1024x385_7_0_0,
    k0_pay4 fun j => S ((Rect.unit (s := S1024x3200) ![0, 2687] ![1024, 385] inb_S1024x3200_S1024x385_0_2687).idx j)⟩,
   ⟨Rect.unit (s := S8x1024x385) ![6, 0, 0] ![1, 1024, 385] inb_S8x1024x385_S1x1024x385_6_0_0,
    k0_pay3 fun j => S ((Rect.unit (s := S1024x3200) ![0, 2302] ![1024, 385] inb_S1024x3200_S1024x385_0_2302).idx j)⟩,
   ⟨Rect.unit (s := S8x1024x385) ![5, 0, 0] ![1, 1024, 385] inb_S8x1024x385_S1x1024x385_5_0_0,
    k0_pay2 (fun j => S ((Rect.unit (s := S1024x3200) ![0, 1925] ![1024, 123] inb_S1024x3200_S1024x123_0_1925).idx j))
      (fun j => S ((Rect.unit (s := S1024x3200) ![0, 3072] ![1024, 8] inb_S1024x3200_S1024x8_0_3072).idx j))
      fun j => S ((Rect.unit (s := S1024x3200) ![0, 2048] ![1024, 254] inb_S1024x3200_S1024x254_0_2048).idx j)⟩,
   ⟨Rect.unit (s := S8x1024x385) ![4, 0, 0] ![1, 1024, 385] inb_S8x1024x385_S1x1024x385_4_0_0,
    k0_pay9 fun j => S ((Rect.unit (s := S1024x3200) ![0, 1540] ![1024, 385] inb_S1024x3200_S1024x385_0_1540).idx j)⟩,
   ⟨Rect.unit (s := S8x1024x385) ![3, 0, 0] ![1, 1024, 385] inb_S8x1024x385_S1x1024x385_3_0_0,
    k0_pay8 fun j => S ((Rect.unit (s := S1024x3200) ![0, 1155] ![1024, 385] inb_S1024x3200_S1024x385_0_1155).idx j)⟩,
   ⟨Rect.unit (s := S8x1024x385) ![2, 0, 0] ![1, 1024, 385] inb_S8x1024x385_S1x1024x385_2_0_0,
    k0_pay7 fun j => S ((Rect.unit (s := S1024x3200) ![0, 770] ![1024, 385] inb_S1024x3200_S1024x385_0_770).idx j)⟩,
   ⟨Rect.unit (s := S8x1024x385) ![1, 0, 0] ![1, 1024, 385] inb_S8x1024x385_S1x1024x385_1_0_0,
    k0_pay6 fun j => S ((Rect.unit (s := S1024x3200) ![0, 385] ![1024, 385] inb_S1024x3200_S1024x385_0_385).idx j)⟩,
   ⟨Rect.unit (s := S8x1024x385) ![0, 0, 0] ![1, 1024, 385] inb_S8x1024x385_S1x1024x385_0_0_0,
    k0_pay5 fun j => S ((Rect.unit (s := S1024x3200) ![0, 0] ![1024, 385] inb_S1024x3200_S1024x385_0_0).idx j)⟩]

theorem outStores_blocks (S : Vec Ideal S1024x3200 .f32) : View.PiecesOf (outOf S) (outStores S) := by
  refine ⟨?_, ?_, ?_, ?_, ?_, ?_, ?_, ?_, trivial⟩
  · intro z
    obtain ⟨a, r, j, rfl⟩ : ∃ (a : Fin 1) (r : Fin 1024) (j : Fin 385), z = (ix3 a r j : S1x1024x385.Idx) :=
      ⟨z 0, z 1, z 2, eq_ix3 (n0 := 1) (n1 := 1024) (n2 := 385) z⟩
    obtain rfl : a = 0 := Subsingleton.elim _ _
    refine (chunk7_apply (fun j => S ((Rect.unit (s := S1024x3200) ![0, 2687] ![1024, 385] inb_S1024x3200_S1024x385_0_2687).idx j)) r j).trans ?_
    have hj := j.isLt
    refine outOf_at S _ _ 7 r.val j.val (2687 + j.val) ?_ ?_ ?_ ?_ ?_ ?_
    · exact ValueKit.rect_emb_unit_val (s := S8x1024x385) ![7, 0, 0] ![1, 1024, 385] inb_S8x1024x385_S1x1024x385_7_0_0 (ix3 (0 : Fin 1) r j : S1x1024x385.Idx) 0
    · exact (ValueKit.rect_emb_unit_val (s := S8x1024x385) ![7, 0, 0] ![1, 1024, 385] inb_S8x1024x385_S1x1024x385_7_0_0 (ix3 (0 : Fin 1) r j : S1x1024x385.Idx) 1).trans (Nat.zero_add _)
    · exact (ValueKit.rect_emb_unit_val (s := S8x1024x385) ![7, 0, 0] ![1, 1024, 385] inb_S8x1024x385_S1x1024x385_7_0_0 (ix3 (0 : Fin 1) r j : S1x1024x385.Idx) 2).trans (Nat.zero_add _)
    · exact (ValueKit.rect_emb_unit_val _ _ _ _ 0).trans (Nat.zero_add _)
    · exact ValueKit.rect_emb_unit_val _ _ _ _ 1
    · exact (colOf_high _ (by omega) (by omega)).trans (by omega)
  · intro z
    obtain ⟨a, r, j, rfl⟩ : ∃ (a : Fin 1) (r : Fin 1024) (j : Fin 385), z = (ix3 a r j : S1x1024x385.Idx) :=
      ⟨z 0, z 1, z 2, eq_ix3 (n0 := 1) (n1 := 1024) (n2 := 385) z⟩
    obtain rfl : a = 0 := Subsingleton.elim _ _
    refine (chunk6_apply (fun j => S ((Rect.unit (s := S1024x3200) ![0, 2302] ![1024, 385] inb_S1024x3200_S1024x385_0_2302).idx j)) r j).trans ?_
    have hj := j.isLt
    refine outOf_at S _ _ 6 r.val j.val (2302 + j.val) ?_ ?_ ?_ ?_ ?_ ?_
    · exact ValueKit.rect_emb_unit_val (s := S8x1024x385) ![6, 0, 0] ![1, 1024, 385] inb_S8x1024x385_S1x1024x385_6_0_0 (ix3 (0 : Fin 1) r j : S1x1024x385.Idx) 0
    · exact (ValueKit.rect_emb_unit_val (s := S8x1024x385) ![6, 0, 0] ![1, 1024, 385] inb_S8x1024x385_S1x1024x385_6_0_0 (ix3 (0 : Fin 1) r j : S1x1024x385.Idx) 1).trans (Nat.zero_add _)
    · exact (ValueKit.rect_emb_unit_val (s := S8x1024x385) ![6, 0, 0] ![1, 1024, 385] inb_S8x1024x385_S1x1024x385_6_0_0 (ix3 (0 : Fin 1) r j : S1x1024x385.Idx) 2).trans (Nat.zero_add _)
    · exact (ValueKit.rect_emb_unit_val _ _ _ _ 0).trans (Nat.zero_add _)
    · exact ValueKit.rect_emb_unit_val _ _ _ _ 1
    · exact (colOf_high _ (by omega) (by omega)).trans (by omega)
  · intro z
    obtain ⟨a, r, j, rfl⟩ : ∃ (a : Fin 1) (r : Fin 1024) (j : Fin 385), z = (ix3 a r j : S1x1024x385.Idx) :=
      ⟨z 0, z 1, z 2, eq_ix3 (n0 := 1) (n1 := 1024) (n2 := 385) z⟩
    obtain rfl : a = 0 := Subsingleton.elim _ _
    refine (chunk5_apply _ _ _ r j).trans ?_
    have hj := j.isLt
    by_cases h : j.val < 123
    · refine (dif_pos h).trans ?_
      refine outOf_at S _ _ 5 r.val j.val (1925 + j.val) ?_ ?_ ?_ ?_ ?_ ?_
      · exact ValueKit.rect_emb_unit_val (s := S8x1024x385) ![5, 0, 0] ![1, 1024, 385] inb_S8x1024x385_S1x1024x385_5_0_0 (ix3 (0 : Fin 1) r j : S1x1024x385.Idx) 0
      · exact (ValueKit.rect_emb_unit_val (s := S8x1024x385) ![5, 0, 0] ![1, 1024, 385] inb_S8x1024x385_S1x1024x385_5_0_0 (ix3 (0 : Fin 1) r j : S1x1024x385.Idx) 1).trans (Nat.zero_add _)
      · exact (ValueKit.rect_emb_unit_val (s := S8x1024x385) ![5, 0, 0] ![1, 1024, 385] inb_S8x1024x385_S1x1024x385_5_0_0 (ix3 (0 : Fin 1) r j : S1x1024x385.Idx) 2).trans (Nat.zero_add _)
      · exact (ValueKit.rect_emb_unit_val _ _ _ _ 0).trans (Nat.zero_add _)
      · exact ValueKit.rect_emb_unit_val _ _ _ _ 1
      · exact (colOf_low _ (by omega)).trans (by omega)
    · refine (dif_neg h).trans ?_
      by_cases h' : j.val - 123 < 8
      · refine (dif_pos h').trans ?_
        refine outOf_at S _ _ 5 r.val j.val (3072 + (j.val - 123)) ?_ ?_ ?_ ?_ ?_ ?_
        · exact ValueKit.rect_emb_unit_val (s := S8x1024x385) ![5, 0, 0] ![1, 1024, 385] inb_S8x1024x385_S1x1024x385_5_0_0 (ix3 (0 : Fin 1) r j : S1x1024x385.Idx) 0
        · exact (ValueKit.rect_emb_unit_val (s := S8x1024x385) ![5, 0, 0] ![1, 1024, 385] inb_S8x1024x385_S1x1024x385_5_0_0 (ix3 (0 : Fin 1) r j : S1x1024x385.Idx) 1).trans (Nat.zero_add _)
        · exact (ValueKit.rect_emb_unit_val (s := S8x1024x385) ![5, 0, 0] ![1, 1024, 385] inb_S8x1024x385_S1x1024x385_5_0_0 (ix3 (0 : Fin 1) r j : S1x1024x385.Idx) 2).trans (Nat.zero_add _)
        · exact (ValueKit.rect_emb_unit_val _ _ _ _ 0).trans (Nat.zero_add _)
        · exact ValueKit.rect_emb_unit_val _ _ _ _ 1
        · exact (colOf_mid _ (by omega) (by omega)).trans (by omega)
      · refine (dif_neg h').trans ?_
        refine outOf_at S _ _ 5 r.val j.val (2048 + (j.val - 123 - 8)) ?_ ?_ ?_ ?_ ?_ ?_
        · exact ValueKit.rect_emb_unit_val (s := S8x1024x385) ![5, 0, 0] ![1, 1024, 385] inb_S8x1024x385_S1x1024x385_5_0_0 (ix3 (0 : Fin 1) r j : S1x1024x385.Idx) 0
        · exact (ValueKit.rect_emb_unit_val (s := S8x1024x385) ![5, 0, 0] ![1, 1024, 385] inb_S8x1024x385_S1x1024x385_5_0_0 (ix3 (0 : Fin 1) r j : S1x1024x385.Idx) 1).trans (Nat.zero_add _)
        · exact (ValueKit.rect_emb_unit_val (s := S8x1024x385) ![5, 0, 0] ![1, 1024, 385] inb_S8x1024x385_S1x1024x385_5_0_0 (ix3 (0 : Fin 1) r j : S1x1024x385.Idx) 2).trans (Nat.zero_add _)
        · exact (ValueKit.rect_emb_unit_val _ _ _ _ 0).trans (Nat.zero_add _)
        · exact ValueKit.rect_emb_unit_val _ _ _ _ 1
        · exact (colOf_high _ (by omega) (by omega)).trans (by omega)
  · intro z
    obtain ⟨a, r, j, rfl⟩ : ∃ (a : Fin 1) (r : Fin 1024) (j : Fin 385), z = (ix3 a r j : S1x1024x385.Idx) :=
      ⟨z 0, z 1, z 2, eq_ix3 (n0 := 1) (n1 := 1024) (n2 := 385) z⟩
    obtain rfl : a = 0 := Subsingleton.elim _ _
    refine (chunk4_apply (fun j => S ((Rect.unit (s := S1024x3200) ![0, 1540] ![1024, 385] inb_S1024x3200_S1024x385_0_1540).idx j)) r j).trans ?_
    have hj := j.isLt
    refine outOf_at S _ _ 4 r.val j.val (1540 + j.val) ?_ ?_ ?_ ?_ ?_ ?_
    · exact ValueKit.rect_emb_unit_val (s := S8x1024x385) ![4, 0, 0] ![1, 1024, 385] inb_S8x1024x385_S1x1024x385_4_0_0 (ix3 (0 : Fin 1) r j : S1x1024x385.Idx) 0
    · exact (ValueKit.rect_emb_unit_val (s := S8x1024x385) ![4, 0, 0] ![1, 1024, 385] inb_S8x1024x385_S1x1024x385_4_0_0 (ix3 (0 : Fin 1) r j : S1x1024x385.Idx) 1).trans (Nat.zero_add _)
    · exact (ValueKit.rect_emb_unit_val (s := S8x1024x385) ![4, 0, 0] ![1, 1024, 385] inb_S8x1024x385_S1x1024x385_4_0_0 (ix3 (0 : Fin 1) r j : S1x1024x385.Idx) 2).trans (Nat.zero_add _)
    · exact (ValueKit.rect_emb_unit_val _ _ _ _ 0).trans (Nat.zero_add _)
    · exact ValueKit.rect_emb_unit_val _ _ _ _ 1
    · exact (colOf_low _ (by omega)).trans (by omega)
  · intro z
    obtain ⟨a, r, j, rfl⟩ : ∃ (a : Fin 1) (r : Fin 1024) (j : Fin 385), z = (ix3 a r j : S1x1024x385.Idx) :=
      ⟨z 0, z 1, z 2, eq_ix3 (n0 := 1) (n1 := 1024) (n2 := 385) z⟩
    obtain rfl : a = 0 := Subsingleton.elim _ _
    refine (chunk3_apply (fun j => S ((Rect.unit (s := S1024x3200) ![0, 1155] ![1024, 385] inb_S1024x3200_S1024x385_0_1155).idx j)) r j).trans ?_
    have hj := j.isLt
    refine outOf_at S _ _ 3 r.val j.val (1155 + j.val) ?_ ?_ ?_ ?_ ?_ ?_
    · exact ValueKit.rect_emb_unit_val (s := S8x1024x385) ![3, 0, 0] ![1, 1024, 385] inb_S8x1024x385_S1x1024x385_3_0_0 (ix3 (0 : Fin 1) r j : S1x1024x385.Idx) 0
    · exact (ValueKit.rect_emb_unit_val (s := S8x1024x385) ![3, 0, 0] ![1, 1024, 385] inb_S8x1024x385_S1x1024x385_3_0_0 (ix3 (0 : Fin 1) r j : S1x1024x385.Idx) 1).trans (Nat.zero_add _)
    · exact (ValueKit.rect_emb_unit_val (s := S8x1024x385) ![3, 0, 0] ![1, 1024, 385] inb_S8x1024x385_S1x1024x385_3_0_0 (ix3 (0 : Fin 1) r j : S1x1024x385.Idx) 2).trans (Nat.zero_add _)
    · exact (ValueKit.rect_emb_unit_val _ _ _ _ 0).trans (Nat.zero_add _)
    · exact ValueKit.rect_emb_unit_val _ _ _ _ 1
    · exact (colOf_low _ (by omega)).trans (by omega)
  · intro z
    obtain ⟨a, r, j, rfl⟩ : ∃ (a : Fin 1) (r : Fin 1024) (j : Fin 385), z = (ix3 a r j : S1x1024x385.Idx) :=
      ⟨z 0, z 1, z 2, eq_ix3 (n0 := 1) (n1 := 1024) (n2 := 385) z⟩
    obtain rfl : a = 0 := Subsingleton.elim _ _
    refine (chunk2_apply (fun j => S ((Rect.unit (s := S1024x3200) ![0, 770] ![1024, 385] inb_S1024x3200_S1024x385_0_770).idx j)) r j).trans ?_
    have hj := j.isLt
    refine outOf_at S _ _ 2 r.val j.val (770 + j.val) ?_ ?_ ?_ ?_ ?_ ?_
    · exact ValueKit.rect_emb_unit_val (s := S8x1024x385) ![2, 0, 0] ![1, 1024, 385] inb_S8x1024x385_S1x1024x385_2_0_0 (ix3 (0 : Fin 1) r j : S1x1024x385.Idx) 0
    · exact (ValueKit.rect_emb_unit_val (s := S8x1024x385) ![2, 0, 0] ![1, 1024, 385] inb_S8x1024x385_S1x1024x385_2_0_0 (ix3 (0 : Fin 1) r j : S1x1024x385.Idx) 1).trans (Nat.zero_add _)
    · exact (ValueKit.rect_emb_unit_val (s := S8x1024x385) ![2, 0, 0] ![1, 1024, 385] inb_S8x1024x385_S1x1024x385_2_0_0 (ix3 (0 : Fin 1) r j : S1x1024x385.Idx) 2).trans (Nat.zero_add _)
    · exact (ValueKit.rect_emb_unit_val _ _ _ _ 0).trans (Nat.zero_add _)
    · exact ValueKit.rect_emb_unit_val _ _ _ _ 1
    · exact (colOf_low _ (by omega)).trans (by omega)
  · intro z
    obtain ⟨a, r, j, rfl⟩ : ∃ (a : Fin 1) (r : Fin 1024) (j : Fin 385), z = (ix3 a r j : S1x1024x385.Idx) :=
      ⟨z 0, z 1, z 2, eq_ix3 (n0 := 1) (n1 := 1024) (n2 := 385) z⟩
    obtain rfl : a = 0 := Subsingleton.elim _ _
    refine (chunk1_apply (fun j => S ((Rect.unit (s := S1024x3200) ![0, 385] ![1024, 385] inb_S1024x3200_S1024x385_0_385).idx j)) r j).trans ?_
    have hj := j.isLt
    refine outOf_at S _ _ 1 r.val j.val (385 + j.val) ?_ ?_ ?_ ?_ ?_ ?_
    · exact ValueKit.rect_emb_unit_val (s := S8x1024x385) ![1, 0, 0] ![1, 1024, 385] inb_S8x1024x385_S1x1024x385_1_0_0 (ix3 (0 : Fin 1) r j : S1x1024x385.Idx) 0
    · exact (ValueKit.rect_emb_unit_val (s := S8x1024x385) ![1, 0, 0] ![1, 1024, 385] inb_S8x1024x385_S1x1024x385_1_0_0 (ix3 (0 : Fin 1) r j : S1x1024x385.Idx) 1).trans (Nat.zero_add _)
    · exact (ValueKit.rect_emb_unit_val (s := S8x1024x385) ![1, 0, 0] ![1, 1024, 385] inb_S8x1024x385_S1x1024x385_1_0_0 (ix3 (0 : Fin 1) r j : S1x1024x385.Idx) 2).trans (Nat.zero_add _)
    · exact (ValueKit.rect_emb_unit_val _ _ _ _ 0).trans (Nat.zero_add _)
    · exact ValueKit.rect_emb_unit_val _ _ _ _ 1
    · exact (colOf_low _ (by omega)).trans (by omega)
  · intro z
    obtain ⟨a, r, j, rfl⟩ : ∃ (a : Fin 1) (r : Fin 1024) (j : Fin 385), z = (ix3 a r j : S1x1024x385.Idx) :=
      ⟨z 0, z 1, z 2, eq_ix3 (n0 := 1) (n1 := 1024) (n2 := 385) z⟩
    obtain rfl : a = 0 := Subsingleton.elim _ _
    refine (chunk0_apply (fun j => S ((Rect.unit (s := S1024x3200) ![0, 0] ![1024, 385] inb_S1024x3200_S1024x385_0_0).idx j)) r j).trans ?_
    have hj := j.isLt
    refine outOf_at S _ _ 0 r.val j.val (0 + j.val) ?_ ?_ ?_ ?_ ?_ ?_
    · exact ValueKit.rect_emb_unit_val (s := S8x1024x385) ![0, 0, 0] ![1, 1024, 385] inb_S8x1024x385_S1x1024x385_0_0_0 (ix3 (0 : Fin 1) r j : S1x1024x385.Idx) 0
    · exact (ValueKit.rect_emb_unit_val (s := S8x1024x385) ![0, 0, 0] ![1, 1024, 385] inb_S8x1024x385_S1x1024x385_0_0_0 (ix3 (0 : Fin 1) r j : S1x1024x385.Idx) 1).trans (Nat.zero_add _)
    · exact (ValueKit.rect_emb_unit_val (s := S8x1024x385) ![0, 0, 0] ![1, 1024, 385] inb_S8x1024x385_S1x1024x385_0_0_0 (ix3 (0 : Fin 1) r j : S1x1024x385.Idx) 2).trans (Nat.zero_add _)
    · exact (ValueKit.rect_emb_unit_val _ _ _ _ 0).trans (Nat.zero_add _)
    · exact ValueKit.rect_emb_unit_val _ _ _ _ 1
    · exact (colOf_low _ (by omega)).trans (by omega)

theorem outStores_cover (S : Vec Ideal S1024x3200 .f32) (y : S8x1024x385.Idx) : ∃ p ∈ outStores S, y ∈ p.1.set :=
  View.cover_of_tiledBy (outStores S) ![1, 1024, 385] (by sl_kernel_rfl) y

theorem canon_outStores (S : Vec Ideal S1024x3200 .f32) : View.canon (outStores S) = outOf S :=
  funext fun y => by
    have e := View.canon_append_of_piecesOf _ [] _ (outStores_blocks S) y (outStores_cover S y)
    rw [List.append_nil] at e
    exact e

variable (m : (ℓ : Loc nD τ sig) → Buf (Elt Ideal) ℓ)

theorem outs_last (c : Dev nD) (t : Fin cfg0.N) (h0 : ¬t.val % 8 = 0) (h1 : t.val % 8 = 7) (hp : t.val - 1 < cfg0.N) :
    (outsAt0 m c t.val t.isLt).1 = outOf (stepAt m c t (outsAt0 m c (t.val - 1) hp).2) := by
  rw [outsAt0_C m c t h0 h1]
  dsimp only
  frame_open
  simp only [View.readCov_eq_canon']
  frame_out
  simp only [read_unread_whole]
  have e := canon_stores (iblk m c 0 t) (iblk m c 1 t) (iblk m c 2 t) (iblk m c 3 t) (iblk m c 4 t) (iblk m c 5 t) (iblk m c 6 t) (iblk m c 7 t) (outsAt0 m c (t.val - 1) hp).2 []
  rw [List.append_nil] at e
  unfold stores at e
  simp only [e]
  exact canon_outStores _

end Cert.GradW

end
-- ==== Proof.GradW.Fold.lean ====
/- The weight gradient's kernel over its whole grid: its output holds, for each column of the gradient, the sum over all
   rows of activation times cotangent. -/
module

public import proofs.«01_k».proof.Proof.GradW.Chunks
public import Idealize.ShloMosaic.Lib.StableHlo.ReadAt

@[expose] public section

set_option maxRecDepth 16384

noncomputable section

namespace Cert.GradW

open Idealize.ShloMosaic Idealize.ShloMosaic.TcCoe Cert.Kernel3Ideal Cert.Kernel3Ideal.Gen

/-- The row a block's row is in its array. -/
def row (t : Fin cfg0.N) (k : Fin 512) : Fin 4096 :=
  ⟨512 * t.val + k.val, by have h : t.val < 8 := lt_of_lt_of_eq t.isLt N_0; omega⟩

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![t.val, 0] := (by decide +kernel : ∀ t : Fin grid0.N, _)
theorem index_6 : ∀ t : Fin cfg0.N, win0_6.index t = ![t.val, 0] := (by decide +kernel : ∀ t : Fin grid0.N, _)
theorem index_7 : ∀ t : Fin cfg0.N, win0_7.index t = ![t.val, 0] := (by decide +kernel : ∀ t : Fin grid0.N, _)

theorem emb_0 (t : Fin cfg0.N) (k : Fin 512) (j : Fin 1024) : (win0_0.blk t).view.emb (ix2 k j) = ix2 (row t k) j := by
  blk_ext [index_0, row]

theorem emb_1 (t : Fin cfg0.N) (k : Fin 512) (j : Fin 512) : (win0_1.blk t).view.emb (ix2 k j) = ix2 (row t k) j := by
  blk_ext [index_1, row]

theorem emb_2 (t : Fin cfg0.N) (k : Fin 512) (j : Fin 512) : (win0_2.blk t).view.emb (ix2 k j) = ix2 (row t k) j := by
  blk_ext [index_2, row]

theorem emb_3 (t : Fin cfg0.N) (k : Fin 512) (j : Fin 512) : (win0_3.blk t).view.emb (ix2 k j) = ix2 (row t k) j := by
  blk_ext [index_3, row]

theorem emb_4 (t : Fin cfg0.N) (k : Fin 512) (j : Fin 512) : (win0_4.blk t).view.emb (ix2 k j) = ix2 (row t k) j := by
  blk_ext [index_4, row]

theorem emb_5 (t : Fin cfg0.N) (k : Fin 512) (j : Fin 512) : (win0_5.blk t).view.emb (ix2 k j) = ix2 (row t k) j := by
  blk_ext [index_5, row]

theorem emb_6 (t : Fin cfg0.N) (k : Fin 512) (j : Fin 512) : (win0_6.blk t).view.emb (ix2 k j) = ix2 (row t k) j := by
  blk_ext [index_6, row]

theorem emb_7 (t : Fin cfg0.N) (k : Fin 512) (j : Fin 128) : (win0_7.blk t).view.emb (ix2 k j) = ix2 (row t k) j := by
  blk_ext [index_7, row]

variable (m : (ℓ : Loc nD τ sig) → Buf (Elt Ideal) ℓ) (c : Dev nD)

theorem blk_0 (t : Fin cfg0.N) (k : Fin 512) (j : Fin 1024) :
    (iblk m c 0 t : Vec Ideal S512x1024 .bf16) (ix2 k j) = (V m c main_v11 : FVec Ideal S4096x1024 .bf16) (ix2 (row t k) j) := by
  unfold iblk
  generalize V m c = W
  exact congrArg (W main_v11) (emb_0 t k j)

theorem blk_1 (t : Fin cfg0.N) (k : Fin 512) (j : Fin 512) :
    (iblk m c 1 t : Vec Ideal S512x512 .bf16) (ix2 k j) = (V m c main_v5 : FVec Ideal S4096x512 .bf16) (ix2 (row t k) j) := by
  unfold iblk
  generalize V m c = W
  exact congrArg (W main_v5) (emb_1 t k j)

theorem blk_2 (t : Fin cfg0.N) (k : Fin 512) (j : Fin 512) :
    (iblk m c 2 t : Vec Ideal S512x512 .bf16) (ix2 k j) = (V m c main_v6 : FVec Ideal S4096x512 .bf16) (ix2 (row t k) j) := by
  unfold iblk
  generalize V m c = W
  exact congrArg (W main_v6) (emb_2 t k j)

theorem blk_3 (t : Fin cfg0.N) (k : Fin 512) (j : Fin 512) :
    (iblk m c 3 t : Vec Ideal S512x512 .bf16) (ix2 k j) = (V m c main_v7 : FVec Ideal S4096x512 .bf16) (ix2 (row t k) j) := by
  unfold iblk
  generalize V m c = W
  exact congrArg (W main_v7) (emb_3 t k j)

theorem blk_4 (t : Fin cfg0.N) (k : Fin 512) (j : Fin 512) :
    (iblk m c 4 t : Vec Ideal S512x512 .bf16) (ix2 k j) = (V m c main_v8 : FVec Ideal S4096x512 .bf16) (ix2 (row t k) j) := by
  unfold iblk
  generalize V m c = W
  exact congrArg (W main_v8) (emb_4 t k j)

theorem blk_5 (t : Fin cfg0.N) (k : Fin 512) (j : Fin 512) :
    (iblk m c 5 t : Vec Ideal S512x512 .bf16) (ix2 k j) = (V m c main_v9 : FVec Ideal S4096x512 .bf16) (ix2 (row t k) j) := by
  unfold iblk
  generalize V m c = W
  exact congrArg (W main_v9) (emb_5 t k j)

theorem blk_6 (t : Fin cfg0.N) (k : Fin 512) (j : Fin 512) :
    (iblk m c 6 t : Vec Ideal S512x512 .bf16) (ix2 k j) = (V m c main_v10 : FVec Ideal S4096x512 .bf16) (ix2 (row t k) j) := by
  unfold iblk
  generalize V m c = W
  exact congrArg (W main_v10) (emb_6 t k j)

theorem blk_7 (t : Fin cfg0.N) (k : Fin 512) (j : Fin 128) :
    (iblk m c 7 t : Vec Ideal S512x128 .bf16) (ix2 k j) = (V m c main_v4 : FVec Ideal S4096x128 .bf16) (ix2 (row t k) j) := by
  unfold iblk
  generalize V m c = W
  exact congrArg (W main_v4) (emb_7 t k j)

/-- The activations. -/
abbrev actOf : FVec Ideal S4096x1024 .f32 := m (c, Proc.tc.devRef main_arg0)

/-- The cotangents of the projections. -/
abbrev cotOf : FVec Ideal S4096x3080 .f32 := m (c, Proc.tc.devRef main_arg1)

theorem host_h (x : Fin 4096) (r : Fin 1024) :
    (V m c main_v11 : FVec Ideal S4096x1024 .bf16) (ix2 x r) = actOf m c (ix2 x r) := by
  unfold V
  after_reads_at

theorem host_1 (x : Fin 4096) (j : Fin 512) :
    (V m c main_v5 : FVec Ideal S4096x512 .bf16) (ix2 x j) = cotOf m c (ix2 x ⟨0 + j.val, by omega⟩) := by
  unfold V
  after_reads_at

theorem host_2 (x : Fin 4096) (j : Fin 512) :
    (V m c main_v6 : FVec Ideal S4096x512 .bf16) (ix2 x j) = cotOf m c (ix2 x ⟨512 + j.val, by omega⟩) := by
  unfold V
  after_reads_at

theorem host_3 (x : Fin 4096) (j : Fin 512) :
    (V m c main_v7 : FVec Ideal S4096x512 .bf16) (ix2 x j) = cotOf m c (ix2 x ⟨1024 + j.val, by omega⟩) := by
  unfold V
  after_reads_at

theorem host_4 (x : Fin 4096) (j : Fin 512) :
    (V m c main_v8 : FVec Ideal S4096x512 .bf16) (ix2 x j) = cotOf m c (ix2 x ⟨1536 + j.val, by omega⟩) := by
  unfold V
  after_reads_at

theorem host_5 (x : Fin 4096) (j : Fin 512) :
    (V m c main_v9 : FVec Ideal S4096x512 .bf16) (ix2 x j) = cotOf m c (ix2 x ⟨2056 + j.val, by omega⟩) := by
  unfold V
  after_reads_at

theorem host_6 (x : Fin 4096) (j : Fin 512) :
    (V m c main_v10 : FVec Ideal S4096x512 .bf16) (ix2 x j) = cotOf m c (ix2 x ⟨2568 + j.val, by omega⟩) := by
  unfold V
  after_reads_at

theorem host_7 (x : Fin 4096) (j : Fin 128) (hj : j.val < 8) :
    (V m c main_v4 : FVec Ideal S4096x128 .bf16) (ix2 x j) = cotOf m c (ix2 x ⟨2048 + j.val, by omega⟩) := by
  unfold V
  after_reads_at
  rw [dif_pos hj]
  after_reads_at

/-- The widened cotangents a grid point reads. -/
abbrev wideAt (t : Fin cfg0.N) (k : Fin 512) (n : ℕ) : EReal :=
  wide (iblk m c 1 t) (iblk m c 2 t) (iblk m c 3 t) (iblk m c 4 t) (iblk m c 5 t) (iblk m c 6 t) (iblk m c 7 t) k n

theorem wideAt_colOf (t : Fin cfg0.N) (k : Fin 512) (n : Fin 3080) :
    wideAt m c t k (colOf n.val) = cotOf m c (ix2 (row t k) n) := by
  have hn := n.isLt
  by_cases h1 : n.val < 512
  · have e : colOf n.val = 0 + (⟨n.val - 0, by omega⟩ : Fin 512).val := by
      rw [colOf_low _ (by omega)]; show _ = 0 + (n.val - 0); omega
    rw [e, wideAt, wide_1, blk_1, host_1]
    exact congrArg (fun q => cotOf m c (ix2 (row t k) q)) (Fin.ext (by show 0 + (n.val - 0) = n.val; omega))
  by_cases h2 : n.val < 1024
  · have e : colOf n.val = 512 + (⟨n.val - 512, by omega⟩ : Fin 512).val := by
      rw [colOf_low _ (by omega)]; show _ = 512 + (n.val - 512); omega
    rw [e, wideAt, wide_2, blk_2, host_2]
    exact congrArg (fun q => cotOf m c (ix2 (row t k) q)) (Fin.ext (by show 512 + (n.val - 512) = n.val; omega))
  by_cases h3 : n.val < 1536
  · have e : colOf n.val = 1024 + (⟨n.val - 1024, by omega⟩ : Fin 512).val := by
      rw [colOf_low _ (by omega)]; show _ = 1024 + (n.val - 1024); omega
    rw [e, wideAt, wide_3, blk_3, host_3]
    exact congrArg (fun q => cotOf m c (ix2 (row t k) q)) (Fin.ext (by show 1024 + (n.val - 1024) = n.val; omega))
  by_cases h4 : n.val < 2048
  · have e : colOf n.val = 1536 + (⟨n.val - 1536, by omega⟩ : Fin 512).val := by
      rw [colOf_low _ (by omega)]; show _ = 1536 + (n.val - 1536); omega
    rw [e, wideAt, wide_4, blk_4, host_4]
    exact congrArg (fun q => cotOf m c (ix2 (row t k) q)) (Fin.ext (by show 1536 + (n.val - 1536) = n.val; omega))
  by_cases h7 : n.val < 2056
  · have e : colOf n.val = 3072 + (⟨n.val - 2048, by omega⟩ : Fin 128).val := by
      rw [colOf_mid _ (by omega) (by omega)]; show _ = 3072 + (n.val - 2048); omega
    rw [e, wideAt, wide_7, blk_7, host_7 _ _ _ _ (by show n.val - 2048 < 8; omega)]
    exact congrArg (fun q => cotOf m c (ix2 (row t k) q)) (Fin.ext (by show 2048 + (n.val - 2048) = n.val; omega))
  by_cases h5 : n.val < 2568
  · have e : colOf n.val = 2048 + (⟨n.val - 2056, by omega⟩ : Fin 512).val := by
      rw [colOf_high _ (by omega) (by omega)]; show _ = 2048 + (n.val - 2056); omega
    rw [e, wideAt, wide_5, blk_5, host_5]
    exact congrArg (fun q => cotOf m c (ix2 (row t k) q)) (Fin.ext (by show 2056 + (n.val - 2056) = n.val; omega))
  by_cases h6 : n.val < 3080
  · have e : colOf n.val = 2560 + (⟨n.val - 2568, by omega⟩ : Fin 512).val := by
      rw [colOf_high _ (by omega) (by omega)]; show _ = 2560 + (n.val - 2568); omega
    rw [e, wideAt, wide_6, blk_6, host_6]
    exact congrArg (fun q => cotOf m c (ix2 (row t k) q)) (Fin.ext (by show 2568 + (n.val - 2568) = n.val; omega))
  exact absurd hn h6

/-- What the accumulator holds at the grid's end. -/
theorem acc_last (t : Fin cfg0.N) (ht : t.val + 1 = cfg0.N) (y : S1024x3200.Idx) :
    (outsAt0 m c t.val t.isLt).2 y = (0 + ∑ p : Fin cfg0.N, part (iblk m c 0 p) (iblk m c 1 p) (iblk m c 2 p) (iblk m c 3 p) (iblk m c 4 p) (iblk m c 5 p) (iblk m c 6 p) (iblk m c 7 p) y : EReal) := by
  have hN : cfg0.N = 8 := N_0
  refine Pipeline.eq_sum_fin_of_reset_step_apply_last (M := EReal) (fun n h => (outsAt0 m c n h).2) 8 (fun _ => (0 : EReal))
    (fun p y => part (iblk m c 0 p) (iblk m c 1 p) (iblk m c 2 p) (iblk m c 3 p) (iblk m c 4 p) (iblk m c 5 p) (iblk m c 6 p) (iblk m c 7 p) y)
    ?_ ?_ (le_of_eq hN) t ht y
  · intro t h i
    have h1 : ¬t.val % 8 = 7 := by omega
    refine (congrFun (first m c t h h1) i).trans ?_
    show (k0_pay10 (F := Ideal) i + _ : EReal) = 0 + _
    rw [pay10_apply]
  · intro t h i
    have hlt := t.isLt
    by_cases h1 : t.val % 8 = 7
    · exact congrFun (last m c t h h1 (by omega)) i
    · exact congrFun (middle m c t h h1 (by omega)) i

/-- The output at the grid's end. -/
theorem outs_apply (t : Fin cfg0.N) (ht : t.val + 1 = cfg0.N) (d : Fin 8) (r : Fin 1024) (j : Fin 385) :
    (outsAt0 m c t.val t.isLt).1 (ix3 d r j)
      = (∑ x : Fin 4096, actOf m c (ix2 x r) * cotOf m c (ix2 x ⟨385 * d.val + j.val, chunk_lt d j⟩) : EReal) := by
  have hN : cfg0.N = 8 := N_0
  have h0 : ¬t.val % 8 = 0 := by omega
  have h1 : t.val % 8 = 7 := by omega
  have hp : t.val - 1 < cfg0.N := by omega
  rw [outs_last m c t h0 h1 hp, ← last m c t h0 h1 hp]
  unfold outOf
  refine (acc_last m c t ht _).trans ?_
  rw [zero_add]
  have e : ∀ p : Fin cfg0.N, part (iblk m c 0 p) (iblk m c 1 p) (iblk m c 2 p) (iblk m c 3 p) (iblk m c 4 p) (iblk m c 5 p) (iblk m c 6 p) (iblk m c 7 p)
      (ix2 r ⟨colOf (385 * d.val + j.val), colOf_lt _ (chunk_lt d j)⟩)
      = ∑ k : Fin 512, actOf m c (ix2 (row p k) r) * cotOf m c (ix2 (row p k) ⟨385 * d.val + j.val, chunk_lt d j⟩) := by
    intro p
    unfold part
    refine Finset.sum_congr rfl fun k _ => ?_
    have e1 := (blk_0 m c p k r).trans (host_h m c (row p k) r)
    have e2 := wideAt_colOf m c p k ⟨385 * d.val + j.val, chunk_lt d j⟩
    exact congrArg₂ (fun a b : EReal => a * b) e1 e2
  refine (Finset.sum_congr rfl fun p _ => e p).trans ?_
  refine Fin.sum_mul_add_congr (f := fun x : Fin 4096 => actOf m c (ix2 x r) * cotOf m c (ix2 x ⟨385 * d.val + j.val, chunk_lt d j⟩))
    (fun p k hl => ?_) (by rw [hN])
  have e3 : row p k = ⟨p.val * 512 + k.val, hl⟩ := Fin.ext (by show 512 * p.val + k.val = _; rw [Nat.mul_comm])
  rw [e3]

end Cert.GradW

end
-- ==== Proof.GradW.Equal.lean ====
/- The weight gradient's kernel and the gradient of the plain projection end with equal results. -/
module

public import proofs.«01_k».proof.Defs
public import proofs.«01_k».proof.Proof.GradW.Fold
public import proofs.«01_k».proof.Proof.Gen.Reference3Ideal.Run
public import proofs.«01_k».proof.Proof.Gen.Reference3Ideal.Read
public import Idealize.ShloMosaic.Lib.Quiescent

@[expose] public section

set_option maxRecDepth 16384

noncomputable section

namespace Cert.GradW

open Idealize.ShloMosaic Idealize.ShloMosaic.TcCoe Idealize.SL.Sem

/-- The kernel's result. -/
theorem kernel_apply (m : (ℓ : Loc Cert.Kernel3Ideal.nD Cert.Kernel3Ideal.τ Cert.Kernel3Ideal.sig) → Buf (Elt Ideal) ℓ)
    (c : Dev Cert.Kernel3Ideal.nD) (d : Fin 8) (r : Fin 1024) (j : Fin 385) :
    (Cert.Kernel3Ideal.Value.G8 m c : FVec Ideal Cert.Kernel3Ideal.S8x1024x385 .bf16) (ix3 d r j)
      = (∑ x : Fin 4096, actOf m c (ix2 x r) * cotOf m c (ix2 x ⟨385 * d.val + j.val, chunk_lt d j⟩) : EReal) := by
  have hN : (Cert.Kernel3Ideal.cfg0.N) = 8 := Cert.Kernel3Ideal.Gen.N_0
  have h7 : 7 < (Cert.Kernel3Ideal.cfg0.N) := by omega
  have e : Cert.Kernel3Ideal.Value.G8 m c = (Cert.Kernel3Ideal.Gen.outsAt0 m c 7 h7).1 :=
    (Cert.Kernel3Ideal.Value.G8_last m c).trans (congrArg Prod.fst (Cert.Kernel3Ideal.Value.outsAt0_sweep m c 7 h7).symm)
  rw [e]
  exact outs_apply m c ⟨7, h7⟩ (by show 7 + 1 = _; omega) d r j

/-- The reference's result. -/
theorem reference_apply (h : FVec Ideal Cert.Reference3Ideal.S4096x1024 .f32) (w : FVec Ideal Cert.Reference3Ideal.S4096x3080 .f32)
    (d : Fin 8) (r : Fin 1024) (j : Fin 385) :
    Cert.Reference3Ideal.Read.val_main_v6 (F := Ideal) h w (ix3 d r j)
      = (∑ x : Fin 4096, h (ix2 x r) * w (ix2 x ⟨385 * d.val + j.val, chunk_lt d j⟩) : EReal) := by
  refine (Cert.Reference3Ideal.Read.val_main_v6_apply (F := Ideal) h w _).trans ?_
  refine (Cert.Reference3Ideal.Read.val_main_v5_apply (F := Ideal) h w _).trans ?_
  refine (Cert.Reference3Ideal.Read.val_main_v4_apply (F := Ideal) h w _).trans ?_
  refine (Cert.Reference3Ideal.Read.val_main_v3_apply (F := Ideal) h w _).trans ?_
  refine (Cert.Reference3Ideal.Read.val_main_v2_apply h w _).trans ?_
  refine Finset.sum_congr rfl fun x _ => ?_
  refine (mul_comm _ _).trans (congrArg₂ (fun a b : EReal => a * b) (congrArg h ?_) (congrArg w ?_))
  · funext a
    match a with
    | ⟨0, _⟩ => rfl
    | ⟨1, _⟩ =>
      refine Fin.ext ?_
      show ((r.val * 8 + d.val) * 385 + j.val) / 3080 = r.val
      have := d.isLt; have := j.isLt
      omega
  · funext a
    match a with
    | ⟨0, _⟩ => rfl
    | ⟨1, _⟩ =>
      refine Fin.ext ?_
      show ((r.val * 8 + d.val) * 385 + j.val) % 3080 = 385 * d.val + j.val
      have := d.isLt; have := j.isLt
      omega

theorem forall_ix3 {a b c : ℕ} {P : (⟨3, ![a, b, c]⟩ : Shape).Idx → Prop} (hP : ∀ i j k, P (ix3 i j k)) (y) : P y := by
  refine (congrArg P (?_ : y = ix3 (y 0) (y 1) (y 2))).mpr (hP _ _ _)
  funext n
  match n with
  | ⟨0, _⟩ => rfl
  | ⟨1, _⟩ => rfl
  | ⟨2, _⟩ => rfl

/-- The frame of the reference. -/
theorem frame_reference (m' : (ℓ : Loc Cert.Reference3Ideal.nD Cert.Reference3Ideal.τ Cert.Reference3Ideal.sig) → Buf (Elt Ideal) ℓ)
    (ρ : Dev Cert.Reference3Ideal.nD → PrngReg) :
    θ_run (Cert.Reference3Ideal.defs (F := Ideal)) (onTc (τ := Cert.Reference3Ideal.τ) (Cert.Reference3Ideal.main (F := Ideal))) ⟨m', fun _ => 0, ρ⟩ (fun r => (∀ c : Dev Cert.Reference3Ideal.nD,
      r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))
      ∧ r.2.sem = fun _ => 0) :=
  (θ_run _ _ _).mono (fun r h => ⟨fun c => (h c).2, sem_eq_zero_of_no_sems (by decide) r.2⟩) (Cert.Reference3Ideal.Value.run m' ρ)

/-- Both programs run to equal results. -/
theorem algebraic : Cert.algebraic_Kernel3Ideal_Reference3Ideal := by
  intro m g m' g' _ hagree
  refine ⟨fun c => Cert.Kernel3Ideal.Value.G8 m c, Cert.Kernel3Ideal.Value.run m g, ?_⟩
  refine (θ_run _ _ _).mono (fun r h c => ⟨(h c).1.trans ?_, (h c).2⟩) (Cert.Reference3Ideal.Value.run m' g')
  obtain ⟨a0, a1⟩ := hagree c
  refine (Cert.Reference3Ideal.Read.val_main_v6_eq (F := Ideal) _ _).trans ?_
  rw [a0, a1]
  exact funext (forall_ix3 fun d r j => (reference_apply _ _ d r j).trans (kernel_apply m c d r j).symm)

end Cert.GradW

end
-- ==== Proof.FwdProj.Arrays.lean ====
/- The norm and the input projection: what a grid point computes, the two arrays in closed form, and the host lines around them. -/
module

public import proofs.«01_k».proof.Proof.GradX.Norm
public import proofs.«01_k».proof.Proof.Gen.Kernel4Ideal.Frame
public import Idealize.ShloMosaic.Lib.Pipeline.ReadBack
public import Idealize.ShloMosaic.Lib.Pipeline.ValueKit
public import Idealize.ShloMosaic.Lib.Pointwise
public import Idealize.ShloMosaic.Lib.IdealHost
public import Idealize.ShloMosaic.Lib.StableHlo.ReadAt

@[expose] public section

set_option maxRecDepth 16384

noncomputable section

namespace Cert.FwdProj

open Idealize.ShloMosaic Idealize.ShloMosaic.TcCoe Idealize.SL.Sem Cert.Kernel4Ideal Cert.Kernel4Ideal.Gen
open Cert.GradX (rowScale rowSquare)

/-- A normed row. -/
def normed (X G : Fin 1024 → EReal) (d : Fin 1024) : EReal := X d * rowScale X * G d

/-! One grid point: its rows normed, and their products with the widened weight's columns. -/

theorem pay1_apply (x : Vec Ideal S256x1024 .f32) (g : Vec Ideal S1x1024 .f32) (p : Fin 256) (d : Fin 1024) :
    k0_pay1 x g (ix2 p d) = normed (fun k => x (ix2 p k)) (fun k => g (ix2 0 k)) d := by
  unfold normed rowScale rowSquare
  pointwise [k0_pay1]

theorem pay2_apply (x : Vec Ideal S256x1024 .f32) (g : Vec Ideal S1x1024 .f32) (w : Vec Ideal S1024x3200 .bf16) (p : Fin 256) (j : Fin 3200) :
    k0_pay2 x g w (ix2 p j) = (∑ k : Fin 1024, normed (fun k => x (ix2 p k)) (fun k => g (ix2 0 k)) k * w (ix2 k j) : EReal) := by
  simp only [← pay1_apply]
  pointwise [k0_pay2]

/-- The row a block's row is in its array. -/
def row (t : Fin cfg0.N) (p : Fin 256) : Fin 4096 :=
  ⟨256 * t.val + p.val, by have h : t.val < 16 := lt_of_lt_of_eq t.isLt N_0; omega⟩

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![t.val, 0] := (by decide +kernel : ∀ t : Fin grid0.N, _)

theorem emb_0 (t : Fin cfg0.N) (p : Fin 256) (j : Fin 1024) : (win0_0.blk t).view.emb (ix2 p j) = ix2 (row t p) j := by
  blk_ext [index_0, row]

theorem emb_1 (t : Fin cfg0.N) (p : Fin 1) (j : Fin 1024) : (win0_1.blk t).view.emb (ix2 p j) = ix2 p j := by
  blk_ext [index_1]

theorem emb_2 (t : Fin cfg0.N) (p : Fin 1024) (j : Fin 3200) : (win0_2.blk t).view.emb (ix2 p j) = ix2 p j := by
  blk_ext [index_2]

theorem emb_3 (t : Fin cfg0.N) (p : Fin 256) (j : Fin 3200) : (win0_3.blk t).view.emb (ix2 p j) = ix2 (row t p) j := by
  blk_ext [index_3, row]

theorem emb_4 (t : Fin cfg0.N) (p : Fin 256) (j : Fin 1024) : (win0_4.blk t).view.emb (ix2 p j) = ix2 (row t p) j := by
  blk_ext [index_4, row]

theorem forall_ix2 {a b : ℕ} {P : (⟨2, ![a, b]⟩ : Shape).Idx → Prop} (hP : ∀ i j, P (ix2 i j)) (y) : P y := by
  refine (congrArg P (?_ : y = ix2 (y 0) (y 1))).mpr (hP _ _)
  funext n
  match n with
  | ⟨0, _⟩ => rfl
  | ⟨1, _⟩ => rfl

variable (m : (ℓ : Loc nD τ sig) → Buf (Elt Ideal) ℓ) (c : Dev nD)

/-- The rows of x, -/
abbrev xOf : FVec Ideal S4096x1024 .f32 := m (c, Proc.tc.devRef main_arg0)

/-- the norm's gain, -/
abbrev gOf : FVec Ideal S1x1024 .f32 := m (c, Proc.tc.devRef main_arg1)

/-- and the projection's weight. -/
abbrev wOf : FVec Ideal S1024x3080 .f32 := m (c, Proc.tc.devRef main_arg2)

/-- The widened weight. -/
abbrev wideOf : FVec Ideal S1024x3200 .bf16 := V m c main_v5

theorem blk_0 (t : Fin cfg0.N) (p : Fin 256) (j : Fin 1024) :
    (iblk m c 0 t : Vec Ideal S256x1024 .f32) (ix2 p j) = xOf m c (ix2 (row t p) j) := by
  unfold iblk
  refine Eq.trans ?_ (congrFun (V_main_arg0 m c) (ix2 (row t p) j))
  generalize V m c = W
  exact congrArg (W main_arg0) (emb_0 t p j)

theorem blk_1 (t : Fin cfg0.N) (p : Fin 1) (j : Fin 1024) :
    (iblk m c 1 t : Vec Ideal S1x1024 .f32) (ix2 p j) = gOf m c (ix2 p j) := by
  unfold iblk
  refine Eq.trans ?_ (congrFun (V_main_arg1 m c) (ix2 p j))
  generalize V m c = W
  exact congrArg (W main_arg1) (emb_1 t p j)

theorem blk_2 (t : Fin cfg0.N) (p : Fin 1024) (j : Fin 3200) :
    (iblk m c 2 t : Vec Ideal S1024x3200 .bf16) (ix2 p j) = wideOf m c (ix2 p j) := by
  unfold iblk wideOf
  generalize V m c = W
  exact congrArg (W main_v5) (emb_2 t p j)

/-- The normed rows, as the kernel keeps them. -/
def normArr : FVec Ideal S4096x1024 .bf16 := fun y =>
  normed (fun k => xOf m c (ix2 (y 0) k)) (fun k => gOf m c (ix2 0 k)) (y 1)

/-- Their products with the widened weight. -/
def wideArr : FVec Ideal S4096x3200 .f32 := fun y =>
  (∑ k : Fin 1024, normed (fun k => xOf m c (ix2 (y 0) k)) (fun k => gOf m c (ix2 0 k)) k * wideOf m c (ix2 k (y 1)) : EReal)

theorem ld_whole (t : Fin cfg0.N) :
    out0_3 (iblk m c 0 t) (iblk m c 1 t) (iblk m c 2 t) = k0_pay2 (iblk m c 0 t) (iblk m c 1 t) (iblk m c 2 t)
      ∧ out0_4 (iblk m c 0 t) (iblk m c 1 t) (iblk m c 2 t) = k0_pay1 (iblk m c 0 t) (iblk m c 1 t) := by
  constructor
  · unfold out0_3
    frame_out
  · unfold out0_4
    frame_out

theorem block_proj (t : Fin cfg0.N) (p : Fin 256) (j : Fin 3200) :
    (out0_3 (iblk m c 0 t) (iblk m c 1 t) (iblk m c 2 t) : Vec Ideal S256x3200 .f32) (ix2 p j)
      = (wideArr m c ((win0_3.blk t).view.emb (ix2 p j)) : EReal) := by
  rw [emb_3, (ld_whole m c t).1]
  refine (pay2_apply _ _ _ p j).trans ?_
  show _ = (∑ k : Fin 1024, normed (fun k => xOf m c (ix2 (row t p) k)) (fun k => gOf m c (ix2 0 k)) k * wideOf m c (ix2 k j) : EReal)
  simp only [blk_0, blk_1, blk_2]

theorem block_norm (t : Fin cfg0.N) (p : Fin 256) (d : Fin 1024) :
    (out0_4 (iblk m c 0 t) (iblk m c 1 t) (iblk m c 2 t) : Vec Ideal S256x1024 .bf16) (ix2 p d)
      = (normArr m c ((win0_4.blk t).view.emb (ix2 p d)) : EReal) := by
  rw [emb_4, (ld_whole m c t).2]
  refine (pay1_apply _ _ p d).trans ?_
  show _ = normed (fun k => xOf m c (ix2 (row t p) k)) (fun k => gOf m c (ix2 0 k)) d
  simp only [blk_0, blk_1]

theorem final_proj : (dats m 0 c).arrAt 3 cfg0.N = wideArr m c :=
  (dats m 0 c).arrAt_eq_of_covers 3 _ (by decide +kernel) fun t hf y => by
    show (dats m 0 c).after 3 t y = wideArr m c ((win0_3.blk t).view.emb y)
    rw [after0_3]
    exact forall_ix2 (P := fun y => (out0_3 (iblk m c 0 t) (iblk m c 1 t) (iblk m c 2 t) : Vec Ideal S256x3200 .f32) y
      = (wideArr m c ((win0_3.blk t).view.emb y) : EReal)) (block_proj m c t) y

theorem final_norm : (dats m 0 c).arrAt 4 cfg0.N = normArr m c :=
  (dats m 0 c).arrAt_eq_of_covers 4 _ (by decide +kernel) fun t hf y => by
    show (dats m 0 c).after 4 t y = normArr m c ((win0_4.blk t).view.emb y)
    rw [after0_4]
    exact forall_ix2 (P := fun y => (out0_4 (iblk m c 0 t) (iblk m c 1 t) (iblk m c 2 t) : Vec Ideal S256x1024 .bf16) y
      = (normArr m c ((win0_4.blk t).view.emb y) : EReal)) (block_norm m c t) y

/-! The host lines: the widened weight before the kernel, the columns' order after it. -/

theorem wide_low (r : Fin 1024) (j : Fin 3200) (hj : j.val < 2048) : wideOf m c (ix2 r j) = wOf m c (ix2 r ⟨j.val, by omega⟩) := by
  unfold wideOf V
  after_reads_at
  rw [dif_pos hj]
  after_reads_at

theorem wide_high (r : Fin 1024) (j : Fin 3200) (hj : 2048 ≤ j.val) (hj' : j.val < 3072) :
    wideOf m c (ix2 r j) = wOf m c (ix2 r ⟨j.val + 8, by omega⟩) := by
  unfold wideOf V
  after_reads_at
  rw [dif_neg (not_lt.2 hj), dif_pos (by omega)]
  after_reads_at
  exact congrArg (fun q => wOf m c (ix2 r q)) (Fin.ext (by show 2056 + (j.val - 2048) = j.val + 8; omega))

theorem wide_lane (r : Fin 1024) (j : Fin 3200) (hj : 3072 ≤ j.val) (hj' : j.val < 3080) :
    wideOf m c (ix2 r j) = wOf m c (ix2 r ⟨j.val - 1024, by omega⟩) := by
  unfold wideOf V
  after_reads_at
  rw [dif_neg (by omega), dif_neg (by omega), dif_pos (by omega)]
  after_reads_at
  exact congrArg (fun q => wOf m c (ix2 r q)) (Fin.ext (by show 2048 + (j.val - 2048 - 1024) = j.val - 1024; omega))

/-- Where a column of the projection is among the widened columns. -/
def colAt (n : Fin 3080) : Fin 3200 :=
  if n.val < 2048 then ⟨n.val, by omega⟩ else if h : n.val < 2056 then ⟨n.val + 1024, by omega⟩ else ⟨n.val - 8, by omega⟩

theorem colAt_low (n : Fin 3080) (h : n.val < 2048) : colAt n = ⟨n.val, by omega⟩ := if_pos h

theorem colAt_mid (n : Fin 3080) (h : ¬n.val < 2048) (h' : n.val < 2056) : colAt n = ⟨n.val + 1024, by omega⟩ :=
  (if_neg h).trans (dif_pos h')

theorem colAt_high (n : Fin 3080) (h : ¬n.val < 2048) (h' : ¬n.val < 2056) : colAt n = ⟨n.val - 8, by omega⟩ :=
  (if_neg h).trans (dif_neg h')

theorem wide_colAt (r : Fin 1024) (n : Fin 3080) : wideOf m c (ix2 r (colAt n)) = wOf m c (ix2 r n) := by
  by_cases h1 : n.val < 2048
  · rw [colAt_low n h1]
    exact wide_low m c r ⟨n.val, by omega⟩ h1
  · by_cases h2 : n.val < 2056
    · rw [colAt_mid n h1 h2, wide_lane m c r ⟨n.val + 1024, by omega⟩ (by show 3072 ≤ n.val + 1024; omega) (by show n.val + 1024 < 3080; omega)]
      exact congrArg (fun q => wOf m c (ix2 r q)) (Fin.ext (by show n.val + 1024 - 1024 = n.val; omega))
    · rw [colAt_high n h1 h2, wide_high m c r ⟨n.val - 8, by omega⟩ (by show 2048 ≤ n.val - 8; omega) (by show n.val - 8 < 3072; omega)]
      exact congrArg (fun q => wOf m c (ix2 r q)) (Fin.ext (by show n.val - 8 + 8 = n.val; omega))

/-- The columns in the projection's own order. -/
def orderOf (Y : FVec Ideal S4096x3200 .f32) : FVec Ideal S4096x3080 .f32 := fun y => Y (ix2 (y 0) (colAt (y 1)))

variable (V1 : Valuation τ sig (Elt Ideal))

theorem tail_at (s : Fin 4096) (n : Fin 3080) :
    (StableHlo.after (List.flatten [hostOps1]) V1 (Proc.devRef .tc main_v10) : FVec Ideal S4096x3080 .f32) (ix2 s n)
      = (V1 (Proc.devRef .tc main_v6_0) : FVec Ideal S4096x3200 .f32) (ix2 s (colAt n)) := by
  after_reads_at
  by_cases h1 : n.val < 2048
  · rw [colAt_low n h1, dif_pos h1]
    after_reads_at
  · rw [dif_neg h1]
    by_cases h2 : n.val < 2056
    · rw [colAt_mid n h1 h2, dif_pos (by omega)]
      after_reads_at
      exact congrArg (fun q => (V1 (Proc.devRef .tc main_v6_0) : FVec Ideal S4096x3200 .f32) (ix2 s q))
        (Fin.ext (by show 3072 + (n.val - 2048) = n.val + 1024; omega))
    · rw [colAt_high n h1 h2, dif_neg (by omega)]
      after_reads_at
      exact congrArg (fun q => (V1 (Proc.devRef .tc main_v6_0) : FVec Ideal S4096x3200 .f32) (ix2 s q))
        (Fin.ext (by show 2048 + (n.val - 2048 - 8) = n.val - 8; omega))

theorem tail_proj : StableHlo.after (List.flatten [hostOps1]) V1 (Proc.devRef .tc main_v10) = orderOf (V1 (Proc.devRef .tc main_v6_0)) :=
  funext (forall_ix2 fun s n => tail_at V1 s n)

theorem arr_injective : Function.Injective (Pipeline.arrRef (sig := sig) spec0) := by decide +kernel

variable (ρ : Dev nD → PrngReg)

/-- The arrays as the host lines after the kernel find them. -/
def left : Valuation τ sig (Elt Ideal) := Pipeline.withArrays (cfgs 0).spec c (V0 m c) fun w => (dats m 0 c).arrAt w (cfgs 0).N

theorem left_proj : left m c (Proc.devRef .tc main_v6_0) = wideArr m c :=
  (Pipeline.withArrays_arr spec0 arr_injective c (V0 m c) (fun w => (dats m 0 c).arrAt w cfg0.N) 3).trans (final_proj m c)

/-- The program runs to the projection in its own order, and to the normed rows. -/
theorem run_values : θ_run defs (onTc (τ := τ) (main (F := Ideal))) ⟨m, fun _ => 0, ρ⟩ (fun r => ∀ c : Dev nD,
      r.2.mem ((c.tc : Thread nD τ).loc main_v10) = orderOf (wideArr m c)
      ∧ r.2.mem ((c.tc : Thread nD τ).loc main_v6_1) = normArr m c) := by
  refine (θ_run defs _ _).mono (fun r h c => ?_) (run_main (F := Ideal) m ρ)
  refine ⟨?_, ?_⟩
  · refine ((h c).2 main_v10 (Pipeline.mem_restRefs_of main_v10 (by decide) (by decide))).trans ?_
    exact (tail_proj (left m c)).trans (congrArg orderOf (left_proj m c))
  · exact ((h c).1 4).trans (final_norm m c)

/-- An element of the projection. -/
theorem order_at (s : Fin 4096) (n : Fin 3080) : orderOf (wideArr m c) (ix2 s n)
    = (∑ k : Fin 1024, normed (fun k => xOf m c (ix2 s k)) (fun k => gOf m c (ix2 0 k)) k * wOf m c (ix2 k n) : EReal) := by
  show (∑ k : Fin 1024, normed (fun k => xOf m c (ix2 s k)) (fun k => gOf m c (ix2 0 k)) k * wideOf m c (ix2 k (colAt n)) : EReal) = _
  exact Finset.sum_congr rfl fun k _ => congrArg₂ (· * ·) rfl (wide_colAt m c k n)

end Cert.FwdProj

end
-- ==== Proof.FwdProj.RefValue.lean ====
/- The plain norm and projection, read at an element. -/
module

public import proofs.«01_k».proof.Proof.FwdProj.Arrays
public import proofs.«01_k».proof.Proof.Gen.Reference4Ideal.Read

@[expose] public section

set_option maxRecDepth 16384

noncomputable section

namespace Cert.FwdProj

open Idealize.ShloMosaic Cert.Reference4Ideal Cert.Reference4Ideal.Gen Cert.Reference4Ideal.Read
open Cert.GradX (rowScale rowSquare)

variable (x : FVec Ideal S4096x1024 .f32) (g : FVec Ideal S1x1024 .f32) (w : FVec Ideal S1024x3080 .f32) (s : Fin 4096)

theorem ref_scale : val_main_v7 (F := Ideal) x (ix2 s 0) = rowScale (fun k => x (ix2 s k)) := by
  unfold rowScale rowSquare
  pointwise [val_main_v7, val_main_v6, val_main_v5, val_main_v4, val_main_v3, val_main_v2, val_main_v1, val_main_v0, val_main_cst, val_main_cst_0, val_main_cst_1]

theorem ref_normed (d : Fin 1024) : val_main_v11 (F := Ideal) x g (ix2 s d) = normed (fun k => x (ix2 s k)) (fun k => g (ix2 0 k)) d := by
  unfold normed
  rw [← ref_scale]
  pointwise [val_main_v11, val_main_v10, val_main_v9, val_main_v8]

theorem ref_kept (d : Fin 1024) : val_main_v13 (F := Ideal) x g (ix2 s d) = normed (fun k => x (ix2 s k)) (fun k => g (ix2 0 k)) d :=
  ref_normed x g s d

theorem ref_proj (n : Fin 3080) : val_main_v12 (F := Ideal) x g w (ix2 s n)
    = (∑ k : Fin 1024, normed (fun k => x (ix2 s k)) (fun k => g (ix2 0 k)) k * w (ix2 k n) : EReal) := by
  simp only [← ref_normed]
  pointwise [val_main_v12]

end Cert.FwdProj

end
-- ==== Proof.FwdProj.Equal.lean ====
/- The kernel of the norm and the projection and the plain ones end with equal results. -/
module

public import proofs.«01_k».proof.Defs
public import proofs.«01_k».proof.Proof.FwdProj.RefValue
public import Idealize.ShloMosaic.Lib.Quiescent

@[expose] public section

set_option maxRecDepth 16384

noncomputable section

namespace Cert.FwdProj

open Idealize.ShloMosaic Idealize.ShloMosaic.TcCoe Idealize.SL.Sem

/-- The frame of the reference. -/
theorem frame_reference (m' : (ℓ : Loc Cert.Reference4Ideal.nD Cert.Reference4Ideal.τ Cert.Reference4Ideal.sig) → Buf (Elt Ideal) ℓ)
    (ρ : Dev Cert.Reference4Ideal.nD → PrngReg) :
    θ_run (Cert.Reference4Ideal.defs (F := Ideal)) (onTc (τ := Cert.Reference4Ideal.τ) (Cert.Reference4Ideal.main (F := Ideal))) ⟨m', fun _ => 0, ρ⟩ (fun r => (∀ c : Dev Cert.Reference4Ideal.nD,
      r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))
      ∧ r.2.sem = fun _ => 0) :=
  (θ_run _ _ _).mono (fun r h => ⟨fun c => (h c).2.2, sem_eq_zero_of_no_sems (by decide) r.2⟩) (Cert.Reference4Ideal.Value.run m' ρ)

variable (m : (ℓ : Loc Cert.Kernel4Ideal.nD Cert.Kernel4Ideal.τ Cert.Kernel4Ideal.sig) → Buf (Elt Ideal) ℓ) (c : Dev Cert.Kernel4Ideal.nD)

/-- The reference's projection is the kernel's. -/
theorem equal_proj : Cert.Reference4Ideal.Read.val_main_v12 (F := Ideal) (xOf m c) (gOf m c) (wOf m c) = orderOf (wideArr m c) :=
  funext (forall_ix2 fun s n => (ref_proj (xOf m c) (gOf m c) (wOf m c) s n).trans (order_at m c s n).symm)

/-- The reference's normed rows are the kernel's. -/
theorem equal_norm : Cert.Reference4Ideal.Read.val_main_v13 (F := Ideal) (xOf m c) (gOf m c) = normArr m c :=
  funext (forall_ix2 fun s d => ref_kept (xOf m c) (gOf m c) s d)

/-- Both programs run to equal results. -/
theorem algebraic : Cert.algebraic_Kernel4Ideal_Reference4Ideal := by
  intro m g m' g' _ hagree
  refine ⟨fun c => orderOf (wideArr m c), fun c => normArr m c, ?_, ?_⟩
  · exact (θ_run _ _ _).mono (fun r h c => ⟨(h.1 c).1, (h.1 c).2, h.2 c⟩)
      (θ_run_and (run_values m g) (Cert.Kernel4Ideal.Gen.unchanged m g))
  · refine (θ_run _ _ _).mono (fun r h c => ⟨(h c).1.trans ?_, (h c).2.1.trans ?_, (h c).2.2⟩) (Cert.Reference4Ideal.Value.run m' g')
    · obtain ⟨a0, a1, a2⟩ := hagree c
      rw [Cert.Reference4Ideal.Read.val_main_v12_eq, a0, a1, a2]
      exact equal_proj m c
    · obtain ⟨a0, a1, a2⟩ := hagree c
      refine (Cert.Reference4Ideal.Read.val_main_v13_eq (F := Ideal) _ _).trans ?_
      rw [a0, a1]
      exact equal_norm m c

end Cert.FwdProj

end
-- ==== Proof.lean ====
module

public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Defs
public import proofs.«01_k».proof.Proof.Gen.Pre_finite
public import proofs.«01_k».proof.Proof.FoxBwd.Printed
public import proofs.«01_k».proof.Proof.FoxBwd.Equal
public import proofs.«01_k».proof.Proof.GradX.Equal
public import proofs.«01_k».proof.Proof.GradW.Equal
public import proofs.«01_k».proof.Proof.FwdProj.Equal

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.Gen.facts,
  fun m ρ _ => Cert.FoxBwd.frame_printed m ρ,
  fun m ρ _ => Cert.FoxBwd.frame m ρ,
  fun m ρ _ => Cert.FoxBwd.frame m ρ,
  fun m ρ _ => Cert.FoxBwd.frame_reference m ρ,
  fun m ρ _ => Cert.FoxBwd.frame_reference m ρ,
  fun m ρ _ => Cert.Kernel2.Gen.frame m ρ,
  fun m ρ _ => Cert.Kernel2Ideal.Gen.frame m ρ,
  fun m ρ _ => Cert.GradX.frame_reference m ρ,
  fun m ρ _ => Cert.Kernel3.Gen.frame m ρ,
  fun m ρ _ => Cert.Kernel3Ideal.Gen.frame m ρ,
  fun m ρ _ => Cert.GradW.frame_reference m ρ,
  fun m ρ _ => Cert.Kernel4.Gen.frame m ρ,
  fun m ρ _ => Cert.Kernel4Ideal.Gen.frame m ρ,
  fun m ρ _ => Cert.FwdProj.frame_reference m ρ,
  IdealRules.named_const.statement Cert.KernelIdeal.κ "mask" .f32 0xF149F2CA#32 ⊥ rfl,
  Cert.FoxBwd.algebraic,
  trivial,
  Cert.GradX.algebraic,
  trivial,
  Cert.GradW.algebraic,
  trivial,
  Cert.FwdProj.algebraic⟩

end Cert.Proof

end
